-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S1024x1024 .bf16) (main_arg1 : FVec F S1024x1024 .bf16) (main_arg2 : FVec F S1024x1024 .bf16) (main_arg3 : FVec F S1024x1024 .bf16) (main_arg4 : FVec F S1024x1024 .bf16) : IVec S1024x1024 1 × IVec S1024x1024 1 × IVec S1024x1024 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg3
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  (main_v3, main_v7, main_v11)
-- ==== Pre_finite_ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  bcast_S_S1024x32768 : S_.BroadcastsInDim S1024x32768 (![] : Fin 0 → Fin S1024x32768.rank)

variable [Facts]

def fn {F : FTy → Type} [FloatOps F] (main_arg0 : FVec F S1024x1024 .bf16) (main_arg1 : FVec F S1024x32768 .bf16) (main_arg2 : FVec F S32768x1024 .bf16) (main_arg3 : FVec F S1024x32768 .bf16) (main_arg4 : FVec F S1024x32768 .bf16) : IVec S1024x1024 1 × IVec S1024x32768 1 × IVec S1024x32768 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1024x32768 .f32 := (extf .f32 · bitsLt_bf16_f32) main_arg1
  let main_v5 : FVec F S1024x32768 .f32 := Host.absf main_v4
  let main_cst_0 : FVec F S_ .f32 := constant S_ .f32 0x7F800000#32
  let main_v6 : FVec F S1024x32768 .f32 := broadcastInDim S1024x32768 ![] bcast_S_S1024x32768 main_cst_0
  let main_v7 : IVec S1024x32768 1 := cmpf .olt main_v5 main_v6
  let main_v8 : FVec F S1024x32768 .f32 := (extf .f32 · bitsLt_bf16_f32) main_arg3
  let main_v9 : FVec F S1024x32768 .f32 := Host.absf main_v8
  let main_cst_1 : FVec F S_ .f32 := constant S_ .f32 0x7F800000#32
  let main_v10 : FVec F S1024x32768 .f32 := broadcastInDim S1024x32768 ![] bcast_S_S1024x32768 main_cst_1
  let main_v11 : IVec S1024x32768 1 := cmpf .olt main_v9 main_v10
  (main_v3, main_v7, main_v11)
-- ==== Kernel.lean ====
abbrev S1024x1024 : Shape := ⟨2, ![1024, 1024]⟩
abbrev S512x256 : Shape := ⟨2, ![512, 256]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S20 : Shape := ⟨1, ![20]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S_ : Shape := ⟨0, ![]⟩
abbrev S1 : Shape := ⟨1, ![1]⟩

abbrev nBuf : Space → Nat
  | .hbm => 6
  | .vmem => 47
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S512x256, .bf16⟩
  | .local _ .vmem, ⟨8, _⟩ => ⟨S256x256, .bf16⟩
  | .local _ .vmem, ⟨9, _⟩ => ⟨S128x256, .bf16⟩
  | .local _ .vmem, ⟨10, _⟩ => ⟨S64x256, .bf16⟩
  | .local _ .vmem, ⟨11, _⟩ => ⟨S32x256, .bf16⟩
  | .local _ .vmem, ⟨12, _⟩ => ⟨S512x256, .bf16⟩
  | .local _ .vmem, ⟨13, _⟩ => ⟨S256x256, .bf16⟩
  | .local _ .vmem, ⟨14, _⟩ => ⟨S128x256, .bf16⟩
  | .local _ .vmem, ⟨15, _⟩ => ⟨S64x256, .bf16⟩
  | .local _ .vmem, ⟨16, _⟩ => ⟨S32x256, .bf16⟩
  | .local _ .vmem, ⟨17, _⟩ => ⟨S512x256, .bf16⟩
  | .local _ .vmem, ⟨18, _⟩ => ⟨S256x256, .bf16⟩
  | .local _ .vmem, ⟨19, _⟩ => ⟨S128x256, .bf16⟩
  | .local _ .vmem, ⟨20, _⟩ => ⟨S64x256, .bf16⟩
  | .local _ .vmem, ⟨21, _⟩ => ⟨S32x256, .bf16⟩
  | .local _ .vmem, ⟨22, _⟩ => ⟨S512x256, .bf16⟩
  | .local _ .vmem, ⟨23, _⟩ => ⟨S256x256, .bf16⟩
  | .local _ .vmem, ⟨24, _⟩ => ⟨S128x256, .bf16⟩
  | .local _ .vmem, ⟨25, _⟩ => ⟨S64x256, .bf16⟩
  | .local _ .vmem, ⟨26, _⟩ => ⟨S32x256, .bf16⟩
  | .local _ .vmem, ⟨27, _⟩ => ⟨S512x256, .bf16⟩
  | .local _ .vmem, ⟨28, _⟩ => ⟨S256x256, .bf16⟩
  | .local _ .vmem, ⟨29, _⟩ => ⟨S128x256, .bf16⟩
  | .local _ .vmem, ⟨30, _⟩ => ⟨S64x256, .bf16⟩
  | .local _ .vmem, ⟨31, _⟩ => ⟨S32x256, .bf16⟩
  | .local _ .vmem, ⟨32, _⟩ => ⟨S512x256, .bf16⟩
  | .local _ .vmem, ⟨33, _⟩ => ⟨S256x256, .bf16⟩
  | .local _ .vmem, ⟨34, _⟩ => ⟨S128x256, .bf16⟩
  | .local _ .vmem, ⟨35, _⟩ => ⟨S64x256, .bf16⟩
  | .local _ .vmem, ⟨36, _⟩ => ⟨S32x256, .bf16⟩
  | .local _ .vmem, ⟨37, _⟩ => ⟨S512x256, .bf16⟩
  | .local _ .vmem, ⟨38, _⟩ => ⟨S256x256, .bf16⟩
  | .local _ .vmem, ⟨39, _⟩ => ⟨S128x256, .bf16⟩
  | .local _ .vmem, ⟨40, _⟩ => ⟨S64x256, .bf16⟩
  | .local _ .vmem, ⟨41, _⟩ => ⟨S32x256, .bf16⟩
  | .local _ .vmem, ⟨42, _⟩ => ⟨S512x256, .bf16⟩
  | .local _ .vmem, ⟨43, _⟩ => ⟨S256x256, .bf16⟩
  | .local _ .vmem, ⟨44, _⟩ => ⟨S128x256, .bf16⟩
  | .local _ .vmem, ⟨45, _⟩ => ⟨S64x256, .bf16⟩
  | .local _ .vmem, ⟨46, _⟩ => ⟨S32x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 2 → Bool
  | ⟨0, _⟩ => false
  | ⟨1, _⟩ => true
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 2 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_scratch24 : Ref sig .tc := ⟨.vmem, 30, rfl⟩
abbrev cc0_scratch25 : Ref sig .tc := ⟨.vmem, 31, rfl⟩
abbrev cc0_scratch26 : Ref sig .tc := ⟨.vmem, 32, rfl⟩
abbrev cc0_scratch27 : Ref sig .tc := ⟨.vmem, 33, rfl⟩
abbrev cc0_scratch28 : Ref sig .tc := ⟨.vmem, 34, rfl⟩
abbrev cc0_scratch29 : Ref sig .tc := ⟨.vmem, 35, rfl⟩
abbrev cc0_scratch30 : Ref sig .tc := ⟨.vmem, 36, rfl⟩
abbrev cc0_scratch31 : Ref sig .tc := ⟨.vmem, 37, rfl⟩
abbrev cc0_scratch32 : Ref sig .tc := ⟨.vmem, 38, rfl⟩
abbrev cc0_scratch33 : Ref sig .tc := ⟨.vmem, 39, rfl⟩
abbrev cc0_scratch34 : Ref sig .tc := ⟨.vmem, 40, rfl⟩
abbrev cc0_scratch35 : Ref sig .tc := ⟨.vmem, 41, rfl⟩
abbrev cc0_scratch36 : Ref sig .tc := ⟨.vmem, 42, rfl⟩
abbrev cc0_scratch37 : Ref sig .tc := ⟨.vmem, 43, rfl⟩
abbrev cc0_scratch38 : Ref sig .tc := ⟨.vmem, 44, rfl⟩
abbrev cc0_scratch39 : Ref sig .tc := ⟨.vmem, 45, rfl⟩
abbrev cc0_scratch40 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_418 : BitVec 32 := 1#32
  let v1047 : BitVec 32 := Scalar.muli v91 c1_i32_418
  let v1048 : BitVec 32 := Scalar.addi c0_i32_419 v1047
  v1048.toNat
def k0_dev2 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_421 : BitVec 32 := 1#32
  let v1049 : BitVec 32 := Scalar.muli v136 c1_i32_421
  let v1050 : BitVec 32 := Scalar.addi c0_i32_422 v1049
  v1050.toNat
def k0_dev3 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_424 : BitVec 32 := 1#32
  let v1051 : BitVec 32 := Scalar.muli v181 c1_i32_424
  let v1052 : BitVec 32 := Scalar.addi c0_i32_425 v1051
  v1052.toNat
def k0_dev4 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_427 : BitVec 32 := 1#32
  let v1053 : BitVec 32 := Scalar.muli v226 c1_i32_427
  let v1054 : BitVec 32 := Scalar.addi c0_i32_428 v1053
  v1054.toNat
def k0_dev5 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_430 : BitVec 32 := 1#32
  let v1055 : BitVec 32 := Scalar.muli v271 c1_i32_430
  let v1056 : BitVec 32 := Scalar.addi c0_i32_431 v1055
  v1056.toNat
def k0_off1 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_433 : BitVec 32 := 0#32
  let v1058 : BitVec 1 := Scalar.cmpi .sgt v281 c0_i32_433
  let v1059 : BitVec 32 := Scalar.extui v1058
  let c0_i32_434 : BitVec 32 := 0#32
  let v1060 : BitVec 1 := Scalar.cmpi .slt v281 c0_i32_434
  let v1061 : BitVec 32 := Scalar.extui v1060
  let v1062 : BitVec 32 := Scalar.subi v1059 v1061
  let c32_i32_432 : BitVec 32 := 32#32
  let c0_i32_435 : BitVec 32 := 0#32
  let v1063 : BitVec 1 := Scalar.cmpi .sgt c32_i32_432 c0_i32_435
  let v1064 : BitVec 32 := Scalar.extui v1063
  let c0_i32_436 : BitVec 32 := 0#32
  let v1065 : BitVec 1 := Scalar.cmpi .slt c32_i32_432 c0_i32_436
  let v1066 : BitVec 32 := Scalar.extui v1065
  let v1067 : BitVec 32 := Scalar.subi v1064 v1066
  let v1068 : BitVec 1 := Scalar.cmpi .ne v1062 v1067
  let v1069 : BitVec 32 := Scalar.remsi v281 c32_i32_432
  let c0_i32_437 : BitVec 32 := 0#32
  let v1070 : BitVec 1 := Scalar.cmpi .ne v1069 c0_i32_437
  let v1071 : BitVec 1 := Scalar.andi v1068 v1070
  let v1057 : BitVec 32 := Scalar.divsi v281 c32_i32_432
  let c1_i32_438 : BitVec 32 := 1#32
  let v1072 : BitVec 32 := Scalar.subi v1057 c1_i32_438
  let v1073 : BitVec 32 := Scalar.select v1071 v1072 v1057
  let c32_i32_439 : BitVec 32 := 32#32
  let v1074 : BitVec 32 := Scalar.muli v1073 c32_i32_439
  let c1_i32_440 : BitVec 32 := 1#32
  let v1075 : BitVec 32 := Scalar.subi c1_i32_440 v40
  let c16_i32_441 : BitVec 32 := 16#32
  let v1076 : BitVec 32 := Scalar.muli v1075 c16_i32_441
  let v1077 : BitVec 32 := Scalar.addi v1074 v1076
  let c32_i32_442 : BitVec 32 := 32#32
  let v1078 : BitVec 32 := Scalar.muli v1077 c32_i32_442
  let v1079 : Index := Scalar.indexCast v1078
  let c0_443 : Index := 0#32
  ![v1079.toNat, 0]
def k0_dev6 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_448 : BitVec 32 := 1#32
  let v1085 : BitVec 32 := Scalar.muli v91 c1_i32_448
  let v1086 : BitVec 32 := Scalar.addi c0_i32_449 v1085
  v1086.toNat
def k0_off2 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_451 : BitVec 32 := 0#32
  let v1092 : BitVec 1 := Scalar.cmpi .sgt v291 c0_i32_451
  let v1093 : BitVec 32 := Scalar.extui v1092
  let c0_i32_452 : BitVec 32 := 0#32
  let v1094 : BitVec 1 := Scalar.cmpi .slt v291 c0_i32_452
  let v1095 : BitVec 32 := Scalar.extui v1094
  let v1096 : BitVec 32 := Scalar.subi v1093 v1095
  let c32_i32_450 : BitVec 32 := 32#32
  let c0_i32_453 : BitVec 32 := 0#32
  let v1097 : BitVec 1 := Scalar.cmpi .sgt c32_i32_450 c0_i32_453
  let v1098 : BitVec 32 := Scalar.extui v1097
  let c0_i32_454 : BitVec 32 := 0#32
  let v1099 : BitVec 1 := Scalar.cmpi .slt c32_i32_450 c0_i32_454
  let v1100 : BitVec 32 := Scalar.extui v1099
  let v1101 : BitVec 32 := Scalar.subi v1098 v1100
  let v1102 : BitVec 1 := Scalar.cmpi .ne v1096 v1101
  let v1103 : BitVec 32 := Scalar.remsi v291 c32_i32_450
  let c0_i32_455 : BitVec 32 := 0#32
  let v1104 : BitVec 1 := Scalar.cmpi .ne v1103 c0_i32_455
  let v1105 : BitVec 1 := Scalar.andi v1102 v1104
  let v1091 : BitVec 32 := Scalar.divsi v291 c32_i32_450
  let c1_i32_456 : BitVec 32 := 1#32
  let v1106 : BitVec 32 := Scalar.subi v1091 c1_i32_456
  let v1107 : BitVec 32 := Scalar.select v1105 v1106 v1091
  let c32_i32_457 : BitVec 32 := 32#32
  let v1108 : BitVec 32 := Scalar.muli v1107 c32_i32_457
  let c1_i32_458 : BitVec 32 := 1#32
  let v1109 : BitVec 32 := Scalar.subi c1_i32_458 v41
  let c16_i32_459 : BitVec 32 := 16#32
  let v1110 : BitVec 32 := Scalar.muli v1109 c16_i32_459
  let v1111 : BitVec 32 := Scalar.addi v1108 v1110
  let c32_i32_460 : BitVec 32 := 32#32
  let v1112 : BitVec 32 := Scalar.muli v1111 c32_i32_460
  let v1113 : Index := Scalar.indexCast v1112
  let c256_461 : Index := 256#32
  ![v1113.toNat, 256]
def k0_dev7 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_466 : BitVec 32 := 1#32
  let v1119 : BitVec 32 := Scalar.muli v136 c1_i32_466
  let v1120 : BitVec 32 := Scalar.addi c0_i32_467 v1119
  v1120.toNat
def k0_off3 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_469 : BitVec 32 := 0#32
  let v1126 : BitVec 1 := Scalar.cmpi .sgt v301 c0_i32_469
  let v1127 : BitVec 32 := Scalar.extui v1126
  let c0_i32_470 : BitVec 32 := 0#32
  let v1128 : BitVec 1 := Scalar.cmpi .slt v301 c0_i32_470
  let v1129 : BitVec 32 := Scalar.extui v1128
  let v1130 : BitVec 32 := Scalar.subi v1127 v1129
  let c32_i32_468 : BitVec 32 := 32#32
  let c0_i32_471 : BitVec 32 := 0#32
  let v1131 : BitVec 1 := Scalar.cmpi .sgt c32_i32_468 c0_i32_471
  let v1132 : BitVec 32 := Scalar.extui v1131
  let c0_i32_472 : BitVec 32 := 0#32
  let v1133 : BitVec 1 := Scalar.cmpi .slt c32_i32_468 c0_i32_472
  let v1134 : BitVec 32 := Scalar.extui v1133
  let v1135 : BitVec 32 := Scalar.subi v1132 v1134
  let v1136 : BitVec 1 := Scalar.cmpi .ne v1130 v1135
  let v1137 : BitVec 32 := Scalar.remsi v301 c32_i32_468
  let c0_i32_473 : BitVec 32 := 0#32
  let v1138 : BitVec 1 := Scalar.cmpi .ne v1137 c0_i32_473
  let v1139 : BitVec 1 := Scalar.andi v1136 v1138
  let v1125 : BitVec 32 := Scalar.divsi v301 c32_i32_468
  let c1_i32_474 : BitVec 32 := 1#32
  let v1140 : BitVec 32 := Scalar.subi v1125 c1_i32_474
  let v1141 : BitVec 32 := Scalar.select v1139 v1140 v1125
  let c32_i32_475 : BitVec 32 := 32#32
  let v1142 : BitVec 32 := Scalar.muli v1141 c32_i32_475
  let c1_i32_476 : BitVec 32 := 1#32
  let v1143 : BitVec 32 := Scalar.subi c1_i32_476 v42
  let c16_i32_477 : BitVec 32 := 16#32
  let v1144 : BitVec 32 := Scalar.muli v1143 c16_i32_477
  let v1145 : BitVec 32 := Scalar.addi v1142 v1144
  let c32_i32_478 : BitVec 32 := 32#32
  let v1146 : BitVec 32 := Scalar.muli v1145 c32_i32_478
  let v1147 : Index := Scalar.indexCast v1146
  let c512_479 : Index := 512#32
  ![v1147.toNat, 512]
def k0_dev8 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_483 : BitVec 32 := 1#32
  let v1153 : BitVec 32 := Scalar.muli v181 c1_i32_483
  let v1154 : BitVec 32 := Scalar.addi c0_i32_484 v1153
  v1154.toNat
def k0_off4 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_486 : BitVec 32 := 0#32
  let v1160 : BitVec 1 := Scalar.cmpi .sgt v311 c0_i32_486
  let v1161 : BitVec 32 := Scalar.extui v1160
  let c0_i32_487 : BitVec 32 := 0#32
  let v1162 : BitVec 1 := Scalar.cmpi .slt v311 c0_i32_487
  let v1163 : BitVec 32 := Scalar.extui v1162
  let v1164 : BitVec 32 := Scalar.subi v1161 v1163
  let c32_i32_485 : BitVec 32 := 32#32
  let c0_i32_488 : BitVec 32 := 0#32
  let v1165 : BitVec 1 := Scalar.cmpi .sgt c32_i32_485 c0_i32_488
  let v1166 : BitVec 32 := Scalar.extui v1165
  let c0_i32_489 : BitVec 32 := 0#32
  let v1167 : BitVec 1 := Scalar.cmpi .slt c32_i32_485 c0_i32_489
  let v1168 : BitVec 32 := Scalar.extui v1167
  let v1169 : BitVec 32 := Scalar.subi v1166 v1168
  let v1170 : BitVec 1 := Scalar.cmpi .ne v1164 v1169
  let v1171 : BitVec 32 := Scalar.remsi v311 c32_i32_485
  let c0_i32_490 : BitVec 32 := 0#32
  let v1172 : BitVec 1 := Scalar.cmpi .ne v1171 c0_i32_490
  let v1173 : BitVec 1 := Scalar.andi v1170 v1172
  let v1159 : BitVec 32 := Scalar.divsi v311 c32_i32_485
  let c1_i32_491 : BitVec 32 := 1#32
  let v1174 : BitVec 32 := Scalar.subi v1159 c1_i32_491
  let v1175 : BitVec 32 := Scalar.select v1173 v1174 v1159
  let c32_i32_492 : BitVec 32 := 32#32
  let v1176 : BitVec 32 := Scalar.muli v1175 c32_i32_492
  let c1_i32_493 : BitVec 32 := 1#32
  let v1177 : BitVec 32 := Scalar.subi c1_i32_493 v44
  let c16_i32_494 : BitVec 32 := 16#32
  let v1178 : BitVec 32 := Scalar.muli v1177 c16_i32_494
  let v1179 : BitVec 32 := Scalar.addi v1176 v1178
  let c32_i32_495 : BitVec 32 := 32#32
  let v1180 : BitVec 32 := Scalar.muli v1179 c32_i32_495
  let v1181 : Index := Scalar.indexCast v1180
  let c768_496 : Index := 768#32
  ![v1181.toNat, 768]
def k0_dev9 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_500 : BitVec 32 := 1#32
  let v1187 : BitVec 32 := Scalar.muli v226 c1_i32_500
  let v1188 : BitVec 32 := Scalar.addi c0_i32_501 v1187
  v1188.toNat
def k0_off5 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_503 : BitVec 32 := 0#32
  let v1194 : BitVec 1 := Scalar.cmpi .sgt v281 c0_i32_503
  let v1195 : BitVec 32 := Scalar.extui v1194
  let c0_i32_504 : BitVec 32 := 0#32
  let v1196 : BitVec 1 := Scalar.cmpi .slt v281 c0_i32_504
  let v1197 : BitVec 32 := Scalar.extui v1196
  let v1198 : BitVec 32 := Scalar.subi v1195 v1197
  let c32_i32_502 : BitVec 32 := 32#32
  let c0_i32_505 : BitVec 32 := 0#32
  let v1199 : BitVec 1 := Scalar.cmpi .sgt c32_i32_502 c0_i32_505
  let v1200 : BitVec 32 := Scalar.extui v1199
  let c0_i32_506 : BitVec 32 := 0#32
  let v1201 : BitVec 1 := Scalar.cmpi .slt c32_i32_502 c0_i32_506
  let v1202 : BitVec 32 := Scalar.extui v1201
  let v1203 : BitVec 32 := Scalar.subi v1200 v1202
  let v1204 : BitVec 1 := Scalar.cmpi .ne v1198 v1203
  let v1205 : BitVec 32 := Scalar.remsi v281 c32_i32_502
  let c0_i32_507 : BitVec 32 := 0#32
  let v1206 : BitVec 1 := Scalar.cmpi .ne v1205 c0_i32_507
  let v1207 : BitVec 1 := Scalar.andi v1204 v1206
  let v1193 : BitVec 32 := Scalar.divsi v281 c32_i32_502
  let c1_i32_508 : BitVec 32 := 1#32
  let v1208 : BitVec 32 := Scalar.subi v1193 c1_i32_508
  let v1209 : BitVec 32 := Scalar.select v1207 v1208 v1193
  let c32_i32_509 : BitVec 32 := 32#32
  let v1210 : BitVec 32 := Scalar.muli v1209 c32_i32_509
  let c16_i32_510 : BitVec 32 := 16#32
  let v1211 : BitVec 32 := Scalar.muli v40 c16_i32_510
  let v1212 : BitVec 32 := Scalar.addi v1210 v1211
  let c32_i32_511 : BitVec 32 := 32#32
  let v1213 : BitVec 32 := Scalar.muli v1212 c32_i32_511
  let v1220 : Index := Scalar.indexCast v1213
  let c0_519 : Index := 0#32
  ![v1220.toNat, 0]
def k0_off6 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_524 : BitVec 32 := 0#32
  let v1230 : BitVec 1 := Scalar.cmpi .sgt v291 c0_i32_524
  let v1231 : BitVec 32 := Scalar.extui v1230
  let c0_i32_525 : BitVec 32 := 0#32
  let v1232 : BitVec 1 := Scalar.cmpi .slt v291 c0_i32_525
  let v1233 : BitVec 32 := Scalar.extui v1232
  let v1234 : BitVec 32 := Scalar.subi v1231 v1233
  let c32_i32_523 : BitVec 32 := 32#32
  let c0_i32_526 : BitVec 32 := 0#32
  let v1235 : BitVec 1 := Scalar.cmpi .sgt c32_i32_523 c0_i32_526
  let v1236 : BitVec 32 := Scalar.extui v1235
  let c0_i32_527 : BitVec 32 := 0#32
  let v1237 : BitVec 1 := Scalar.cmpi .slt c32_i32_523 c0_i32_527
  let v1238 : BitVec 32 := Scalar.extui v1237
  let v1239 : BitVec 32 := Scalar.subi v1236 v1238
  let v1240 : BitVec 1 := Scalar.cmpi .ne v1234 v1239
  let v1241 : BitVec 32 := Scalar.remsi v291 c32_i32_523
  let c0_i32_528 : BitVec 32 := 0#32
  let v1242 : BitVec 1 := Scalar.cmpi .ne v1241 c0_i32_528
  let v1243 : BitVec 1 := Scalar.andi v1240 v1242
  let v1229 : BitVec 32 := Scalar.divsi v291 c32_i32_523
  let c1_i32_529 : BitVec 32 := 1#32
  let v1244 : BitVec 32 := Scalar.subi v1229 c1_i32_529
  let v1245 : BitVec 32 := Scalar.select v1243 v1244 v1229
  let c32_i32_530 : BitVec 32 := 32#32
  let v1246 : BitVec 32 := Scalar.muli v1245 c32_i32_530
  let c16_i32_531 : BitVec 32 := 16#32
  let v1247 : BitVec 32 := Scalar.muli v41 c16_i32_531
  let v1248 : BitVec 32 := Scalar.addi v1246 v1247
  let c32_i32_532 : BitVec 32 := 32#32
  let v1249 : BitVec 32 := Scalar.muli v1248 c32_i32_532
  let v1256 : Index := Scalar.indexCast v1249
  let c256_540 : Index := 256#32
  ![v1256.toNat, 256]
def k0_off7 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_545 : BitVec 32 := 0#32
  let v1266 : BitVec 1 := Scalar.cmpi .sgt v301 c0_i32_545
  let v1267 : BitVec 32 := Scalar.extui v1266
  let c0_i32_546 : BitVec 32 := 0#32
  let v1268 : BitVec 1 := Scalar.cmpi .slt v301 c0_i32_546
  let v1269 : BitVec 32 := Scalar.extui v1268
  let v1270 : BitVec 32 := Scalar.subi v1267 v1269
  let c32_i32_544 : BitVec 32 := 32#32
  let c0_i32_547 : BitVec 32 := 0#32
  let v1271 : BitVec 1 := Scalar.cmpi .sgt c32_i32_544 c0_i32_547
  let v1272 : BitVec 32 := Scalar.extui v1271
  let c0_i32_548 : BitVec 32 := 0#32
  let v1273 : BitVec 1 := Scalar.cmpi .slt c32_i32_544 c0_i32_548
  let v1274 : BitVec 32 := Scalar.extui v1273
  let v1275 : BitVec 32 := Scalar.subi v1272 v1274
  let v1276 : BitVec 1 := Scalar.cmpi .ne v1270 v1275
  let v1277 : BitVec 32 := Scalar.remsi v301 c32_i32_544
  let c0_i32_549 : BitVec 32 := 0#32
  let v1278 : BitVec 1 := Scalar.cmpi .ne v1277 c0_i32_549
  let v1279 : BitVec 1 := Scalar.andi v1276 v1278
  let v1265 : BitVec 32 := Scalar.divsi v301 c32_i32_544
  let c1_i32_550 : BitVec 32 := 1#32
  let v1280 : BitVec 32 := Scalar.subi v1265 c1_i32_550
  let v1281 : BitVec 32 := Scalar.select v1279 v1280 v1265
  let c32_i32_551 : BitVec 32 := 32#32
  let v1282 : BitVec 32 := Scalar.muli v1281 c32_i32_551
  let c16_i32_552 : BitVec 32 := 16#32
  let v1283 : BitVec 32 := Scalar.muli v42 c16_i32_552
  let v1284 : BitVec 32 := Scalar.addi v1282 v1283
  let c32_i32_553 : BitVec 32 := 32#32
  let v1285 : BitVec 32 := Scalar.muli v1284 c32_i32_553
  let v1292 : Index := Scalar.indexCast v1285
  let c512_561 : Index := 512#32
  ![v1292.toNat, 512]
def k0_off8 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_566 : BitVec 32 := 0#32
  let v1302 : BitVec 1 := Scalar.cmpi .sgt v311 c0_i32_566
  let v1303 : BitVec 32 := Scalar.extui v1302
  let c0_i32_567 : BitVec 32 := 0#32
  let v1304 : BitVec 1 := Scalar.cmpi .slt v311 c0_i32_567
  let v1305 : BitVec 32 := Scalar.extui v1304
  let v1306 : BitVec 32 := Scalar.subi v1303 v1305
  let c32_i32_565 : BitVec 32 := 32#32
  let c0_i32_568 : BitVec 32 := 0#32
  let v1307 : BitVec 1 := Scalar.cmpi .sgt c32_i32_565 c0_i32_568
  let v1308 : BitVec 32 := Scalar.extui v1307
  let c0_i32_569 : BitVec 32 := 0#32
  let v1309 : BitVec 1 := Scalar.cmpi .slt c32_i32_565 c0_i32_569
  let v1310 : BitVec 32 := Scalar.extui v1309
  let v1311 : BitVec 32 := Scalar.subi v1308 v1310
  let v1312 : BitVec 1 := Scalar.cmpi .ne v1306 v1311
  let v1313 : BitVec 32 := Scalar.remsi v311 c32_i32_565
  let c0_i32_570 : BitVec 32 := 0#32
  let v1314 : BitVec 1 := Scalar.cmpi .ne v1313 c0_i32_570
  let v1315 : BitVec 1 := Scalar.andi v1312 v1314
  let v1301 : BitVec 32 := Scalar.divsi v311 c32_i32_565
  let c1_i32_571 : BitVec 32 := 1#32
  let v1316 : BitVec 32 := Scalar.subi v1301 c1_i32_571
  let v1317 : BitVec 32 := Scalar.select v1315 v1316 v1301
  let c32_i32_572 : BitVec 32 := 32#32
  let v1318 : BitVec 32 := Scalar.muli v1317 c32_i32_572
  let c16_i32_573 : BitVec 32 := 16#32
  let v1319 : BitVec 32 := Scalar.muli v44 c16_i32_573
  let v1320 : BitVec 32 := Scalar.addi v1318 v1319
  let c32_i32_574 : BitVec 32 := 32#32
  let v1321 : BitVec 32 := Scalar.muli v1320 c32_i32_574
  let v1328 : Index := Scalar.indexCast v1321
  let c768_582 : Index := 768#32
  ![v1328.toNat, 768]
def k0_off9 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_587 : BitVec 32 := 0#32
  let v1338 : BitVec 1 := Scalar.cmpi .sgt v281 c0_i32_587
  let v1339 : BitVec 32 := Scalar.extui v1338
  let c0_i32_588 : BitVec 32 := 0#32
  let v1340 : BitVec 1 := Scalar.cmpi .slt v281 c0_i32_588
  let v1341 : BitVec 32 := Scalar.extui v1340
  let v1342 : BitVec 32 := Scalar.subi v1339 v1341
  let c16_i32_586 : BitVec 32 := 16#32
  let c0_i32_589 : BitVec 32 := 0#32
  let v1343 : BitVec 1 := Scalar.cmpi .sgt c16_i32_586 c0_i32_589
  let v1344 : BitVec 32 := Scalar.extui v1343
  let c0_i32_590 : BitVec 32 := 0#32
  let v1345 : BitVec 1 := Scalar.cmpi .slt c16_i32_586 c0_i32_590
  let v1346 : BitVec 32 := Scalar.extui v1345
  let v1347 : BitVec 32 := Scalar.subi v1344 v1346
  let v1348 : BitVec 1 := Scalar.cmpi .ne v1342 v1347
  let v1349 : BitVec 32 := Scalar.remsi v281 c16_i32_586
  let c0_i32_591 : BitVec 32 := 0#32
  let v1350 : BitVec 1 := Scalar.cmpi .ne v1349 c0_i32_591
  let v1351 : BitVec 1 := Scalar.andi v1348 v1350
  let v1337 : BitVec 32 := Scalar.divsi v281 c16_i32_586
  let c1_i32_592 : BitVec 32 := 1#32
  let v1352 : BitVec 32 := Scalar.subi v1337 c1_i32_592
  let v1353 : BitVec 32 := Scalar.select v1351 v1352 v1337
  let c16_i32_593 : BitVec 32 := 16#32
  let v1354 : BitVec 32 := Scalar.muli v1353 c16_i32_593
  let c1_i32_594 : BitVec 32 := 1#32
  let v1355 : BitVec 32 := Scalar.subi c1_i32_594 v41
  let c8_i32_595 : BitVec 32 := 8#32
  let v1356 : BitVec 32 := Scalar.muli v1355 c8_i32_595
  let v1357 : BitVec 32 := Scalar.addi v1354 v1356
  let c32_i32_596 : BitVec 32 := 32#32
  let v1358 : BitVec 32 := Scalar.muli v1357 c32_i32_596
  let v1359 : Index := Scalar.indexCast v1358
  let c0_597 : Index := 0#32
  ![v1359.toNat, 0]
def k0_dev10 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_602 : BitVec 32 := 1#32
  let v1365 : BitVec 32 := Scalar.muli v136 c1_i32_602
  let v1366 : BitVec 32 := Scalar.addi c0_i32_603 v1365
  v1366.toNat
def k0_off10 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_605 : BitVec 32 := 0#32
  let v1372 : BitVec 1 := Scalar.cmpi .sgt v291 c0_i32_605
  let v1373 : BitVec 32 := Scalar.extui v1372
  let c0_i32_606 : BitVec 32 := 0#32
  let v1374 : BitVec 1 := Scalar.cmpi .slt v291 c0_i32_606
  let v1375 : BitVec 32 := Scalar.extui v1374
  let v1376 : BitVec 32 := Scalar.subi v1373 v1375
  let c16_i32_604 : BitVec 32 := 16#32
  let c0_i32_607 : BitVec 32 := 0#32
  let v1377 : BitVec 1 := Scalar.cmpi .sgt c16_i32_604 c0_i32_607
  let v1378 : BitVec 32 := Scalar.extui v1377
  let c0_i32_608 : BitVec 32 := 0#32
  let v1379 : BitVec 1 := Scalar.cmpi .slt c16_i32_604 c0_i32_608
  let v1380 : BitVec 32 := Scalar.extui v1379
  let v1381 : BitVec 32 := Scalar.subi v1378 v1380
  let v1382 : BitVec 1 := Scalar.cmpi .ne v1376 v1381
  let v1383 : BitVec 32 := Scalar.remsi v291 c16_i32_604
  let c0_i32_609 : BitVec 32 := 0#32
  let v1384 : BitVec 1 := Scalar.cmpi .ne v1383 c0_i32_609
  let v1385 : BitVec 1 := Scalar.andi v1382 v1384
  let v1371 : BitVec 32 := Scalar.divsi v291 c16_i32_604
  let c1_i32_610 : BitVec 32 := 1#32
  let v1386 : BitVec 32 := Scalar.subi v1371 c1_i32_610
  let v1387 : BitVec 32 := Scalar.select v1385 v1386 v1371
  let c16_i32_611 : BitVec 32 := 16#32
  let v1388 : BitVec 32 := Scalar.muli v1387 c16_i32_611
  let c1_i32_612 : BitVec 32 := 1#32
  let v1389 : BitVec 32 := Scalar.subi c1_i32_612 v42
  let c8_i32_613 : BitVec 32 := 8#32
  let v1390 : BitVec 32 := Scalar.muli v1389 c8_i32_613
  let v1391 : BitVec 32 := Scalar.addi v1388 v1390
  let c32_i32_614 : BitVec 32 := 32#32
  let v1392 : BitVec 32 := Scalar.muli v1391 c32_i32_614
  let v1393 : Index := Scalar.indexCast v1392
  let c256_615 : Index := 256#32
  ![v1393.toNat, 256]
def k0_dev11 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_619 : BitVec 32 := 1#32
  let v1399 : BitVec 32 := Scalar.muli v181 c1_i32_619
  let v1400 : BitVec 32 := Scalar.addi c0_i32_620 v1399
  v1400.toNat
def k0_off11 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_622 : BitVec 32 := 0#32
  let v1406 : BitVec 1 := Scalar.cmpi .sgt v301 c0_i32_622
  let v1407 : BitVec 32 := Scalar.extui v1406
  let c0_i32_623 : BitVec 32 := 0#32
  let v1408 : BitVec 1 := Scalar.cmpi .slt v301 c0_i32_623
  let v1409 : BitVec 32 := Scalar.extui v1408
  let v1410 : BitVec 32 := Scalar.subi v1407 v1409
  let c16_i32_621 : BitVec 32 := 16#32
  let c0_i32_624 : BitVec 32 := 0#32
  let v1411 : BitVec 1 := Scalar.cmpi .sgt c16_i32_621 c0_i32_624
  let v1412 : BitVec 32 := Scalar.extui v1411
  let c0_i32_625 : BitVec 32 := 0#32
  let v1413 : BitVec 1 := Scalar.cmpi .slt c16_i32_621 c0_i32_625
  let v1414 : BitVec 32 := Scalar.extui v1413
  let v1415 : BitVec 32 := Scalar.subi v1412 v1414
  let v1416 : BitVec 1 := Scalar.cmpi .ne v1410 v1415
  let v1417 : BitVec 32 := Scalar.remsi v301 c16_i32_621
  let c0_i32_626 : BitVec 32 := 0#32
  let v1418 : BitVec 1 := Scalar.cmpi .ne v1417 c0_i32_626
  let v1419 : BitVec 1 := Scalar.andi v1416 v1418
  let v1405 : BitVec 32 := Scalar.divsi v301 c16_i32_621
  let c1_i32_627 : BitVec 32 := 1#32
  let v1420 : BitVec 32 := Scalar.subi v1405 c1_i32_627
  let v1421 : BitVec 32 := Scalar.select v1419 v1420 v1405
  let c16_i32_628 : BitVec 32 := 16#32
  let v1422 : BitVec 32 := Scalar.muli v1421 c16_i32_628
  let c1_i32_629 : BitVec 32 := 1#32
  let v1423 : BitVec 32 := Scalar.subi c1_i32_629 v46
  let c8_i32_630 : BitVec 32 := 8#32
  let v1424 : BitVec 32 := Scalar.muli v1423 c8_i32_630
  let v1425 : BitVec 32 := Scalar.addi v1422 v1424
  let c32_i32_631 : BitVec 32 := 32#32
  let v1426 : BitVec 32 := Scalar.muli v1425 c32_i32_631
  let v1427 : Index := Scalar.indexCast v1426
  let c512_632 : Index := 512#32
  ![v1427.toNat, 512]
def k0_dev12 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_636 : BitVec 32 := 1#32
  let v1433 : BitVec 32 := Scalar.muli v271 c1_i32_636
  let v1434 : BitVec 32 := Scalar.addi c0_i32_637 v1433
  v1434.toNat
def k0_off12 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_639 : BitVec 32 := 0#32
  let v1440 : BitVec 1 := Scalar.cmpi .sgt v311 c0_i32_639
  let v1441 : BitVec 32 := Scalar.extui v1440
  let c0_i32_640 : BitVec 32 := 0#32
  let v1442 : BitVec 1 := Scalar.cmpi .slt v311 c0_i32_640
  let v1443 : BitVec 32 := Scalar.extui v1442
  let v1444 : BitVec 32 := Scalar.subi v1441 v1443
  let c16_i32_638 : BitVec 32 := 16#32
  let c0_i32_641 : BitVec 32 := 0#32
  let v1445 : BitVec 1 := Scalar.cmpi .sgt c16_i32_638 c0_i32_641
  let v1446 : BitVec 32 := Scalar.extui v1445
  let c0_i32_642 : BitVec 32 := 0#32
  let v1447 : BitVec 1 := Scalar.cmpi .slt c16_i32_638 c0_i32_642
  let v1448 : BitVec 32 := Scalar.extui v1447
  let v1449 : BitVec 32 := Scalar.subi v1446 v1448
  let v1450 : BitVec 1 := Scalar.cmpi .ne v1444 v1449
  let v1451 : BitVec 32 := Scalar.remsi v311 c16_i32_638
  let c0_i32_643 : BitVec 32 := 0#32
  let v1452 : BitVec 1 := Scalar.cmpi .ne v1451 c0_i32_643
  let v1453 : BitVec 1 := Scalar.andi v1450 v1452
  let v1439 : BitVec 32 := Scalar.divsi v311 c16_i32_638
  let c1_i32_644 : BitVec 32 := 1#32
  let v1454 : BitVec 32 := Scalar.subi v1439 c1_i32_644
  let v1455 : BitVec 32 := Scalar.select v1453 v1454 v1439
  let c16_i32_645 : BitVec 32 := 16#32
  let v1456 : BitVec 32 := Scalar.muli v1455 c16_i32_645
  let c1_i32_646 : BitVec 32 := 1#32
  let v1457 : BitVec 32 := Scalar.subi c1_i32_646 v40
  let c8_i32_647 : BitVec 32 := 8#32
  let v1458 : BitVec 32 := Scalar.muli v1457 c8_i32_647
  let v1459 : BitVec 32 := Scalar.addi v1456 v1458
  let c32_i32_648 : BitVec 32 := 32#32
  let v1460 : BitVec 32 := Scalar.muli v1459 c32_i32_648
  let v1461 : Index := Scalar.indexCast v1460
  let c768_649 : Index := 768#32
  ![v1461.toNat, 768]
def k0_dev13 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_654 : BitVec 32 := 1#32
  let v1467 : BitVec 32 := Scalar.muli v91 c1_i32_654
  let v1468 : BitVec 32 := Scalar.addi c0_i32_655 v1467
  v1468.toNat
def k0_off13 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_657 : BitVec 32 := 0#32
  let v1474 : BitVec 1 := Scalar.cmpi .sgt v281 c0_i32_657
  let v1475 : BitVec 32 := Scalar.extui v1474
  let c0_i32_658 : BitVec 32 := 0#32
  let v1476 : BitVec 1 := Scalar.cmpi .slt v281 c0_i32_658
  let v1477 : BitVec 32 := Scalar.extui v1476
  let v1478 : BitVec 32 := Scalar.subi v1475 v1477
  let c16_i32_656 : BitVec 32 := 16#32
  let c0_i32_659 : BitVec 32 := 0#32
  let v1479 : BitVec 1 := Scalar.cmpi .sgt c16_i32_656 c0_i32_659
  let v1480 : BitVec 32 := Scalar.extui v1479
  let c0_i32_660 : BitVec 32 := 0#32
  let v1481 : BitVec 1 := Scalar.cmpi .slt c16_i32_656 c0_i32_660
  let v1482 : BitVec 32 := Scalar.extui v1481
  let v1483 : BitVec 32 := Scalar.subi v1480 v1482
  let v1484 : BitVec 1 := Scalar.cmpi .ne v1478 v1483
  let v1485 : BitVec 32 := Scalar.remsi v281 c16_i32_656
  let c0_i32_661 : BitVec 32 := 0#32
  let v1486 : BitVec 1 := Scalar.cmpi .ne v1485 c0_i32_661
  let v1487 : BitVec 1 := Scalar.andi v1484 v1486
  let v1473 : BitVec 32 := Scalar.divsi v281 c16_i32_656
  let c1_i32_662 : BitVec 32 := 1#32
  let v1488 : BitVec 32 := Scalar.subi v1473 c1_i32_662
  let v1489 : BitVec 32 := Scalar.select v1487 v1488 v1473
  let c16_i32_663 : BitVec 32 := 16#32
  let v1490 : BitVec 32 := Scalar.muli v1489 c16_i32_663
  let c8_i32_664 : BitVec 32 := 8#32
  let v1491 : BitVec 32 := Scalar.muli v41 c8_i32_664
  let v1492 : BitVec 32 := Scalar.addi v1490 v1491
  let c32_i32_665 : BitVec 32 := 32#32
  let v1493 : BitVec 32 := Scalar.muli v1492 c32_i32_665
  let v1500 : Index := Scalar.indexCast v1493
  let c0_673 : Index := 0#32
  ![v1500.toNat, 0]
def k0_off14 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_678 : BitVec 32 := 0#32
  let v1510 : BitVec 1 := Scalar.cmpi .sgt v291 c0_i32_678
  let v1511 : BitVec 32 := Scalar.extui v1510
  let c0_i32_679 : BitVec 32 := 0#32
  let v1512 : BitVec 1 := Scalar.cmpi .slt v291 c0_i32_679
  let v1513 : BitVec 32 := Scalar.extui v1512
  let v1514 : BitVec 32 := Scalar.subi v1511 v1513
  let c16_i32_677 : BitVec 32 := 16#32
  let c0_i32_680 : BitVec 32 := 0#32
  let v1515 : BitVec 1 := Scalar.cmpi .sgt c16_i32_677 c0_i32_680
  let v1516 : BitVec 32 := Scalar.extui v1515
  let c0_i32_681 : BitVec 32 := 0#32
  let v1517 : BitVec 1 := Scalar.cmpi .slt c16_i32_677 c0_i32_681
  let v1518 : BitVec 32 := Scalar.extui v1517
  let v1519 : BitVec 32 := Scalar.subi v1516 v1518
  let v1520 : BitVec 1 := Scalar.cmpi .ne v1514 v1519
  let v1521 : BitVec 32 := Scalar.remsi v291 c16_i32_677
  let c0_i32_682 : BitVec 32 := 0#32
  let v1522 : BitVec 1 := Scalar.cmpi .ne v1521 c0_i32_682
  let v1523 : BitVec 1 := Scalar.andi v1520 v1522
  let v1509 : BitVec 32 := Scalar.divsi v291 c16_i32_677
  let c1_i32_683 : BitVec 32 := 1#32
  let v1524 : BitVec 32 := Scalar.subi v1509 c1_i32_683
  let v1525 : BitVec 32 := Scalar.select v1523 v1524 v1509
  let c16_i32_684 : BitVec 32 := 16#32
  let v1526 : BitVec 32 := Scalar.muli v1525 c16_i32_684
  let c8_i32_685 : BitVec 32 := 8#32
  let v1527 : BitVec 32 := Scalar.muli v42 c8_i32_685
  let v1528 : BitVec 32 := Scalar.addi v1526 v1527
  let c32_i32_686 : BitVec 32 := 32#32
  let v1529 : BitVec 32 := Scalar.muli v1528 c32_i32_686
  let v1536 : Index := Scalar.indexCast v1529
  let c256_694 : Index := 256#32
  ![v1536.toNat, 256]
def k0_off15 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_699 : BitVec 32 := 0#32
  let v1546 : BitVec 1 := Scalar.cmpi .sgt v301 c0_i32_699
  let v1547 : BitVec 32 := Scalar.extui v1546
  let c0_i32_700 : BitVec 32 := 0#32
  let v1548 : BitVec 1 := Scalar.cmpi .slt v301 c0_i32_700
  let v1549 : BitVec 32 := Scalar.extui v1548
  let v1550 : BitVec 32 := Scalar.subi v1547 v1549
  let c16_i32_698 : BitVec 32 := 16#32
  let c0_i32_701 : BitVec 32 := 0#32
  let v1551 : BitVec 1 := Scalar.cmpi .sgt c16_i32_698 c0_i32_701
  let v1552 : BitVec 32 := Scalar.extui v1551
  let c0_i32_702 : BitVec 32 := 0#32
  let v1553 : BitVec 1 := Scalar.cmpi .slt c16_i32_698 c0_i32_702
  let v1554 : BitVec 32 := Scalar.extui v1553
  let v1555 : BitVec 32 := Scalar.subi v1552 v1554
  let v1556 : BitVec 1 := Scalar.cmpi .ne v1550 v1555
  let v1557 : BitVec 32 := Scalar.remsi v301 c16_i32_698
  let c0_i32_703 : BitVec 32 := 0#32
  let v1558 : BitVec 1 := Scalar.cmpi .ne v1557 c0_i32_703
  let v1559 : BitVec 1 := Scalar.andi v1556 v1558
  let v1545 : BitVec 32 := Scalar.divsi v301 c16_i32_698
  let c1_i32_704 : BitVec 32 := 1#32
  let v1560 : BitVec 32 := Scalar.subi v1545 c1_i32_704
  let v1561 : BitVec 32 := Scalar.select v1559 v1560 v1545
  let c16_i32_705 : BitVec 32 := 16#32
  let v1562 : BitVec 32 := Scalar.muli v1561 c16_i32_705
  let c8_i32_706 : BitVec 32 := 8#32
  let v1563 : BitVec 32 := Scalar.muli v46 c8_i32_706
  let v1564 : BitVec 32 := Scalar.addi v1562 v1563
  let c32_i32_707 : BitVec 32 := 32#32
  let v1565 : BitVec 32 := Scalar.muli v1564 c32_i32_707
  let v1572 : Index := Scalar.indexCast v1565
  let c512_715 : Index := 512#32
  ![v1572.toNat, 512]
def k0_off16 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_720 : BitVec 32 := 0#32
  let v1582 : BitVec 1 := Scalar.cmpi .sgt v311 c0_i32_720
  let v1583 : BitVec 32 := Scalar.extui v1582
  let c0_i32_721 : BitVec 32 := 0#32
  let v1584 : BitVec 1 := Scalar.cmpi .slt v311 c0_i32_721
  let v1585 : BitVec 32 := Scalar.extui v1584
  let v1586 : BitVec 32 := Scalar.subi v1583 v1585
  let c16_i32_719 : BitVec 32 := 16#32
  let c0_i32_722 : BitVec 32 := 0#32
  let v1587 : BitVec 1 := Scalar.cmpi .sgt c16_i32_719 c0_i32_722
  let v1588 : BitVec 32 := Scalar.extui v1587
  let c0_i32_723 : BitVec 32 := 0#32
  let v1589 : BitVec 1 := Scalar.cmpi .slt c16_i32_719 c0_i32_723
  let v1590 : BitVec 32 := Scalar.extui v1589
  let v1591 : BitVec 32 := Scalar.subi v1588 v1590
  let v1592 : BitVec 1 := Scalar.cmpi .ne v1586 v1591
  let v1593 : BitVec 32 := Scalar.remsi v311 c16_i32_719
  let c0_i32_724 : BitVec 32 := 0#32
  let v1594 : BitVec 1 := Scalar.cmpi .ne v1593 c0_i32_724
  let v1595 : BitVec 1 := Scalar.andi v1592 v1594
  let v1581 : BitVec 32 := Scalar.divsi v311 c16_i32_719
  let c1_i32_725 : BitVec 32 := 1#32
  let v1596 : BitVec 32 := Scalar.subi v1581 c1_i32_725
  let v1597 : BitVec 32 := Scalar.select v1595 v1596 v1581
  let c16_i32_726 : BitVec 32 := 16#32
  let v1598 : BitVec 32 := Scalar.muli v1597 c16_i32_726
  let c8_i32_727 : BitVec 32 := 8#32
  let v1599 : BitVec 32 := Scalar.muli v40 c8_i32_727
  let v1600 : BitVec 32 := Scalar.addi v1598 v1599
  let c32_i32_728 : BitVec 32 := 32#32
  let v1601 : BitVec 32 := Scalar.muli v1600 c32_i32_728
  let v1608 : Index := Scalar.indexCast v1601
  let c768_736 : Index := 768#32
  ![v1608.toNat, 768]
def k0_off17 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_741 : BitVec 32 := 0#32
  let v1618 : BitVec 1 := Scalar.cmpi .sgt v281 c0_i32_741
  let v1619 : BitVec 32 := Scalar.extui v1618
  let c0_i32_742 : BitVec 32 := 0#32
  let v1620 : BitVec 1 := Scalar.cmpi .slt v281 c0_i32_742
  let v1621 : BitVec 32 := Scalar.extui v1620
  let v1622 : BitVec 32 := Scalar.subi v1619 v1621
  let c8_i32_740 : BitVec 32 := 8#32
  let c0_i32_743 : BitVec 32 := 0#32
  let v1623 : BitVec 1 := Scalar.cmpi .sgt c8_i32_740 c0_i32_743
  let v1624 : BitVec 32 := Scalar.extui v1623
  let c0_i32_744 : BitVec 32 := 0#32
  let v1625 : BitVec 1 := Scalar.cmpi .slt c8_i32_740 c0_i32_744
  let v1626 : BitVec 32 := Scalar.extui v1625
  let v1627 : BitVec 32 := Scalar.subi v1624 v1626
  let v1628 : BitVec 1 := Scalar.cmpi .ne v1622 v1627
  let v1629 : BitVec 32 := Scalar.remsi v281 c8_i32_740
  let c0_i32_745 : BitVec 32 := 0#32
  let v1630 : BitVec 1 := Scalar.cmpi .ne v1629 c0_i32_745
  let v1631 : BitVec 1 := Scalar.andi v1628 v1630
  let v1617 : BitVec 32 := Scalar.divsi v281 c8_i32_740
  let c1_i32_746 : BitVec 32 := 1#32
  let v1632 : BitVec 32 := Scalar.subi v1617 c1_i32_746
  let v1633 : BitVec 32 := Scalar.select v1631 v1632 v1617
  let c8_i32_747 : BitVec 32 := 8#32
  let v1634 : BitVec 32 := Scalar.muli v1633 c8_i32_747
  let c1_i32_748 : BitVec 32 := 1#32
  let v1635 : BitVec 32 := Scalar.subi c1_i32_748 v42
  let c4_i32_749 : BitVec 32 := 4#32
  let v1636 : BitVec 32 := Scalar.muli v1635 c4_i32_749
  let v1637 : BitVec 32 := Scalar.addi v1634 v1636
  let c32_i32_750 : BitVec 32 := 32#32
  let v1638 : BitVec 32 := Scalar.muli v1637 c32_i32_750
  let v1639 : Index := Scalar.indexCast v1638
  let c0_751 : Index := 0#32
  ![v1639.toNat, 0]
def k0_dev14 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_756 : BitVec 32 := 1#32
  let v1645 : BitVec 32 := Scalar.muli v181 c1_i32_756
  let v1646 : BitVec 32 := Scalar.addi c0_i32_757 v1645
  v1646.toNat
def k0_off18 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_759 : BitVec 32 := 0#32
  let v1652 : BitVec 1 := Scalar.cmpi .sgt v291 c0_i32_759
  let v1653 : BitVec 32 := Scalar.extui v1652
  let c0_i32_760 : BitVec 32 := 0#32
  let v1654 : BitVec 1 := Scalar.cmpi .slt v291 c0_i32_760
  let v1655 : BitVec 32 := Scalar.extui v1654
  let v1656 : BitVec 32 := Scalar.subi v1653 v1655
  let c8_i32_758 : BitVec 32 := 8#32
  let c0_i32_761 : BitVec 32 := 0#32
  let v1657 : BitVec 1 := Scalar.cmpi .sgt c8_i32_758 c0_i32_761
  let v1658 : BitVec 32 := Scalar.extui v1657
  let c0_i32_762 : BitVec 32 := 0#32
  let v1659 : BitVec 1 := Scalar.cmpi .slt c8_i32_758 c0_i32_762
  let v1660 : BitVec 32 := Scalar.extui v1659
  let v1661 : BitVec 32 := Scalar.subi v1658 v1660
  let v1662 : BitVec 1 := Scalar.cmpi .ne v1656 v1661
  let v1663 : BitVec 32 := Scalar.remsi v291 c8_i32_758
  let c0_i32_763 : BitVec 32 := 0#32
  let v1664 : BitVec 1 := Scalar.cmpi .ne v1663 c0_i32_763
  let v1665 : BitVec 1 := Scalar.andi v1662 v1664
  let v1651 : BitVec 32 := Scalar.divsi v291 c8_i32_758
  let c1_i32_764 : BitVec 32 := 1#32
  let v1666 : BitVec 32 := Scalar.subi v1651 c1_i32_764
  let v1667 : BitVec 32 := Scalar.select v1665 v1666 v1651
  let c8_i32_765 : BitVec 32 := 8#32
  let v1668 : BitVec 32 := Scalar.muli v1667 c8_i32_765
  let c1_i32_766 : BitVec 32 := 1#32
  let v1669 : BitVec 32 := Scalar.subi c1_i32_766 v40
  let c4_i32_767 : BitVec 32 := 4#32
  let v1670 : BitVec 32 := Scalar.muli v1669 c4_i32_767
  let v1671 : BitVec 32 := Scalar.addi v1668 v1670
  let c32_i32_768 : BitVec 32 := 32#32
  let v1672 : BitVec 32 := Scalar.muli v1671 c32_i32_768
  let v1673 : Index := Scalar.indexCast v1672
  let c256_769 : Index := 256#32
  ![v1673.toNat, 256]
def k0_dev15 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_773 : BitVec 32 := 1#32
  let v1679 : BitVec 32 := Scalar.muli v91 c1_i32_773
  let v1680 : BitVec 32 := Scalar.addi c0_i32_774 v1679
  v1680.toNat
def k0_off19 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_776 : BitVec 32 := 0#32
  let v1686 : BitVec 1 := Scalar.cmpi .sgt v301 c0_i32_776
  let v1687 : BitVec 32 := Scalar.extui v1686
  let c0_i32_777 : BitVec 32 := 0#32
  let v1688 : BitVec 1 := Scalar.cmpi .slt v301 c0_i32_777
  let v1689 : BitVec 32 := Scalar.extui v1688
  let v1690 : BitVec 32 := Scalar.subi v1687 v1689
  let c8_i32_775 : BitVec 32 := 8#32
  let c0_i32_778 : BitVec 32 := 0#32
  let v1691 : BitVec 1 := Scalar.cmpi .sgt c8_i32_775 c0_i32_778
  let v1692 : BitVec 32 := Scalar.extui v1691
  let c0_i32_779 : BitVec 32 := 0#32
  let v1693 : BitVec 1 := Scalar.cmpi .slt c8_i32_775 c0_i32_779
  let v1694 : BitVec 32 := Scalar.extui v1693
  let v1695 : BitVec 32 := Scalar.subi v1692 v1694
  let v1696 : BitVec 1 := Scalar.cmpi .ne v1690 v1695
  let v1697 : BitVec 32 := Scalar.remsi v301 c8_i32_775
  let c0_i32_780 : BitVec 32 := 0#32
  let v1698 : BitVec 1 := Scalar.cmpi .ne v1697 c0_i32_780
  let v1699 : BitVec 1 := Scalar.andi v1696 v1698
  let v1685 : BitVec 32 := Scalar.divsi v301 c8_i32_775
  let c1_i32_781 : BitVec 32 := 1#32
  let v1700 : BitVec 32 := Scalar.subi v1685 c1_i32_781
  let v1701 : BitVec 32 := Scalar.select v1699 v1700 v1685
  let c8_i32_782 : BitVec 32 := 8#32
  let v1702 : BitVec 32 := Scalar.muli v1701 c8_i32_782
  let c1_i32_783 : BitVec 32 := 1#32
  let v1703 : BitVec 32 := Scalar.subi c1_i32_783 v44
  let c4_i32_784 : BitVec 32 := 4#32
  let v1704 : BitVec 32 := Scalar.muli v1703 c4_i32_784
  let v1705 : BitVec 32 := Scalar.addi v1702 v1704
  let c32_i32_785 : BitVec 32 := 32#32
  let v1706 : BitVec 32 := Scalar.muli v1705 c32_i32_785
  let v1707 : Index := Scalar.indexCast v1706
  let c512_786 : Index := 512#32
  ![v1707.toNat, 512]
def k0_dev16 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_790 : BitVec 32 := 1#32
  let v1713 : BitVec 32 := Scalar.muli v226 c1_i32_790
  let v1714 : BitVec 32 := Scalar.addi c0_i32_791 v1713
  v1714.toNat
def k0_off20 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_793 : BitVec 32 := 0#32
  let v1720 : BitVec 1 := Scalar.cmpi .sgt v311 c0_i32_793
  let v1721 : BitVec 32 := Scalar.extui v1720
  let c0_i32_794 : BitVec 32 := 0#32
  let v1722 : BitVec 1 := Scalar.cmpi .slt v311 c0_i32_794
  let v1723 : BitVec 32 := Scalar.extui v1722
  let v1724 : BitVec 32 := Scalar.subi v1721 v1723
  let c8_i32_792 : BitVec 32 := 8#32
  let c0_i32_795 : BitVec 32 := 0#32
  let v1725 : BitVec 1 := Scalar.cmpi .sgt c8_i32_792 c0_i32_795
  let v1726 : BitVec 32 := Scalar.extui v1725
  let c0_i32_796 : BitVec 32 := 0#32
  let v1727 : BitVec 1 := Scalar.cmpi .slt c8_i32_792 c0_i32_796
  let v1728 : BitVec 32 := Scalar.extui v1727
  let v1729 : BitVec 32 := Scalar.subi v1726 v1728
  let v1730 : BitVec 1 := Scalar.cmpi .ne v1724 v1729
  let v1731 : BitVec 32 := Scalar.remsi v311 c8_i32_792
  let c0_i32_797 : BitVec 32 := 0#32
  let v1732 : BitVec 1 := Scalar.cmpi .ne v1731 c0_i32_797
  let v1733 : BitVec 1 := Scalar.andi v1730 v1732
  let v1719 : BitVec 32 := Scalar.divsi v311 c8_i32_792
  let c1_i32_798 : BitVec 32 := 1#32
  let v1734 : BitVec 32 := Scalar.subi v1719 c1_i32_798
  let v1735 : BitVec 32 := Scalar.select v1733 v1734 v1719
  let c8_i32_799 : BitVec 32 := 8#32
  let v1736 : BitVec 32 := Scalar.muli v1735 c8_i32_799
  let c1_i32_800 : BitVec 32 := 1#32
  let v1737 : BitVec 32 := Scalar.subi c1_i32_800 v46
  let c4_i32_801 : BitVec 32 := 4#32
  let v1738 : BitVec 32 := Scalar.muli v1737 c4_i32_801
  let v1739 : BitVec 32 := Scalar.addi v1736 v1738
  let c32_i32_802 : BitVec 32 := 32#32
  let v1740 : BitVec 32 := Scalar.muli v1739 c32_i32_802
  let v1741 : Index := Scalar.indexCast v1740
  let c768_803 : Index := 768#32
  ![v1741.toNat, 768]
def k0_dev17 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_807 : BitVec 32 := 1#32
  let v1747 : BitVec 32 := Scalar.muli v271 c1_i32_807
  let v1748 : BitVec 32 := Scalar.addi c0_i32_808 v1747
  v1748.toNat
def k0_off21 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_810 : BitVec 32 := 0#32
  let v1754 : BitVec 1 := Scalar.cmpi .sgt v281 c0_i32_810
  let v1755 : BitVec 32 := Scalar.extui v1754
  let c0_i32_811 : BitVec 32 := 0#32
  let v1756 : BitVec 1 := Scalar.cmpi .slt v281 c0_i32_811
  let v1757 : BitVec 32 := Scalar.extui v1756
  let v1758 : BitVec 32 := Scalar.subi v1755 v1757
  let c8_i32_809 : BitVec 32 := 8#32
  let c0_i32_812 : BitVec 32 := 0#32
  let v1759 : BitVec 1 := Scalar.cmpi .sgt c8_i32_809 c0_i32_812
  let v1760 : BitVec 32 := Scalar.extui v1759
  let c0_i32_813 : BitVec 32 := 0#32
  let v1761 : BitVec 1 := Scalar.cmpi .slt c8_i32_809 c0_i32_813
  let v1762 : BitVec 32 := Scalar.extui v1761
  let v1763 : BitVec 32 := Scalar.subi v1760 v1762
  let v1764 : BitVec 1 := Scalar.cmpi .ne v1758 v1763
  let v1765 : BitVec 32 := Scalar.remsi v281 c8_i32_809
  let c0_i32_814 : BitVec 32 := 0#32
  let v1766 : BitVec 1 := Scalar.cmpi .ne v1765 c0_i32_814
  let v1767 : BitVec 1 := Scalar.andi v1764 v1766
  let v1753 : BitVec 32 := Scalar.divsi v281 c8_i32_809
  let c1_i32_815 : BitVec 32 := 1#32
  let v1768 : BitVec 32 := Scalar.subi v1753 c1_i32_815
  let v1769 : BitVec 32 := Scalar.select v1767 v1768 v1753
  let c8_i32_816 : BitVec 32 := 8#32
  let v1770 : BitVec 32 := Scalar.muli v1769 c8_i32_816
  let c4_i32_817 : BitVec 32 := 4#32
  let v1771 : BitVec 32 := Scalar.muli v42 c4_i32_817
  let v1772 : BitVec 32 := Scalar.addi v1770 v1771
  let c32_i32_818 : BitVec 32 := 32#32
  let v1773 : BitVec 32 := Scalar.muli v1772 c32_i32_818
  let v1780 : Index := Scalar.indexCast v1773
  let c0_826 : Index := 0#32
  ![v1780.toNat, 0]
def k0_off22 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_831 : BitVec 32 := 0#32
  let v1790 : BitVec 1 := Scalar.cmpi .sgt v291 c0_i32_831
  let v1791 : BitVec 32 := Scalar.extui v1790
  let c0_i32_832 : BitVec 32 := 0#32
  let v1792 : BitVec 1 := Scalar.cmpi .slt v291 c0_i32_832
  let v1793 : BitVec 32 := Scalar.extui v1792
  let v1794 : BitVec 32 := Scalar.subi v1791 v1793
  let c8_i32_830 : BitVec 32 := 8#32
  let c0_i32_833 : BitVec 32 := 0#32
  let v1795 : BitVec 1 := Scalar.cmpi .sgt c8_i32_830 c0_i32_833
  let v1796 : BitVec 32 := Scalar.extui v1795
  let c0_i32_834 : BitVec 32 := 0#32
  let v1797 : BitVec 1 := Scalar.cmpi .slt c8_i32_830 c0_i32_834
  let v1798 : BitVec 32 := Scalar.extui v1797
  let v1799 : BitVec 32 := Scalar.subi v1796 v1798
  let v1800 : BitVec 1 := Scalar.cmpi .ne v1794 v1799
  let v1801 : BitVec 32 := Scalar.remsi v291 c8_i32_830
  let c0_i32_835 : BitVec 32 := 0#32
  let v1802 : BitVec 1 := Scalar.cmpi .ne v1801 c0_i32_835
  let v1803 : BitVec 1 := Scalar.andi v1800 v1802
  let v1789 : BitVec 32 := Scalar.divsi v291 c8_i32_830
  let c1_i32_836 : BitVec 32 := 1#32
  let v1804 : BitVec 32 := Scalar.subi v1789 c1_i32_836
  let v1805 : BitVec 32 := Scalar.select v1803 v1804 v1789
  let c8_i32_837 : BitVec 32 := 8#32
  let v1806 : BitVec 32 := Scalar.muli v1805 c8_i32_837
  let c4_i32_838 : BitVec 32 := 4#32
  let v1807 : BitVec 32 := Scalar.muli v40 c4_i32_838
  let v1808 : BitVec 32 := Scalar.addi v1806 v1807
  let c32_i32_839 : BitVec 32 := 32#32
  let v1809 : BitVec 32 := Scalar.muli v1808 c32_i32_839
  let v1816 : Index := Scalar.indexCast v1809
  let c256_847 : Index := 256#32
  ![v1816.toNat, 256]
def k0_off23 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_852 : BitVec 32 := 0#32
  let v1826 : BitVec 1 := Scalar.cmpi .sgt v301 c0_i32_852
  let v1827 : BitVec 32 := Scalar.extui v1826
  let c0_i32_853 : BitVec 32 := 0#32
  let v1828 : BitVec 1 := Scalar.cmpi .slt v301 c0_i32_853
  let v1829 : BitVec 32 := Scalar.extui v1828
  let v1830 : BitVec 32 := Scalar.subi v1827 v1829
  let c8_i32_851 : BitVec 32 := 8#32
  let c0_i32_854 : BitVec 32 := 0#32
  let v1831 : BitVec 1 := Scalar.cmpi .sgt c8_i32_851 c0_i32_854
  let v1832 : BitVec 32 := Scalar.extui v1831
  let c0_i32_855 : BitVec 32 := 0#32
  let v1833 : BitVec 1 := Scalar.cmpi .slt c8_i32_851 c0_i32_855
  let v1834 : BitVec 32 := Scalar.extui v1833
  let v1835 : BitVec 32 := Scalar.subi v1832 v1834
  let v1836 : BitVec 1 := Scalar.cmpi .ne v1830 v1835
  let v1837 : BitVec 32 := Scalar.remsi v301 c8_i32_851
  let c0_i32_856 : BitVec 32 := 0#32
  let v1838 : BitVec 1 := Scalar.cmpi .ne v1837 c0_i32_856
  let v1839 : BitVec 1 := Scalar.andi v1836 v1838
  let v1825 : BitVec 32 := Scalar.divsi v301 c8_i32_851
  let c1_i32_857 : BitVec 32 := 1#32
  let v1840 : BitVec 32 := Scalar.subi v1825 c1_i32_857
  let v1841 : BitVec 32 := Scalar.select v1839 v1840 v1825
  let c8_i32_858 : BitVec 32 := 8#32
  let v1842 : BitVec 32 := Scalar.muli v1841 c8_i32_858
  let c4_i32_859 : BitVec 32 := 4#32
  let v1843 : BitVec 32 := Scalar.muli v44 c4_i32_859
  let v1844 : BitVec 32 := Scalar.addi v1842 v1843
  let c32_i32_860 : BitVec 32 := 32#32
  let v1845 : BitVec 32 := Scalar.muli v1844 c32_i32_860
  let v1852 : Index := Scalar.indexCast v1845
  let c512_868 : Index := 512#32
  ![v1852.toNat, 512]
def k0_off24 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_873 : BitVec 32 := 0#32
  let v1862 : BitVec 1 := Scalar.cmpi .sgt v311 c0_i32_873
  let v1863 : BitVec 32 := Scalar.extui v1862
  let c0_i32_874 : BitVec 32 := 0#32
  let v1864 : BitVec 1 := Scalar.cmpi .slt v311 c0_i32_874
  let v1865 : BitVec 32 := Scalar.extui v1864
  let v1866 : BitVec 32 := Scalar.subi v1863 v1865
  let c8_i32_872 : BitVec 32 := 8#32
  let c0_i32_875 : BitVec 32 := 0#32
  let v1867 : BitVec 1 := Scalar.cmpi .sgt c8_i32_872 c0_i32_875
  let v1868 : BitVec 32 := Scalar.extui v1867
  let c0_i32_876 : BitVec 32 := 0#32
  let v1869 : BitVec 1 := Scalar.cmpi .slt c8_i32_872 c0_i32_876
  let v1870 : BitVec 32 := Scalar.extui v1869
  let v1871 : BitVec 32 := Scalar.subi v1868 v1870
  let v1872 : BitVec 1 := Scalar.cmpi .ne v1866 v1871
  let v1873 : BitVec 32 := Scalar.remsi v311 c8_i32_872
  let c0_i32_877 : BitVec 32 := 0#32
  let v1874 : BitVec 1 := Scalar.cmpi .ne v1873 c0_i32_877
  let v1875 : BitVec 1 := Scalar.andi v1872 v1874
  let v1861 : BitVec 32 := Scalar.divsi v311 c8_i32_872
  let c1_i32_878 : BitVec 32 := 1#32
  let v1876 : BitVec 32 := Scalar.subi v1861 c1_i32_878
  let v1877 : BitVec 32 := Scalar.select v1875 v1876 v1861
  let c8_i32_879 : BitVec 32 := 8#32
  let v1878 : BitVec 32 := Scalar.muli v1877 c8_i32_879
  let c4_i32_880 : BitVec 32 := 4#32
  let v1879 : BitVec 32 := Scalar.muli v46 c4_i32_880
  let v1880 : BitVec 32 := Scalar.addi v1878 v1879
  let c32_i32_881 : BitVec 32 := 32#32
  let v1881 : BitVec 32 := Scalar.muli v1880 c32_i32_881
  let v1888 : Index := Scalar.indexCast v1881
  let c768_889 : Index := 768#32
  ![v1888.toNat, 768]
def k0_off25 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_894 : BitVec 32 := 0#32
  let v1898 : BitVec 1 := Scalar.cmpi .sgt v281 c0_i32_894
  let v1899 : BitVec 32 := Scalar.extui v1898
  let c0_i32_895 : BitVec 32 := 0#32
  let v1900 : BitVec 1 := Scalar.cmpi .slt v281 c0_i32_895
  let v1901 : BitVec 32 := Scalar.extui v1900
  let v1902 : BitVec 32 := Scalar.subi v1899 v1901
  let c4_i32_893 : BitVec 32 := 4#32
  let c0_i32_896 : BitVec 32 := 0#32
  let v1903 : BitVec 1 := Scalar.cmpi .sgt c4_i32_893 c0_i32_896
  let v1904 : BitVec 32 := Scalar.extui v1903
  let c0_i32_897 : BitVec 32 := 0#32
  let v1905 : BitVec 1 := Scalar.cmpi .slt c4_i32_893 c0_i32_897
  let v1906 : BitVec 32 := Scalar.extui v1905
  let v1907 : BitVec 32 := Scalar.subi v1904 v1906
  let v1908 : BitVec 1 := Scalar.cmpi .ne v1902 v1907
  let v1909 : BitVec 32 := Scalar.remsi v281 c4_i32_893
  let c0_i32_898 : BitVec 32 := 0#32
  let v1910 : BitVec 1 := Scalar.cmpi .ne v1909 c0_i32_898
  let v1911 : BitVec 1 := Scalar.andi v1908 v1910
  let v1897 : BitVec 32 := Scalar.divsi v281 c4_i32_893
  let c1_i32_899 : BitVec 32 := 1#32
  let v1912 : BitVec 32 := Scalar.subi v1897 c1_i32_899
  let v1913 : BitVec 32 := Scalar.select v1911 v1912 v1897
  let c4_i32_900 : BitVec 32 := 4#32
  let v1914 : BitVec 32 := Scalar.muli v1913 c4_i32_900
  let c1_i32_901 : BitVec 32 := 1#32
  let v1915 : BitVec 32 := Scalar.subi c1_i32_901 v44
  let c2_i32_902 : BitVec 32 := 2#32
  let v1916 : BitVec 32 := Scalar.muli v1915 c2_i32_902
  let v1917 : BitVec 32 := Scalar.addi v1914 v1916
  let c32_i32_903 : BitVec 32 := 32#32
  let v1918 : BitVec 32 := Scalar.muli v1917 c32_i32_903
  let v1919 : Index := Scalar.indexCast v1918
  let c0_904 : Index := 0#32
  ![v1919.toNat, 0]
def k0_dev18 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_908 : BitVec 32 := 1#32
  let v1925 : BitVec 32 := Scalar.muli v226 c1_i32_908
  let v1926 : BitVec 32 := Scalar.addi c0_i32_909 v1925
  v1926.toNat
def k0_off26 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_911 : BitVec 32 := 0#32
  let v1932 : BitVec 1 := Scalar.cmpi .sgt v291 c0_i32_911
  let v1933 : BitVec 32 := Scalar.extui v1932
  let c0_i32_912 : BitVec 32 := 0#32
  let v1934 : BitVec 1 := Scalar.cmpi .slt v291 c0_i32_912
  let v1935 : BitVec 32 := Scalar.extui v1934
  let v1936 : BitVec 32 := Scalar.subi v1933 v1935
  let c4_i32_910 : BitVec 32 := 4#32
  let c0_i32_913 : BitVec 32 := 0#32
  let v1937 : BitVec 1 := Scalar.cmpi .sgt c4_i32_910 c0_i32_913
  let v1938 : BitVec 32 := Scalar.extui v1937
  let c0_i32_914 : BitVec 32 := 0#32
  let v1939 : BitVec 1 := Scalar.cmpi .slt c4_i32_910 c0_i32_914
  let v1940 : BitVec 32 := Scalar.extui v1939
  let v1941 : BitVec 32 := Scalar.subi v1938 v1940
  let v1942 : BitVec 1 := Scalar.cmpi .ne v1936 v1941
  let v1943 : BitVec 32 := Scalar.remsi v291 c4_i32_910
  let c0_i32_915 : BitVec 32 := 0#32
  let v1944 : BitVec 1 := Scalar.cmpi .ne v1943 c0_i32_915
  let v1945 : BitVec 1 := Scalar.andi v1942 v1944
  let v1931 : BitVec 32 := Scalar.divsi v291 c4_i32_910
  let c1_i32_916 : BitVec 32 := 1#32
  let v1946 : BitVec 32 := Scalar.subi v1931 c1_i32_916
  let v1947 : BitVec 32 := Scalar.select v1945 v1946 v1931
  let c4_i32_917 : BitVec 32 := 4#32
  let v1948 : BitVec 32 := Scalar.muli v1947 c4_i32_917
  let c1_i32_918 : BitVec 32 := 1#32
  let v1949 : BitVec 32 := Scalar.subi c1_i32_918 v46
  let c2_i32_919 : BitVec 32 := 2#32
  let v1950 : BitVec 32 := Scalar.muli v1949 c2_i32_919
  let v1951 : BitVec 32 := Scalar.addi v1948 v1950
  let c32_i32_920 : BitVec 32 := 32#32
  let v1952 : BitVec 32 := Scalar.muli v1951 c32_i32_920
  let v1953 : Index := Scalar.indexCast v1952
  let c256_921 : Index := 256#32
  ![v1953.toNat, 256]
def k0_dev19 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_926 : BitVec 32 := 1#32
  let v1959 : BitVec 32 := Scalar.muli v271 c1_i32_926
  let v1960 : BitVec 32 := Scalar.addi c0_i32_927 v1959
  v1960.toNat
def k0_off27 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_929 : BitVec 32 := 0#32
  let v1966 : BitVec 1 := Scalar.cmpi .sgt v301 c0_i32_929
  let v1967 : BitVec 32 := Scalar.extui v1966
  let c0_i32_930 : BitVec 32 := 0#32
  let v1968 : BitVec 1 := Scalar.cmpi .slt v301 c0_i32_930
  let v1969 : BitVec 32 := Scalar.extui v1968
  let v1970 : BitVec 32 := Scalar.subi v1967 v1969
  let c4_i32_928 : BitVec 32 := 4#32
  let c0_i32_931 : BitVec 32 := 0#32
  let v1971 : BitVec 1 := Scalar.cmpi .sgt c4_i32_928 c0_i32_931
  let v1972 : BitVec 32 := Scalar.extui v1971
  let c0_i32_932 : BitVec 32 := 0#32
  let v1973 : BitVec 1 := Scalar.cmpi .slt c4_i32_928 c0_i32_932
  let v1974 : BitVec 32 := Scalar.extui v1973
  let v1975 : BitVec 32 := Scalar.subi v1972 v1974
  let v1976 : BitVec 1 := Scalar.cmpi .ne v1970 v1975
  let v1977 : BitVec 32 := Scalar.remsi v301 c4_i32_928
  let c0_i32_933 : BitVec 32 := 0#32
  let v1978 : BitVec 1 := Scalar.cmpi .ne v1977 c0_i32_933
  let v1979 : BitVec 1 := Scalar.andi v1976 v1978
  let v1965 : BitVec 32 := Scalar.divsi v301 c4_i32_928
  let c1_i32_934 : BitVec 32 := 1#32
  let v1980 : BitVec 32 := Scalar.subi v1965 c1_i32_934
  let v1981 : BitVec 32 := Scalar.select v1979 v1980 v1965
  let c4_i32_935 : BitVec 32 := 4#32
  let v1982 : BitVec 32 := Scalar.muli v1981 c4_i32_935
  let c1_i32_936 : BitVec 32 := 1#32
  let v1983 : BitVec 32 := Scalar.subi c1_i32_936 v40
  let c2_i32_937 : BitVec 32 := 2#32
  let v1984 : BitVec 32 := Scalar.muli v1983 c2_i32_937
  let v1985 : BitVec 32 := Scalar.addi v1982 v1984
  let c32_i32_938 : BitVec 32 := 32#32
  let v1986 : BitVec 32 := Scalar.muli v1985 c32_i32_938
  let v1987 : Index := Scalar.indexCast v1986
  let c512_939 : Index := 512#32
  ![v1987.toNat, 512]
def k0_dev20 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_943 : BitVec 32 := 1#32
  let v1993 : BitVec 32 := Scalar.muli v91 c1_i32_943
  let v1994 : BitVec 32 := Scalar.addi c0_i32_944 v1993
  v1994.toNat
def k0_off28 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_946 : BitVec 32 := 0#32
  let v2000 : BitVec 1 := Scalar.cmpi .sgt v311 c0_i32_946
  let v2001 : BitVec 32 := Scalar.extui v2000
  let c0_i32_947 : BitVec 32 := 0#32
  let v2002 : BitVec 1 := Scalar.cmpi .slt v311 c0_i32_947
  let v2003 : BitVec 32 := Scalar.extui v2002
  let v2004 : BitVec 32 := Scalar.subi v2001 v2003
  let c4_i32_945 : BitVec 32 := 4#32
  let c0_i32_948 : BitVec 32 := 0#32
  let v2005 : BitVec 1 := Scalar.cmpi .sgt c4_i32_945 c0_i32_948
  let v2006 : BitVec 32 := Scalar.extui v2005
  let c0_i32_949 : BitVec 32 := 0#32
  let v2007 : BitVec 1 := Scalar.cmpi .slt c4_i32_945 c0_i32_949
  let v2008 : BitVec 32 := Scalar.extui v2007
  let v2009 : BitVec 32 := Scalar.subi v2006 v2008
  let v2010 : BitVec 1 := Scalar.cmpi .ne v2004 v2009
  let v2011 : BitVec 32 := Scalar.remsi v311 c4_i32_945
  let c0_i32_950 : BitVec 32 := 0#32
  let v2012 : BitVec 1 := Scalar.cmpi .ne v2011 c0_i32_950
  let v2013 : BitVec 1 := Scalar.andi v2010 v2012
  let v1999 : BitVec 32 := Scalar.divsi v311 c4_i32_945
  let c1_i32_951 : BitVec 32 := 1#32
  let v2014 : BitVec 32 := Scalar.subi v1999 c1_i32_951
  let v2015 : BitVec 32 := Scalar.select v2013 v2014 v1999
  let c4_i32_952 : BitVec 32 := 4#32
  let v2016 : BitVec 32 := Scalar.muli v2015 c4_i32_952
  let c1_i32_953 : BitVec 32 := 1#32
  let v2017 : BitVec 32 := Scalar.subi c1_i32_953 v41
  let c2_i32_954 : BitVec 32 := 2#32
  let v2018 : BitVec 32 := Scalar.muli v2017 c2_i32_954
  let v2019 : BitVec 32 := Scalar.addi v2016 v2018
  let c32_i32_955 : BitVec 32 := 32#32
  let v2020 : BitVec 32 := Scalar.muli v2019 c32_i32_955
  let v2021 : Index := Scalar.indexCast v2020
  let c768_956 : Index := 768#32
  ![v2021.toNat, 768]
def k0_dev21 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_960 : BitVec 32 := 1#32
  let v2027 : BitVec 32 := Scalar.muli v136 c1_i32_960
  let v2028 : BitVec 32 := Scalar.addi c0_i32_961 v2027
  v2028.toNat
def k0_off29 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_963 : BitVec 32 := 0#32
  let v2034 : BitVec 1 := Scalar.cmpi .sgt v281 c0_i32_963
  let v2035 : BitVec 32 := Scalar.extui v2034
  let c0_i32_964 : BitVec 32 := 0#32
  let v2036 : BitVec 1 := Scalar.cmpi .slt v281 c0_i32_964
  let v2037 : BitVec 32 := Scalar.extui v2036
  let v2038 : BitVec 32 := Scalar.subi v2035 v2037
  let c4_i32_962 : BitVec 32 := 4#32
  let c0_i32_965 : BitVec 32 := 0#32
  let v2039 : BitVec 1 := Scalar.cmpi .sgt c4_i32_962 c0_i32_965
  let v2040 : BitVec 32 := Scalar.extui v2039
  let c0_i32_966 : BitVec 32 := 0#32
  let v2041 : BitVec 1 := Scalar.cmpi .slt c4_i32_962 c0_i32_966
  let v2042 : BitVec 32 := Scalar.extui v2041
  let v2043 : BitVec 32 := Scalar.subi v2040 v2042
  let v2044 : BitVec 1 := Scalar.cmpi .ne v2038 v2043
  let v2045 : BitVec 32 := Scalar.remsi v281 c4_i32_962
  let c0_i32_967 : BitVec 32 := 0#32
  let v2046 : BitVec 1 := Scalar.cmpi .ne v2045 c0_i32_967
  let v2047 : BitVec 1 := Scalar.andi v2044 v2046
  let v2033 : BitVec 32 := Scalar.divsi v281 c4_i32_962
  let c1_i32_968 : BitVec 32 := 1#32
  let v2048 : BitVec 32 := Scalar.subi v2033 c1_i32_968
  let v2049 : BitVec 32 := Scalar.select v2047 v2048 v2033
  let c4_i32_969 : BitVec 32 := 4#32
  let v2050 : BitVec 32 := Scalar.muli v2049 c4_i32_969
  let c2_i32_970 : BitVec 32 := 2#32
  let v2051 : BitVec 32 := Scalar.muli v44 c2_i32_970
  let v2052 : BitVec 32 := Scalar.addi v2050 v2051
  let c32_i32_971 : BitVec 32 := 32#32
  let v2053 : BitVec 32 := Scalar.muli v2052 c32_i32_971
  let v2060 : Index := Scalar.indexCast v2053
  let c0_979 : Index := 0#32
  ![v2060.toNat, 0]
def k0_off30 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_984 : BitVec 32 := 0#32
  let v2070 : BitVec 1 := Scalar.cmpi .sgt v291 c0_i32_984
  let v2071 : BitVec 32 := Scalar.extui v2070
  let c0_i32_985 : BitVec 32 := 0#32
  let v2072 : BitVec 1 := Scalar.cmpi .slt v291 c0_i32_985
  let v2073 : BitVec 32 := Scalar.extui v2072
  let v2074 : BitVec 32 := Scalar.subi v2071 v2073
  let c4_i32_983 : BitVec 32 := 4#32
  let c0_i32_986 : BitVec 32 := 0#32
  let v2075 : BitVec 1 := Scalar.cmpi .sgt c4_i32_983 c0_i32_986
  let v2076 : BitVec 32 := Scalar.extui v2075
  let c0_i32_987 : BitVec 32 := 0#32
  let v2077 : BitVec 1 := Scalar.cmpi .slt c4_i32_983 c0_i32_987
  let v2078 : BitVec 32 := Scalar.extui v2077
  let v2079 : BitVec 32 := Scalar.subi v2076 v2078
  let v2080 : BitVec 1 := Scalar.cmpi .ne v2074 v2079
  let v2081 : BitVec 32 := Scalar.remsi v291 c4_i32_983
  let c0_i32_988 : BitVec 32 := 0#32
  let v2082 : BitVec 1 := Scalar.cmpi .ne v2081 c0_i32_988
  let v2083 : BitVec 1 := Scalar.andi v2080 v2082
  let v2069 : BitVec 32 := Scalar.divsi v291 c4_i32_983
  let c1_i32_989 : BitVec 32 := 1#32
  let v2084 : BitVec 32 := Scalar.subi v2069 c1_i32_989
  let v2085 : BitVec 32 := Scalar.select v2083 v2084 v2069
  let c4_i32_990 : BitVec 32 := 4#32
  let v2086 : BitVec 32 := Scalar.muli v2085 c4_i32_990
  let c2_i32_991 : BitVec 32 := 2#32
  let v2087 : BitVec 32 := Scalar.muli v46 c2_i32_991
  let v2088 : BitVec 32 := Scalar.addi v2086 v2087
  let c32_i32_992 : BitVec 32 := 32#32
  let v2089 : BitVec 32 := Scalar.muli v2088 c32_i32_992
  let v2096 : Index := Scalar.indexCast v2089
  let c256_1000 : Index := 256#32
  ![v2096.toNat, 256]
def k0_off31 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1005 : BitVec 32 := 0#32
  let v2106 : BitVec 1 := Scalar.cmpi .sgt v301 c0_i32_1005
  let v2107 : BitVec 32 := Scalar.extui v2106
  let c0_i32_1006 : BitVec 32 := 0#32
  let v2108 : BitVec 1 := Scalar.cmpi .slt v301 c0_i32_1006
  let v2109 : BitVec 32 := Scalar.extui v2108
  let v2110 : BitVec 32 := Scalar.subi v2107 v2109
  let c4_i32_1004 : BitVec 32 := 4#32
  let c0_i32_1007 : BitVec 32 := 0#32
  let v2111 : BitVec 1 := Scalar.cmpi .sgt c4_i32_1004 c0_i32_1007
  let v2112 : BitVec 32 := Scalar.extui v2111
  let c0_i32_1008 : BitVec 32 := 0#32
  let v2113 : BitVec 1 := Scalar.cmpi .slt c4_i32_1004 c0_i32_1008
  let v2114 : BitVec 32 := Scalar.extui v2113
  let v2115 : BitVec 32 := Scalar.subi v2112 v2114
  let v2116 : BitVec 1 := Scalar.cmpi .ne v2110 v2115
  let v2117 : BitVec 32 := Scalar.remsi v301 c4_i32_1004
  let c0_i32_1009 : BitVec 32 := 0#32
  let v2118 : BitVec 1 := Scalar.cmpi .ne v2117 c0_i32_1009
  let v2119 : BitVec 1 := Scalar.andi v2116 v2118
  let v2105 : BitVec 32 := Scalar.divsi v301 c4_i32_1004
  let c1_i32_1010 : BitVec 32 := 1#32
  let v2120 : BitVec 32 := Scalar.subi v2105 c1_i32_1010
  let v2121 : BitVec 32 := Scalar.select v2119 v2120 v2105
  let c4_i32_1011 : BitVec 32 := 4#32
  let v2122 : BitVec 32 := Scalar.muli v2121 c4_i32_1011
  let c2_i32_1012 : BitVec 32 := 2#32
  let v2123 : BitVec 32 := Scalar.muli v40 c2_i32_1012
  let v2124 : BitVec 32 := Scalar.addi v2122 v2123
  let c32_i32_1013 : BitVec 32 := 32#32
  let v2125 : BitVec 32 := Scalar.muli v2124 c32_i32_1013
  let v2132 : Index := Scalar.indexCast v2125
  let c512_1021 : Index := 512#32
  ![v2132.toNat, 512]
def k0_off32 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1026 : BitVec 32 := 0#32
  let v2142 : BitVec 1 := Scalar.cmpi .sgt v311 c0_i32_1026
  let v2143 : BitVec 32 := Scalar.extui v2142
  let c0_i32_1027 : BitVec 32 := 0#32
  let v2144 : BitVec 1 := Scalar.cmpi .slt v311 c0_i32_1027
  let v2145 : BitVec 32 := Scalar.extui v2144
  let v2146 : BitVec 32 := Scalar.subi v2143 v2145
  let c4_i32_1025 : BitVec 32 := 4#32
  let c0_i32_1028 : BitVec 32 := 0#32
  let v2147 : BitVec 1 := Scalar.cmpi .sgt c4_i32_1025 c0_i32_1028
  let v2148 : BitVec 32 := Scalar.extui v2147
  let c0_i32_1029 : BitVec 32 := 0#32
  let v2149 : BitVec 1 := Scalar.cmpi .slt c4_i32_1025 c0_i32_1029
  let v2150 : BitVec 32 := Scalar.extui v2149
  let v2151 : BitVec 32 := Scalar.subi v2148 v2150
  let v2152 : BitVec 1 := Scalar.cmpi .ne v2146 v2151
  let v2153 : BitVec 32 := Scalar.remsi v311 c4_i32_1025
  let c0_i32_1030 : BitVec 32 := 0#32
  let v2154 : BitVec 1 := Scalar.cmpi .ne v2153 c0_i32_1030
  let v2155 : BitVec 1 := Scalar.andi v2152 v2154
  let v2141 : BitVec 32 := Scalar.divsi v311 c4_i32_1025
  let c1_i32_1031 : BitVec 32 := 1#32
  let v2156 : BitVec 32 := Scalar.subi v2141 c1_i32_1031
  let v2157 : BitVec 32 := Scalar.select v2155 v2156 v2141
  let c4_i32_1032 : BitVec 32 := 4#32
  let v2158 : BitVec 32 := Scalar.muli v2157 c4_i32_1032
  let c2_i32_1033 : BitVec 32 := 2#32
  let v2159 : BitVec 32 := Scalar.muli v41 c2_i32_1033
  let v2160 : BitVec 32 := Scalar.addi v2158 v2159
  let c32_i32_1034 : BitVec 32 := 32#32
  let v2161 : BitVec 32 := Scalar.muli v2160 c32_i32_1034
  let v2168 : Index := Scalar.indexCast v2161
  let c768_1042 : Index := 768#32
  ![v2168.toNat, 768]
def k0_off33 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1047 : BitVec 32 := 0#32
  let v2178 : BitVec 1 := Scalar.cmpi .sgt v281 c0_i32_1047
  let v2179 : BitVec 32 := Scalar.extui v2178
  let c0_i32_1048 : BitVec 32 := 0#32
  let v2180 : BitVec 1 := Scalar.cmpi .slt v281 c0_i32_1048
  let v2181 : BitVec 32 := Scalar.extui v2180
  let v2182 : BitVec 32 := Scalar.subi v2179 v2181
  let c2_i32_1046 : BitVec 32 := 2#32
  let c0_i32_1049 : BitVec 32 := 0#32
  let v2183 : BitVec 1 := Scalar.cmpi .sgt c2_i32_1046 c0_i32_1049
  let v2184 : BitVec 32 := Scalar.extui v2183
  let c0_i32_1050 : BitVec 32 := 0#32
  let v2185 : BitVec 1 := Scalar.cmpi .slt c2_i32_1046 c0_i32_1050
  let v2186 : BitVec 32 := Scalar.extui v2185
  let v2187 : BitVec 32 := Scalar.subi v2184 v2186
  let v2188 : BitVec 1 := Scalar.cmpi .ne v2182 v2187
  let v2189 : BitVec 32 := Scalar.remsi v281 c2_i32_1046
  let c0_i32_1051 : BitVec 32 := 0#32
  let v2190 : BitVec 1 := Scalar.cmpi .ne v2189 c0_i32_1051
  let v2191 : BitVec 1 := Scalar.andi v2188 v2190
  let v2177 : BitVec 32 := Scalar.divsi v281 c2_i32_1046
  let c1_i32_1052 : BitVec 32 := 1#32
  let v2192 : BitVec 32 := Scalar.subi v2177 c1_i32_1052
  let v2193 : BitVec 32 := Scalar.select v2191 v2192 v2177
  let c2_i32_1053 : BitVec 32 := 2#32
  let v2194 : BitVec 32 := Scalar.muli v2193 c2_i32_1053
  let c1_i32_1054 : BitVec 32 := 1#32
  let v2195 : BitVec 32 := Scalar.subi c1_i32_1054 v46
  let c1_i32_1055 : BitVec 32 := 1#32
  let v2196 : BitVec 32 := Scalar.muli v2195 c1_i32_1055
  let v2197 : BitVec 32 := Scalar.addi v2194 v2196
  let c32_i32_1056 : BitVec 32 := 32#32
  let v2198 : BitVec 32 := Scalar.muli v2197 c32_i32_1056
  let v2199 : Index := Scalar.indexCast v2198
  let c0_1057 : Index := 0#32
  ![v2199.toNat, 0]
def k0_dev22 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1062 : BitVec 32 := 1#32
  let v2205 : BitVec 32 := Scalar.muli v271 c1_i32_1062
  let v2206 : BitVec 32 := Scalar.addi c0_i32_1063 v2205
  v2206.toNat
def k0_off34 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1065 : BitVec 32 := 0#32
  let v2212 : BitVec 1 := Scalar.cmpi .sgt v291 c0_i32_1065
  let v2213 : BitVec 32 := Scalar.extui v2212
  let c0_i32_1066 : BitVec 32 := 0#32
  let v2214 : BitVec 1 := Scalar.cmpi .slt v291 c0_i32_1066
  let v2215 : BitVec 32 := Scalar.extui v2214
  let v2216 : BitVec 32 := Scalar.subi v2213 v2215
  let c2_i32_1064 : BitVec 32 := 2#32
  let c0_i32_1067 : BitVec 32 := 0#32
  let v2217 : BitVec 1 := Scalar.cmpi .sgt c2_i32_1064 c0_i32_1067
  let v2218 : BitVec 32 := Scalar.extui v2217
  let c0_i32_1068 : BitVec 32 := 0#32
  let v2219 : BitVec 1 := Scalar.cmpi .slt c2_i32_1064 c0_i32_1068
  let v2220 : BitVec 32 := Scalar.extui v2219
  let v2221 : BitVec 32 := Scalar.subi v2218 v2220
  let v2222 : BitVec 1 := Scalar.cmpi .ne v2216 v2221
  let v2223 : BitVec 32 := Scalar.remsi v291 c2_i32_1064
  let c0_i32_1069 : BitVec 32 := 0#32
  let v2224 : BitVec 1 := Scalar.cmpi .ne v2223 c0_i32_1069
  let v2225 : BitVec 1 := Scalar.andi v2222 v2224
  let v2211 : BitVec 32 := Scalar.divsi v291 c2_i32_1064
  let c1_i32_1070 : BitVec 32 := 1#32
  let v2226 : BitVec 32 := Scalar.subi v2211 c1_i32_1070
  let v2227 : BitVec 32 := Scalar.select v2225 v2226 v2211
  let c2_i32_1071 : BitVec 32 := 2#32
  let v2228 : BitVec 32 := Scalar.muli v2227 c2_i32_1071
  let c1_i32_1072 : BitVec 32 := 1#32
  let v2229 : BitVec 32 := Scalar.subi c1_i32_1072 v44
  let c1_i32_1073 : BitVec 32 := 1#32
  let v2230 : BitVec 32 := Scalar.muli v2229 c1_i32_1073
  let v2231 : BitVec 32 := Scalar.addi v2228 v2230
  let c32_i32_1074 : BitVec 32 := 32#32
  let v2232 : BitVec 32 := Scalar.muli v2231 c32_i32_1074
  let v2233 : Index := Scalar.indexCast v2232
  let c256_1075 : Index := 256#32
  ![v2233.toNat, 256]
def k0_dev23 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1079 : BitVec 32 := 1#32
  let v2239 : BitVec 32 := Scalar.muli v226 c1_i32_1079
  let v2240 : BitVec 32 := Scalar.addi c0_i32_1080 v2239
  v2240.toNat
def k0_off35 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1082 : BitVec 32 := 0#32
  let v2246 : BitVec 1 := Scalar.cmpi .sgt v301 c0_i32_1082
  let v2247 : BitVec 32 := Scalar.extui v2246
  let c0_i32_1083 : BitVec 32 := 0#32
  let v2248 : BitVec 1 := Scalar.cmpi .slt v301 c0_i32_1083
  let v2249 : BitVec 32 := Scalar.extui v2248
  let v2250 : BitVec 32 := Scalar.subi v2247 v2249
  let c2_i32_1081 : BitVec 32 := 2#32
  let c0_i32_1084 : BitVec 32 := 0#32
  let v2251 : BitVec 1 := Scalar.cmpi .sgt c2_i32_1081 c0_i32_1084
  let v2252 : BitVec 32 := Scalar.extui v2251
  let c0_i32_1085 : BitVec 32 := 0#32
  let v2253 : BitVec 1 := Scalar.cmpi .slt c2_i32_1081 c0_i32_1085
  let v2254 : BitVec 32 := Scalar.extui v2253
  let v2255 : BitVec 32 := Scalar.subi v2252 v2254
  let v2256 : BitVec 1 := Scalar.cmpi .ne v2250 v2255
  let v2257 : BitVec 32 := Scalar.remsi v301 c2_i32_1081
  let c0_i32_1086 : BitVec 32 := 0#32
  let v2258 : BitVec 1 := Scalar.cmpi .ne v2257 c0_i32_1086
  let v2259 : BitVec 1 := Scalar.andi v2256 v2258
  let v2245 : BitVec 32 := Scalar.divsi v301 c2_i32_1081
  let c1_i32_1087 : BitVec 32 := 1#32
  let v2260 : BitVec 32 := Scalar.subi v2245 c1_i32_1087
  let v2261 : BitVec 32 := Scalar.select v2259 v2260 v2245
  let c2_i32_1088 : BitVec 32 := 2#32
  let v2262 : BitVec 32 := Scalar.muli v2261 c2_i32_1088
  let c1_i32_1089 : BitVec 32 := 1#32
  let v2263 : BitVec 32 := Scalar.subi c1_i32_1089 v41
  let c1_i32_1090 : BitVec 32 := 1#32
  let v2264 : BitVec 32 := Scalar.muli v2263 c1_i32_1090
  let v2265 : BitVec 32 := Scalar.addi v2262 v2264
  let c32_i32_1091 : BitVec 32 := 32#32
  let v2266 : BitVec 32 := Scalar.muli v2265 c32_i32_1091
  let v2267 : Index := Scalar.indexCast v2266
  let c512_1092 : Index := 512#32
  ![v2267.toNat, 512]
def k0_dev24 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1096 : BitVec 32 := 1#32
  let v2273 : BitVec 32 := Scalar.muli v136 c1_i32_1096
  let v2274 : BitVec 32 := Scalar.addi c0_i32_1097 v2273
  v2274.toNat
def k0_off36 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1099 : BitVec 32 := 0#32
  let v2280 : BitVec 1 := Scalar.cmpi .sgt v311 c0_i32_1099
  let v2281 : BitVec 32 := Scalar.extui v2280
  let c0_i32_1100 : BitVec 32 := 0#32
  let v2282 : BitVec 1 := Scalar.cmpi .slt v311 c0_i32_1100
  let v2283 : BitVec 32 := Scalar.extui v2282
  let v2284 : BitVec 32 := Scalar.subi v2281 v2283
  let c2_i32_1098 : BitVec 32 := 2#32
  let c0_i32_1101 : BitVec 32 := 0#32
  let v2285 : BitVec 1 := Scalar.cmpi .sgt c2_i32_1098 c0_i32_1101
  let v2286 : BitVec 32 := Scalar.extui v2285
  let c0_i32_1102 : BitVec 32 := 0#32
  let v2287 : BitVec 1 := Scalar.cmpi .slt c2_i32_1098 c0_i32_1102
  let v2288 : BitVec 32 := Scalar.extui v2287
  let v2289 : BitVec 32 := Scalar.subi v2286 v2288
  let v2290 : BitVec 1 := Scalar.cmpi .ne v2284 v2289
  let v2291 : BitVec 32 := Scalar.remsi v311 c2_i32_1098
  let c0_i32_1103 : BitVec 32 := 0#32
  let v2292 : BitVec 1 := Scalar.cmpi .ne v2291 c0_i32_1103
  let v2293 : BitVec 1 := Scalar.andi v2290 v2292
  let v2279 : BitVec 32 := Scalar.divsi v311 c2_i32_1098
  let c1_i32_1104 : BitVec 32 := 1#32
  let v2294 : BitVec 32 := Scalar.subi v2279 c1_i32_1104
  let v2295 : BitVec 32 := Scalar.select v2293 v2294 v2279
  let c2_i32_1105 : BitVec 32 := 2#32
  let v2296 : BitVec 32 := Scalar.muli v2295 c2_i32_1105
  let c1_i32_1106 : BitVec 32 := 1#32
  let v2297 : BitVec 32 := Scalar.subi c1_i32_1106 v42
  let c1_i32_1107 : BitVec 32 := 1#32
  let v2298 : BitVec 32 := Scalar.muli v2297 c1_i32_1107
  let v2299 : BitVec 32 := Scalar.addi v2296 v2298
  let c32_i32_1108 : BitVec 32 := 32#32
  let v2300 : BitVec 32 := Scalar.muli v2299 c32_i32_1108
  let v2301 : Index := Scalar.indexCast v2300
  let c768_1109 : Index := 768#32
  ![v2301.toNat, 768]
def k0_dev25 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1113 : BitVec 32 := 1#32
  let v2307 : BitVec 32 := Scalar.muli v181 c1_i32_1113
  let v2308 : BitVec 32 := Scalar.addi c0_i32_1114 v2307
  v2308.toNat
def k0_off37 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1116 : BitVec 32 := 0#32
  let v2314 : BitVec 1 := Scalar.cmpi .sgt v281 c0_i32_1116
  let v2315 : BitVec 32 := Scalar.extui v2314
  let c0_i32_1117 : BitVec 32 := 0#32
  let v2316 : BitVec 1 := Scalar.cmpi .slt v281 c0_i32_1117
  let v2317 : BitVec 32 := Scalar.extui v2316
  let v2318 : BitVec 32 := Scalar.subi v2315 v2317
  let c2_i32_1115 : BitVec 32 := 2#32
  let c0_i32_1118 : BitVec 32 := 0#32
  let v2319 : BitVec 1 := Scalar.cmpi .sgt c2_i32_1115 c0_i32_1118
  let v2320 : BitVec 32 := Scalar.extui v2319
  let c0_i32_1119 : BitVec 32 := 0#32
  let v2321 : BitVec 1 := Scalar.cmpi .slt c2_i32_1115 c0_i32_1119
  let v2322 : BitVec 32 := Scalar.extui v2321
  let v2323 : BitVec 32 := Scalar.subi v2320 v2322
  let v2324 : BitVec 1 := Scalar.cmpi .ne v2318 v2323
  let v2325 : BitVec 32 := Scalar.remsi v281 c2_i32_1115
  let c0_i32_1120 : BitVec 32 := 0#32
  let v2326 : BitVec 1 := Scalar.cmpi .ne v2325 c0_i32_1120
  let v2327 : BitVec 1 := Scalar.andi v2324 v2326
  let v2313 : BitVec 32 := Scalar.divsi v281 c2_i32_1115
  let c1_i32_1121 : BitVec 32 := 1#32
  let v2328 : BitVec 32 := Scalar.subi v2313 c1_i32_1121
  let v2329 : BitVec 32 := Scalar.select v2327 v2328 v2313
  let c2_i32_1122 : BitVec 32 := 2#32
  let v2330 : BitVec 32 := Scalar.muli v2329 c2_i32_1122
  let c1_i32_1123 : BitVec 32 := 1#32
  let v2331 : BitVec 32 := Scalar.muli v46 c1_i32_1123
  let v2332 : BitVec 32 := Scalar.addi v2330 v2331
  let c32_i32_1124 : BitVec 32 := 32#32
  let v2333 : BitVec 32 := Scalar.muli v2332 c32_i32_1124
  let v2340 : Index := Scalar.indexCast v2333
  let c0_1132 : Index := 0#32
  ![v2340.toNat, 0]
def k0_off38 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1137 : BitVec 32 := 0#32
  let v2350 : BitVec 1 := Scalar.cmpi .sgt v291 c0_i32_1137
  let v2351 : BitVec 32 := Scalar.extui v2350
  let c0_i32_1138 : BitVec 32 := 0#32
  let v2352 : BitVec 1 := Scalar.cmpi .slt v291 c0_i32_1138
  let v2353 : BitVec 32 := Scalar.extui v2352
  let v2354 : BitVec 32 := Scalar.subi v2351 v2353
  let c2_i32_1136 : BitVec 32 := 2#32
  let c0_i32_1139 : BitVec 32 := 0#32
  let v2355 : BitVec 1 := Scalar.cmpi .sgt c2_i32_1136 c0_i32_1139
  let v2356 : BitVec 32 := Scalar.extui v2355
  let c0_i32_1140 : BitVec 32 := 0#32
  let v2357 : BitVec 1 := Scalar.cmpi .slt c2_i32_1136 c0_i32_1140
  let v2358 : BitVec 32 := Scalar.extui v2357
  let v2359 : BitVec 32 := Scalar.subi v2356 v2358
  let v2360 : BitVec 1 := Scalar.cmpi .ne v2354 v2359
  let v2361 : BitVec 32 := Scalar.remsi v291 c2_i32_1136
  let c0_i32_1141 : BitVec 32 := 0#32
  let v2362 : BitVec 1 := Scalar.cmpi .ne v2361 c0_i32_1141
  let v2363 : BitVec 1 := Scalar.andi v2360 v2362
  let v2349 : BitVec 32 := Scalar.divsi v291 c2_i32_1136
  let c1_i32_1142 : BitVec 32 := 1#32
  let v2364 : BitVec 32 := Scalar.subi v2349 c1_i32_1142
  let v2365 : BitVec 32 := Scalar.select v2363 v2364 v2349
  let c2_i32_1143 : BitVec 32 := 2#32
  let v2366 : BitVec 32 := Scalar.muli v2365 c2_i32_1143
  let c1_i32_1144 : BitVec 32 := 1#32
  let v2367 : BitVec 32 := Scalar.muli v44 c1_i32_1144
  let v2368 : BitVec 32 := Scalar.addi v2366 v2367
  let c32_i32_1145 : BitVec 32 := 32#32
  let v2369 : BitVec 32 := Scalar.muli v2368 c32_i32_1145
  let v2376 : Index := Scalar.indexCast v2369
  let c256_1153 : Index := 256#32
  ![v2376.toNat, 256]
def k0_off39 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1158 : BitVec 32 := 0#32
  let v2386 : BitVec 1 := Scalar.cmpi .sgt v301 c0_i32_1158
  let v2387 : BitVec 32 := Scalar.extui v2386
  let c0_i32_1159 : BitVec 32 := 0#32
  let v2388 : BitVec 1 := Scalar.cmpi .slt v301 c0_i32_1159
  let v2389 : BitVec 32 := Scalar.extui v2388
  let v2390 : BitVec 32 := Scalar.subi v2387 v2389
  let c2_i32_1157 : BitVec 32 := 2#32
  let c0_i32_1160 : BitVec 32 := 0#32
  let v2391 : BitVec 1 := Scalar.cmpi .sgt c2_i32_1157 c0_i32_1160
  let v2392 : BitVec 32 := Scalar.extui v2391
  let c0_i32_1161 : BitVec 32 := 0#32
  let v2393 : BitVec 1 := Scalar.cmpi .slt c2_i32_1157 c0_i32_1161
  let v2394 : BitVec 32 := Scalar.extui v2393
  let v2395 : BitVec 32 := Scalar.subi v2392 v2394
  let v2396 : BitVec 1 := Scalar.cmpi .ne v2390 v2395
  let v2397 : BitVec 32 := Scalar.remsi v301 c2_i32_1157
  let c0_i32_1162 : BitVec 32 := 0#32
  let v2398 : BitVec 1 := Scalar.cmpi .ne v2397 c0_i32_1162
  let v2399 : BitVec 1 := Scalar.andi v2396 v2398
  let v2385 : BitVec 32 := Scalar.divsi v301 c2_i32_1157
  let c1_i32_1163 : BitVec 32 := 1#32
  let v2400 : BitVec 32 := Scalar.subi v2385 c1_i32_1163
  let v2401 : BitVec 32 := Scalar.select v2399 v2400 v2385
  let c2_i32_1164 : BitVec 32 := 2#32
  let v2402 : BitVec 32 := Scalar.muli v2401 c2_i32_1164
  let c1_i32_1165 : BitVec 32 := 1#32
  let v2403 : BitVec 32 := Scalar.muli v41 c1_i32_1165
  let v2404 : BitVec 32 := Scalar.addi v2402 v2403
  let c32_i32_1166 : BitVec 32 := 32#32
  let v2405 : BitVec 32 := Scalar.muli v2404 c32_i32_1166
  let v2412 : Index := Scalar.indexCast v2405
  let c512_1174 : Index := 512#32
  ![v2412.toNat, 512]
def k0_off40 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1179 : BitVec 32 := 0#32
  let v2422 : BitVec 1 := Scalar.cmpi .sgt v311 c0_i32_1179
  let v2423 : BitVec 32 := Scalar.extui v2422
  let c0_i32_1180 : BitVec 32 := 0#32
  let v2424 : BitVec 1 := Scalar.cmpi .slt v311 c0_i32_1180
  let v2425 : BitVec 32 := Scalar.extui v2424
  let v2426 : BitVec 32 := Scalar.subi v2423 v2425
  let c2_i32_1178 : BitVec 32 := 2#32
  let c0_i32_1181 : BitVec 32 := 0#32
  let v2427 : BitVec 1 := Scalar.cmpi .sgt c2_i32_1178 c0_i32_1181
  let v2428 : BitVec 32 := Scalar.extui v2427
  let c0_i32_1182 : BitVec 32 := 0#32
  let v2429 : BitVec 1 := Scalar.cmpi .slt c2_i32_1178 c0_i32_1182
  let v2430 : BitVec 32 := Scalar.extui v2429
  let v2431 : BitVec 32 := Scalar.subi v2428 v2430
  let v2432 : BitVec 1 := Scalar.cmpi .ne v2426 v2431
  let v2433 : BitVec 32 := Scalar.remsi v311 c2_i32_1178
  let c0_i32_1183 : BitVec 32 := 0#32
  let v2434 : BitVec 1 := Scalar.cmpi .ne v2433 c0_i32_1183
  let v2435 : BitVec 1 := Scalar.andi v2432 v2434
  let v2421 : BitVec 32 := Scalar.divsi v311 c2_i32_1178
  let c1_i32_1184 : BitVec 32 := 1#32
  let v2436 : BitVec 32 := Scalar.subi v2421 c1_i32_1184
  let v2437 : BitVec 32 := Scalar.select v2435 v2436 v2421
  let c2_i32_1185 : BitVec 32 := 2#32
  let v2438 : BitVec 32 := Scalar.muli v2437 c2_i32_1185
  let c1_i32_1186 : BitVec 32 := 1#32
  let v2439 : BitVec 32 := Scalar.muli v42 c1_i32_1186
  let v2440 : BitVec 32 := Scalar.addi v2438 v2439
  let c32_i32_1187 : BitVec 32 := 32#32
  let v2441 : BitVec 32 := Scalar.muli v2440 c32_i32_1187
  let v2448 : Index := Scalar.indexCast v2441
  let c768_1195 : Index := 768#32
  ![v2448.toNat, 768]
def k0_off41 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c32_i32_1199 : BitVec 32 := 32#32
  let v2457 : BitVec 32 := Scalar.muli v281 c32_i32_1199
  let v2458 : Index := Scalar.indexCast v2457
  let c0_1200 : Index := 0#32
  ![v2458.toNat, 0]
def k0_off42 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c32_i32_1203 : BitVec 32 := 32#32
  let v2464 : BitVec 32 := Scalar.muli v291 c32_i32_1203
  let v2465 : Index := Scalar.indexCast v2464
  let c256_1204 : Index := 256#32
  ![v2465.toNat, 256]
def k0_off43 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c32_i32_1207 : BitVec 32 := 32#32
  let v2471 : BitVec 32 := Scalar.muli v301 c32_i32_1207
  let v2472 : Index := Scalar.indexCast v2471
  let c512_1208 : Index := 512#32
  ![v2472.toNat, 512]
def k0_off44 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c32_i32_1211 : BitVec 32 := 32#32
  let v2478 : BitVec 32 := Scalar.muli v311 c32_i32_1211
  let v2479 : Index := Scalar.indexCast v2478
  let c768_1212 : Index := 768#32
  ![v2479.toNat, 768]
def k0_off45 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1216 : BitVec 32 := 0#32
  let v2486 : BitVec 1 := Scalar.cmpi .sgt v281 c0_i32_1216
  let v2487 : BitVec 32 := Scalar.extui v2486
  let c0_i32_1217 : BitVec 32 := 0#32
  let v2488 : BitVec 1 := Scalar.cmpi .slt v281 c0_i32_1217
  let v2489 : BitVec 32 := Scalar.extui v2488
  let v2490 : BitVec 32 := Scalar.subi v2487 v2489
  let c1_i32_1215 : BitVec 32 := 1#32
  let c0_i32_1218 : BitVec 32 := 0#32
  let v2491 : BitVec 1 := Scalar.cmpi .sgt c1_i32_1215 c0_i32_1218
  let v2492 : BitVec 32 := Scalar.extui v2491
  let c0_i32_1219 : BitVec 32 := 0#32
  let v2493 : BitVec 1 := Scalar.cmpi .slt c1_i32_1215 c0_i32_1219
  let v2494 : BitVec 32 := Scalar.extui v2493
  let v2495 : BitVec 32 := Scalar.subi v2492 v2494
  let v2496 : BitVec 1 := Scalar.cmpi .ne v2490 v2495
  let v2497 : BitVec 32 := Scalar.remsi v281 c1_i32_1215
  let c0_i32_1220 : BitVec 32 := 0#32
  let v2498 : BitVec 1 := Scalar.cmpi .ne v2497 c0_i32_1220
  let v2499 : BitVec 1 := Scalar.andi v2496 v2498
  let v2485 : BitVec 32 := Scalar.divsi v281 c1_i32_1215
  let c1_i32_1221 : BitVec 32 := 1#32
  let v2500 : BitVec 32 := Scalar.subi v2485 c1_i32_1221
  let v2501 : BitVec 32 := Scalar.select v2499 v2500 v2485
  let c1_i32_1222 : BitVec 32 := 1#32
  let v2502 : BitVec 32 := Scalar.muli v2501 c1_i32_1222
  let c32_i32_1223 : BitVec 32 := 32#32
  let v2503 : BitVec 32 := Scalar.muli v2502 c32_i32_1223
  let c0_i32_1228 : BitVec 32 := 0#32
  ![v2503.toNat, 0]
def k0_dev26 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1226 : BitVec 32 := 1#32
  let v2504 : BitVec 32 := Scalar.muli v271 c1_i32_1226
  let v2505 : BitVec 32 := Scalar.addi c0_i32_1227 v2504
  v2505.toNat
def k0_off46 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1231 : BitVec 32 := 0#32
  let v2513 : BitVec 1 := Scalar.cmpi .sgt v291 c0_i32_1231
  let v2514 : BitVec 32 := Scalar.extui v2513
  let c0_i32_1232 : BitVec 32 := 0#32
  let v2515 : BitVec 1 := Scalar.cmpi .slt v291 c0_i32_1232
  let v2516 : BitVec 32 := Scalar.extui v2515
  let v2517 : BitVec 32 := Scalar.subi v2514 v2516
  let c1_i32_1230 : BitVec 32 := 1#32
  let c0_i32_1233 : BitVec 32 := 0#32
  let v2518 : BitVec 1 := Scalar.cmpi .sgt c1_i32_1230 c0_i32_1233
  let v2519 : BitVec 32 := Scalar.extui v2518
  let c0_i32_1234 : BitVec 32 := 0#32
  let v2520 : BitVec 1 := Scalar.cmpi .slt c1_i32_1230 c0_i32_1234
  let v2521 : BitVec 32 := Scalar.extui v2520
  let v2522 : BitVec 32 := Scalar.subi v2519 v2521
  let v2523 : BitVec 1 := Scalar.cmpi .ne v2517 v2522
  let v2524 : BitVec 32 := Scalar.remsi v291 c1_i32_1230
  let c0_i32_1235 : BitVec 32 := 0#32
  let v2525 : BitVec 1 := Scalar.cmpi .ne v2524 c0_i32_1235
  let v2526 : BitVec 1 := Scalar.andi v2523 v2525
  let v2512 : BitVec 32 := Scalar.divsi v291 c1_i32_1230
  let c1_i32_1236 : BitVec 32 := 1#32
  let v2527 : BitVec 32 := Scalar.subi v2512 c1_i32_1236
  let v2528 : BitVec 32 := Scalar.select v2526 v2527 v2512
  let c1_i32_1237 : BitVec 32 := 1#32
  let v2529 : BitVec 32 := Scalar.muli v2528 c1_i32_1237
  let c32_i32_1238 : BitVec 32 := 32#32
  let v2530 : BitVec 32 := Scalar.muli v2529 c32_i32_1238
  let c256_i32 : BitVec 32 := 256#32
  ![v2530.toNat, 256]
def k0_dev27 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1241 : BitVec 32 := 1#32
  let v2531 : BitVec 32 := Scalar.muli v226 c1_i32_1241
  let v2532 : BitVec 32 := Scalar.addi c0_i32_1242 v2531
  v2532.toNat
def k0_off47 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1245 : BitVec 32 := 0#32
  let v2540 : BitVec 1 := Scalar.cmpi .sgt v301 c0_i32_1245
  let v2541 : BitVec 32 := Scalar.extui v2540
  let c0_i32_1246 : BitVec 32 := 0#32
  let v2542 : BitVec 1 := Scalar.cmpi .slt v301 c0_i32_1246
  let v2543 : BitVec 32 := Scalar.extui v2542
  let v2544 : BitVec 32 := Scalar.subi v2541 v2543
  let c1_i32_1244 : BitVec 32 := 1#32
  let c0_i32_1247 : BitVec 32 := 0#32
  let v2545 : BitVec 1 := Scalar.cmpi .sgt c1_i32_1244 c0_i32_1247
  let v2546 : BitVec 32 := Scalar.extui v2545
  let c0_i32_1248 : BitVec 32 := 0#32
  let v2547 : BitVec 1 := Scalar.cmpi .slt c1_i32_1244 c0_i32_1248
  let v2548 : BitVec 32 := Scalar.extui v2547
  let v2549 : BitVec 32 := Scalar.subi v2546 v2548
  let v2550 : BitVec 1 := Scalar.cmpi .ne v2544 v2549
  let v2551 : BitVec 32 := Scalar.remsi v301 c1_i32_1244
  let c0_i32_1249 : BitVec 32 := 0#32
  let v2552 : BitVec 1 := Scalar.cmpi .ne v2551 c0_i32_1249
  let v2553 : BitVec 1 := Scalar.andi v2550 v2552
  let v2539 : BitVec 32 := Scalar.divsi v301 c1_i32_1244
  let c1_i32_1250 : BitVec 32 := 1#32
  let v2554 : BitVec 32 := Scalar.subi v2539 c1_i32_1250
  let v2555 : BitVec 32 := Scalar.select v2553 v2554 v2539
  let c1_i32_1251 : BitVec 32 := 1#32
  let v2556 : BitVec 32 := Scalar.muli v2555 c1_i32_1251
  let c32_i32_1252 : BitVec 32 := 32#32
  let v2557 : BitVec 32 := Scalar.muli v2556 c32_i32_1252
  let c512_i32 : BitVec 32 := 512#32
  ![v2557.toNat, 512]
def k0_dev28 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1255 : BitVec 32 := 1#32
  let v2558 : BitVec 32 := Scalar.muli v136 c1_i32_1255
  let v2559 : BitVec 32 := Scalar.addi c0_i32_1256 v2558
  v2559.toNat
def k0_off48 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1259 : BitVec 32 := 0#32
  let v2567 : BitVec 1 := Scalar.cmpi .sgt v311 c0_i32_1259
  let v2568 : BitVec 32 := Scalar.extui v2567
  let c0_i32_1260 : BitVec 32 := 0#32
  let v2569 : BitVec 1 := Scalar.cmpi .slt v311 c0_i32_1260
  let v2570 : BitVec 32 := Scalar.extui v2569
  let v2571 : BitVec 32 := Scalar.subi v2568 v2570
  let c1_i32_1258 : BitVec 32 := 1#32
  let c0_i32_1261 : BitVec 32 := 0#32
  let v2572 : BitVec 1 := Scalar.cmpi .sgt c1_i32_1258 c0_i32_1261
  let v2573 : BitVec 32 := Scalar.extui v2572
  let c0_i32_1262 : BitVec 32 := 0#32
  let v2574 : BitVec 1 := Scalar.cmpi .slt c1_i32_1258 c0_i32_1262
  let v2575 : BitVec 32 := Scalar.extui v2574
  let v2576 : BitVec 32 := Scalar.subi v2573 v2575
  let v2577 : BitVec 1 := Scalar.cmpi .ne v2571 v2576
  let v2578 : BitVec 32 := Scalar.remsi v311 c1_i32_1258
  let c0_i32_1263 : BitVec 32 := 0#32
  let v2579 : BitVec 1 := Scalar.cmpi .ne v2578 c0_i32_1263
  let v2580 : BitVec 1 := Scalar.andi v2577 v2579
  let v2566 : BitVec 32 := Scalar.divsi v311 c1_i32_1258
  let c1_i32_1264 : BitVec 32 := 1#32
  let v2581 : BitVec 32 := Scalar.subi v2566 c1_i32_1264
  let v2582 : BitVec 32 := Scalar.select v2580 v2581 v2566
  let c1_i32_1265 : BitVec 32 := 1#32
  let v2583 : BitVec 32 := Scalar.muli v2582 c1_i32_1265
  let c32_i32_1266 : BitVec 32 := 32#32
  let v2584 : BitVec 32 := Scalar.muli v2583 c32_i32_1266
  let c768_i32 : BitVec 32 := 768#32
  ![v2584.toNat, 768]
def k0_dev29 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1269 : BitVec 32 := 1#32
  let v2585 : BitVec 32 := Scalar.muli v181 c1_i32_1269
  let v2586 : BitVec 32 := Scalar.addi c0_i32_1270 v2585
  v2586.toNat
def k0_off49 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1317 : BitVec 32 := 0#32
  let v2634 : BitVec 1 := Scalar.cmpi .sgt v281 c0_i32_1317
  let v2635 : BitVec 32 := Scalar.extui v2634
  let c0_i32_1318 : BitVec 32 := 0#32
  let v2636 : BitVec 1 := Scalar.cmpi .slt v281 c0_i32_1318
  let v2637 : BitVec 32 := Scalar.extui v2636
  let v2638 : BitVec 32 := Scalar.subi v2635 v2637
  let c2_i32_1316 : BitVec 32 := 2#32
  let c0_i32_1319 : BitVec 32 := 0#32
  let v2639 : BitVec 1 := Scalar.cmpi .sgt c2_i32_1316 c0_i32_1319
  let v2640 : BitVec 32 := Scalar.extui v2639
  let c0_i32_1320 : BitVec 32 := 0#32
  let v2641 : BitVec 1 := Scalar.cmpi .slt c2_i32_1316 c0_i32_1320
  let v2642 : BitVec 32 := Scalar.extui v2641
  let v2643 : BitVec 32 := Scalar.subi v2640 v2642
  let v2644 : BitVec 1 := Scalar.cmpi .ne v2638 v2643
  let v2645 : BitVec 32 := Scalar.remsi v281 c2_i32_1316
  let c0_i32_1321 : BitVec 32 := 0#32
  let v2646 : BitVec 1 := Scalar.cmpi .ne v2645 c0_i32_1321
  let v2647 : BitVec 1 := Scalar.andi v2644 v2646
  let v2633 : BitVec 32 := Scalar.divsi v281 c2_i32_1316
  let c1_i32_1322 : BitVec 32 := 1#32
  let v2648 : BitVec 32 := Scalar.subi v2633 c1_i32_1322
  let v2649 : BitVec 32 := Scalar.select v2647 v2648 v2633
  let c2_i32_1323 : BitVec 32 := 2#32
  let v2650 : BitVec 32 := Scalar.muli v2649 c2_i32_1323
  let c32_i32_1324 : BitVec 32 := 32#32
  let v2651 : BitVec 32 := Scalar.muli v2650 c32_i32_1324
  let c0_i32_1329 : BitVec 32 := 0#32
  ![v2651.toNat, 0]
def k0_dev30 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1327 : BitVec 32 := 1#32
  let v2652 : BitVec 32 := Scalar.muli v226 c1_i32_1327
  let v2653 : BitVec 32 := Scalar.addi c0_i32_1328 v2652
  v2653.toNat
def k0_off50 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1332 : BitVec 32 := 0#32
  let v2661 : BitVec 1 := Scalar.cmpi .sgt v291 c0_i32_1332
  let v2662 : BitVec 32 := Scalar.extui v2661
  let c0_i32_1333 : BitVec 32 := 0#32
  let v2663 : BitVec 1 := Scalar.cmpi .slt v291 c0_i32_1333
  let v2664 : BitVec 32 := Scalar.extui v2663
  let v2665 : BitVec 32 := Scalar.subi v2662 v2664
  let c2_i32_1331 : BitVec 32 := 2#32
  let c0_i32_1334 : BitVec 32 := 0#32
  let v2666 : BitVec 1 := Scalar.cmpi .sgt c2_i32_1331 c0_i32_1334
  let v2667 : BitVec 32 := Scalar.extui v2666
  let c0_i32_1335 : BitVec 32 := 0#32
  let v2668 : BitVec 1 := Scalar.cmpi .slt c2_i32_1331 c0_i32_1335
  let v2669 : BitVec 32 := Scalar.extui v2668
  let v2670 : BitVec 32 := Scalar.subi v2667 v2669
  let v2671 : BitVec 1 := Scalar.cmpi .ne v2665 v2670
  let v2672 : BitVec 32 := Scalar.remsi v291 c2_i32_1331
  let c0_i32_1336 : BitVec 32 := 0#32
  let v2673 : BitVec 1 := Scalar.cmpi .ne v2672 c0_i32_1336
  let v2674 : BitVec 1 := Scalar.andi v2671 v2673
  let v2660 : BitVec 32 := Scalar.divsi v291 c2_i32_1331
  let c1_i32_1337 : BitVec 32 := 1#32
  let v2675 : BitVec 32 := Scalar.subi v2660 c1_i32_1337
  let v2676 : BitVec 32 := Scalar.select v2674 v2675 v2660
  let c2_i32_1338 : BitVec 32 := 2#32
  let v2677 : BitVec 32 := Scalar.muli v2676 c2_i32_1338
  let c32_i32_1339 : BitVec 32 := 32#32
  let v2678 : BitVec 32 := Scalar.muli v2677 c32_i32_1339
  let c256_i32_1344 : BitVec 32 := 256#32
  ![v2678.toNat, 256]
def k0_dev31 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1342 : BitVec 32 := 1#32
  let v2679 : BitVec 32 := Scalar.muli v271 c1_i32_1342
  let v2680 : BitVec 32 := Scalar.addi c0_i32_1343 v2679
  v2680.toNat
def k0_off51 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1347 : BitVec 32 := 0#32
  let v2688 : BitVec 1 := Scalar.cmpi .sgt v301 c0_i32_1347
  let v2689 : BitVec 32 := Scalar.extui v2688
  let c0_i32_1348 : BitVec 32 := 0#32
  let v2690 : BitVec 1 := Scalar.cmpi .slt v301 c0_i32_1348
  let v2691 : BitVec 32 := Scalar.extui v2690
  let v2692 : BitVec 32 := Scalar.subi v2689 v2691
  let c2_i32_1346 : BitVec 32 := 2#32
  let c0_i32_1349 : BitVec 32 := 0#32
  let v2693 : BitVec 1 := Scalar.cmpi .sgt c2_i32_1346 c0_i32_1349
  let v2694 : BitVec 32 := Scalar.extui v2693
  let c0_i32_1350 : BitVec 32 := 0#32
  let v2695 : BitVec 1 := Scalar.cmpi .slt c2_i32_1346 c0_i32_1350
  let v2696 : BitVec 32 := Scalar.extui v2695
  let v2697 : BitVec 32 := Scalar.subi v2694 v2696
  let v2698 : BitVec 1 := Scalar.cmpi .ne v2692 v2697
  let v2699 : BitVec 32 := Scalar.remsi v301 c2_i32_1346
  let c0_i32_1351 : BitVec 32 := 0#32
  let v2700 : BitVec 1 := Scalar.cmpi .ne v2699 c0_i32_1351
  let v2701 : BitVec 1 := Scalar.andi v2698 v2700
  let v2687 : BitVec 32 := Scalar.divsi v301 c2_i32_1346
  let c1_i32_1352 : BitVec 32 := 1#32
  let v2702 : BitVec 32 := Scalar.subi v2687 c1_i32_1352
  let v2703 : BitVec 32 := Scalar.select v2701 v2702 v2687
  let c2_i32_1353 : BitVec 32 := 2#32
  let v2704 : BitVec 32 := Scalar.muli v2703 c2_i32_1353
  let c32_i32_1354 : BitVec 32 := 32#32
  let v2705 : BitVec 32 := Scalar.muli v2704 c32_i32_1354
  let c512_i32_1359 : BitVec 32 := 512#32
  ![v2705.toNat, 512]
def k0_dev32 (d0 : Dev nD) : Nat :=
  let c0_i32_1358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_1357 : BitVec 32 := 1#32
  let v2706 : BitVec 32 := Scalar.muli v91 c1_i32_1357
  let v2707 : BitVec 32 := Scalar.addi c0_i32_1358 v2706
  v2707.toNat
def k0_off52 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1362 : BitVec 32 := 0#32
  let v2715 : BitVec 1 := Scalar.cmpi .sgt v311 c0_i32_1362
  let v2716 : BitVec 32 := Scalar.extui v2715
  let c0_i32_1363 : BitVec 32 := 0#32
  let v2717 : BitVec 1 := Scalar.cmpi .slt v311 c0_i32_1363
  let v2718 : BitVec 32 := Scalar.extui v2717
  let v2719 : BitVec 32 := Scalar.subi v2716 v2718
  let c2_i32_1361 : BitVec 32 := 2#32
  let c0_i32_1364 : BitVec 32 := 0#32
  let v2720 : BitVec 1 := Scalar.cmpi .sgt c2_i32_1361 c0_i32_1364
  let v2721 : BitVec 32 := Scalar.extui v2720
  let c0_i32_1365 : BitVec 32 := 0#32
  let v2722 : BitVec 1 := Scalar.cmpi .slt c2_i32_1361 c0_i32_1365
  let v2723 : BitVec 32 := Scalar.extui v2722
  let v2724 : BitVec 32 := Scalar.subi v2721 v2723
  let v2725 : BitVec 1 := Scalar.cmpi .ne v2719 v2724
  let v2726 : BitVec 32 := Scalar.remsi v311 c2_i32_1361
  let c0_i32_1366 : BitVec 32 := 0#32
  let v2727 : BitVec 1 := Scalar.cmpi .ne v2726 c0_i32_1366
  let v2728 : BitVec 1 := Scalar.andi v2725 v2727
  let v2714 : BitVec 32 := Scalar.divsi v311 c2_i32_1361
  let c1_i32_1367 : BitVec 32 := 1#32
  let v2729 : BitVec 32 := Scalar.subi v2714 c1_i32_1367
  let v2730 : BitVec 32 := Scalar.select v2728 v2729 v2714
  let c2_i32_1368 : BitVec 32 := 2#32
  let v2731 : BitVec 32 := Scalar.muli v2730 c2_i32_1368
  let c32_i32_1369 : BitVec 32 := 32#32
  let v2732 : BitVec 32 := Scalar.muli v2731 c32_i32_1369
  let c768_i32_1374 : BitVec 32 := 768#32
  ![v2732.toNat, 768]
def k0_dev33 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1372 : BitVec 32 := 1#32
  let v2733 : BitVec 32 := Scalar.muli v136 c1_i32_1372
  let v2734 : BitVec 32 := Scalar.addi c0_i32_1373 v2733
  v2734.toNat
def k0_off53 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1421 : BitVec 32 := 0#32
  let v2782 : BitVec 1 := Scalar.cmpi .sgt v281 c0_i32_1421
  let v2783 : BitVec 32 := Scalar.extui v2782
  let c0_i32_1422 : BitVec 32 := 0#32
  let v2784 : BitVec 1 := Scalar.cmpi .slt v281 c0_i32_1422
  let v2785 : BitVec 32 := Scalar.extui v2784
  let v2786 : BitVec 32 := Scalar.subi v2783 v2785
  let c4_i32_1420 : BitVec 32 := 4#32
  let c0_i32_1423 : BitVec 32 := 0#32
  let v2787 : BitVec 1 := Scalar.cmpi .sgt c4_i32_1420 c0_i32_1423
  let v2788 : BitVec 32 := Scalar.extui v2787
  let c0_i32_1424 : BitVec 32 := 0#32
  let v2789 : BitVec 1 := Scalar.cmpi .slt c4_i32_1420 c0_i32_1424
  let v2790 : BitVec 32 := Scalar.extui v2789
  let v2791 : BitVec 32 := Scalar.subi v2788 v2790
  let v2792 : BitVec 1 := Scalar.cmpi .ne v2786 v2791
  let v2793 : BitVec 32 := Scalar.remsi v281 c4_i32_1420
  let c0_i32_1425 : BitVec 32 := 0#32
  let v2794 : BitVec 1 := Scalar.cmpi .ne v2793 c0_i32_1425
  let v2795 : BitVec 1 := Scalar.andi v2792 v2794
  let v2781 : BitVec 32 := Scalar.divsi v281 c4_i32_1420
  let c1_i32_1426 : BitVec 32 := 1#32
  let v2796 : BitVec 32 := Scalar.subi v2781 c1_i32_1426
  let v2797 : BitVec 32 := Scalar.select v2795 v2796 v2781
  let c4_i32_1427 : BitVec 32 := 4#32
  let v2798 : BitVec 32 := Scalar.muli v2797 c4_i32_1427
  let c32_i32_1428 : BitVec 32 := 32#32
  let v2799 : BitVec 32 := Scalar.muli v2798 c32_i32_1428
  let c0_i32_1433 : BitVec 32 := 0#32
  ![v2799.toNat, 0]
def k0_dev34 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1431 : BitVec 32 := 1#32
  let v2800 : BitVec 32 := Scalar.muli v181 c1_i32_1431
  let v2801 : BitVec 32 := Scalar.addi c0_i32_1432 v2800
  v2801.toNat
def k0_off54 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1436 : BitVec 32 := 0#32
  let v2809 : BitVec 1 := Scalar.cmpi .sgt v291 c0_i32_1436
  let v2810 : BitVec 32 := Scalar.extui v2809
  let c0_i32_1437 : BitVec 32 := 0#32
  let v2811 : BitVec 1 := Scalar.cmpi .slt v291 c0_i32_1437
  let v2812 : BitVec 32 := Scalar.extui v2811
  let v2813 : BitVec 32 := Scalar.subi v2810 v2812
  let c4_i32_1435 : BitVec 32 := 4#32
  let c0_i32_1438 : BitVec 32 := 0#32
  let v2814 : BitVec 1 := Scalar.cmpi .sgt c4_i32_1435 c0_i32_1438
  let v2815 : BitVec 32 := Scalar.extui v2814
  let c0_i32_1439 : BitVec 32 := 0#32
  let v2816 : BitVec 1 := Scalar.cmpi .slt c4_i32_1435 c0_i32_1439
  let v2817 : BitVec 32 := Scalar.extui v2816
  let v2818 : BitVec 32 := Scalar.subi v2815 v2817
  let v2819 : BitVec 1 := Scalar.cmpi .ne v2813 v2818
  let v2820 : BitVec 32 := Scalar.remsi v291 c4_i32_1435
  let c0_i32_1440 : BitVec 32 := 0#32
  let v2821 : BitVec 1 := Scalar.cmpi .ne v2820 c0_i32_1440
  let v2822 : BitVec 1 := Scalar.andi v2819 v2821
  let v2808 : BitVec 32 := Scalar.divsi v291 c4_i32_1435
  let c1_i32_1441 : BitVec 32 := 1#32
  let v2823 : BitVec 32 := Scalar.subi v2808 c1_i32_1441
  let v2824 : BitVec 32 := Scalar.select v2822 v2823 v2808
  let c4_i32_1442 : BitVec 32 := 4#32
  let v2825 : BitVec 32 := Scalar.muli v2824 c4_i32_1442
  let c32_i32_1443 : BitVec 32 := 32#32
  let v2826 : BitVec 32 := Scalar.muli v2825 c32_i32_1443
  let c256_i32_1448 : BitVec 32 := 256#32
  ![v2826.toNat, 256]
def k0_dev35 (d0 : Dev nD) : Nat :=
  let c0_i32_1447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_1446 : BitVec 32 := 1#32
  let v2827 : BitVec 32 := Scalar.muli v91 c1_i32_1446
  let v2828 : BitVec 32 := Scalar.addi c0_i32_1447 v2827
  v2828.toNat
def k0_off55 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1451 : BitVec 32 := 0#32
  let v2836 : BitVec 1 := Scalar.cmpi .sgt v301 c0_i32_1451
  let v2837 : BitVec 32 := Scalar.extui v2836
  let c0_i32_1452 : BitVec 32 := 0#32
  let v2838 : BitVec 1 := Scalar.cmpi .slt v301 c0_i32_1452
  let v2839 : BitVec 32 := Scalar.extui v2838
  let v2840 : BitVec 32 := Scalar.subi v2837 v2839
  let c4_i32_1450 : BitVec 32 := 4#32
  let c0_i32_1453 : BitVec 32 := 0#32
  let v2841 : BitVec 1 := Scalar.cmpi .sgt c4_i32_1450 c0_i32_1453
  let v2842 : BitVec 32 := Scalar.extui v2841
  let c0_i32_1454 : BitVec 32 := 0#32
  let v2843 : BitVec 1 := Scalar.cmpi .slt c4_i32_1450 c0_i32_1454
  let v2844 : BitVec 32 := Scalar.extui v2843
  let v2845 : BitVec 32 := Scalar.subi v2842 v2844
  let v2846 : BitVec 1 := Scalar.cmpi .ne v2840 v2845
  let v2847 : BitVec 32 := Scalar.remsi v301 c4_i32_1450
  let c0_i32_1455 : BitVec 32 := 0#32
  let v2848 : BitVec 1 := Scalar.cmpi .ne v2847 c0_i32_1455
  let v2849 : BitVec 1 := Scalar.andi v2846 v2848
  let v2835 : BitVec 32 := Scalar.divsi v301 c4_i32_1450
  let c1_i32_1456 : BitVec 32 := 1#32
  let v2850 : BitVec 32 := Scalar.subi v2835 c1_i32_1456
  let v2851 : BitVec 32 := Scalar.select v2849 v2850 v2835
  let c4_i32_1457 : BitVec 32 := 4#32
  let v2852 : BitVec 32 := Scalar.muli v2851 c4_i32_1457
  let c32_i32_1458 : BitVec 32 := 32#32
  let v2853 : BitVec 32 := Scalar.muli v2852 c32_i32_1458
  let c512_i32_1463 : BitVec 32 := 512#32
  ![v2853.toNat, 512]
def k0_dev36 (d0 : Dev nD) : Nat :=
  let c0_i32_1462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1461 : BitVec 32 := 1#32
  let v2854 : BitVec 32 := Scalar.muli v226 c1_i32_1461
  let v2855 : BitVec 32 := Scalar.addi c0_i32_1462 v2854
  v2855.toNat
def k0_off56 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1466 : BitVec 32 := 0#32
  let v2863 : BitVec 1 := Scalar.cmpi .sgt v311 c0_i32_1466
  let v2864 : BitVec 32 := Scalar.extui v2863
  let c0_i32_1467 : BitVec 32 := 0#32
  let v2865 : BitVec 1 := Scalar.cmpi .slt v311 c0_i32_1467
  let v2866 : BitVec 32 := Scalar.extui v2865
  let v2867 : BitVec 32 := Scalar.subi v2864 v2866
  let c4_i32_1465 : BitVec 32 := 4#32
  let c0_i32_1468 : BitVec 32 := 0#32
  let v2868 : BitVec 1 := Scalar.cmpi .sgt c4_i32_1465 c0_i32_1468
  let v2869 : BitVec 32 := Scalar.extui v2868
  let c0_i32_1469 : BitVec 32 := 0#32
  let v2870 : BitVec 1 := Scalar.cmpi .slt c4_i32_1465 c0_i32_1469
  let v2871 : BitVec 32 := Scalar.extui v2870
  let v2872 : BitVec 32 := Scalar.subi v2869 v2871
  let v2873 : BitVec 1 := Scalar.cmpi .ne v2867 v2872
  let v2874 : BitVec 32 := Scalar.remsi v311 c4_i32_1465
  let c0_i32_1470 : BitVec 32 := 0#32
  let v2875 : BitVec 1 := Scalar.cmpi .ne v2874 c0_i32_1470
  let v2876 : BitVec 1 := Scalar.andi v2873 v2875
  let v2862 : BitVec 32 := Scalar.divsi v311 c4_i32_1465
  let c1_i32_1471 : BitVec 32 := 1#32
  let v2877 : BitVec 32 := Scalar.subi v2862 c1_i32_1471
  let v2878 : BitVec 32 := Scalar.select v2876 v2877 v2862
  let c4_i32_1472 : BitVec 32 := 4#32
  let v2879 : BitVec 32 := Scalar.muli v2878 c4_i32_1472
  let c32_i32_1473 : BitVec 32 := 32#32
  let v2880 : BitVec 32 := Scalar.muli v2879 c32_i32_1473
  let c768_i32_1478 : BitVec 32 := 768#32
  ![v2880.toNat, 768]
def k0_dev37 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1476 : BitVec 32 := 1#32
  let v2881 : BitVec 32 := Scalar.muli v271 c1_i32_1476
  let v2882 : BitVec 32 := Scalar.addi c0_i32_1477 v2881
  v2882.toNat
def k0_off57 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1525 : BitVec 32 := 0#32
  let v2930 : BitVec 1 := Scalar.cmpi .sgt v281 c0_i32_1525
  let v2931 : BitVec 32 := Scalar.extui v2930
  let c0_i32_1526 : BitVec 32 := 0#32
  let v2932 : BitVec 1 := Scalar.cmpi .slt v281 c0_i32_1526
  let v2933 : BitVec 32 := Scalar.extui v2932
  let v2934 : BitVec 32 := Scalar.subi v2931 v2933
  let c8_i32_1524 : BitVec 32 := 8#32
  let c0_i32_1527 : BitVec 32 := 0#32
  let v2935 : BitVec 1 := Scalar.cmpi .sgt c8_i32_1524 c0_i32_1527
  let v2936 : BitVec 32 := Scalar.extui v2935
  let c0_i32_1528 : BitVec 32 := 0#32
  let v2937 : BitVec 1 := Scalar.cmpi .slt c8_i32_1524 c0_i32_1528
  let v2938 : BitVec 32 := Scalar.extui v2937
  let v2939 : BitVec 32 := Scalar.subi v2936 v2938
  let v2940 : BitVec 1 := Scalar.cmpi .ne v2934 v2939
  let v2941 : BitVec 32 := Scalar.remsi v281 c8_i32_1524
  let c0_i32_1529 : BitVec 32 := 0#32
  let v2942 : BitVec 1 := Scalar.cmpi .ne v2941 c0_i32_1529
  let v2943 : BitVec 1 := Scalar.andi v2940 v2942
  let v2929 : BitVec 32 := Scalar.divsi v281 c8_i32_1524
  let c1_i32_1530 : BitVec 32 := 1#32
  let v2944 : BitVec 32 := Scalar.subi v2929 c1_i32_1530
  let v2945 : BitVec 32 := Scalar.select v2943 v2944 v2929
  let c8_i32_1531 : BitVec 32 := 8#32
  let v2946 : BitVec 32 := Scalar.muli v2945 c8_i32_1531
  let c32_i32_1532 : BitVec 32 := 32#32
  let v2947 : BitVec 32 := Scalar.muli v2946 c32_i32_1532
  let c0_i32_1537 : BitVec 32 := 0#32
  ![v2947.toNat, 0]
def k0_dev38 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1535 : BitVec 32 := 1#32
  let v2948 : BitVec 32 := Scalar.muli v136 c1_i32_1535
  let v2949 : BitVec 32 := Scalar.addi c0_i32_1536 v2948
  v2949.toNat
def k0_off58 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1540 : BitVec 32 := 0#32
  let v2957 : BitVec 1 := Scalar.cmpi .sgt v291 c0_i32_1540
  let v2958 : BitVec 32 := Scalar.extui v2957
  let c0_i32_1541 : BitVec 32 := 0#32
  let v2959 : BitVec 1 := Scalar.cmpi .slt v291 c0_i32_1541
  let v2960 : BitVec 32 := Scalar.extui v2959
  let v2961 : BitVec 32 := Scalar.subi v2958 v2960
  let c8_i32_1539 : BitVec 32 := 8#32
  let c0_i32_1542 : BitVec 32 := 0#32
  let v2962 : BitVec 1 := Scalar.cmpi .sgt c8_i32_1539 c0_i32_1542
  let v2963 : BitVec 32 := Scalar.extui v2962
  let c0_i32_1543 : BitVec 32 := 0#32
  let v2964 : BitVec 1 := Scalar.cmpi .slt c8_i32_1539 c0_i32_1543
  let v2965 : BitVec 32 := Scalar.extui v2964
  let v2966 : BitVec 32 := Scalar.subi v2963 v2965
  let v2967 : BitVec 1 := Scalar.cmpi .ne v2961 v2966
  let v2968 : BitVec 32 := Scalar.remsi v291 c8_i32_1539
  let c0_i32_1544 : BitVec 32 := 0#32
  let v2969 : BitVec 1 := Scalar.cmpi .ne v2968 c0_i32_1544
  let v2970 : BitVec 1 := Scalar.andi v2967 v2969
  let v2956 : BitVec 32 := Scalar.divsi v291 c8_i32_1539
  let c1_i32_1545 : BitVec 32 := 1#32
  let v2971 : BitVec 32 := Scalar.subi v2956 c1_i32_1545
  let v2972 : BitVec 32 := Scalar.select v2970 v2971 v2956
  let c8_i32_1546 : BitVec 32 := 8#32
  let v2973 : BitVec 32 := Scalar.muli v2972 c8_i32_1546
  let c32_i32_1547 : BitVec 32 := 32#32
  let v2974 : BitVec 32 := Scalar.muli v2973 c32_i32_1547
  let c256_i32_1552 : BitVec 32 := 256#32
  ![v2974.toNat, 256]
def k0_dev39 (d0 : Dev nD) : Nat :=
  let c0_i32_1551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1550 : BitVec 32 := 1#32
  let v2975 : BitVec 32 := Scalar.muli v181 c1_i32_1550
  let v2976 : BitVec 32 := Scalar.addi c0_i32_1551 v2975
  v2976.toNat
def k0_off59 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1555 : BitVec 32 := 0#32
  let v2984 : BitVec 1 := Scalar.cmpi .sgt v301 c0_i32_1555
  let v2985 : BitVec 32 := Scalar.extui v2984
  let c0_i32_1556 : BitVec 32 := 0#32
  let v2986 : BitVec 1 := Scalar.cmpi .slt v301 c0_i32_1556
  let v2987 : BitVec 32 := Scalar.extui v2986
  let v2988 : BitVec 32 := Scalar.subi v2985 v2987
  let c8_i32_1554 : BitVec 32 := 8#32
  let c0_i32_1557 : BitVec 32 := 0#32
  let v2989 : BitVec 1 := Scalar.cmpi .sgt c8_i32_1554 c0_i32_1557
  let v2990 : BitVec 32 := Scalar.extui v2989
  let c0_i32_1558 : BitVec 32 := 0#32
  let v2991 : BitVec 1 := Scalar.cmpi .slt c8_i32_1554 c0_i32_1558
  let v2992 : BitVec 32 := Scalar.extui v2991
  let v2993 : BitVec 32 := Scalar.subi v2990 v2992
  let v2994 : BitVec 1 := Scalar.cmpi .ne v2988 v2993
  let v2995 : BitVec 32 := Scalar.remsi v301 c8_i32_1554
  let c0_i32_1559 : BitVec 32 := 0#32
  let v2996 : BitVec 1 := Scalar.cmpi .ne v2995 c0_i32_1559
  let v2997 : BitVec 1 := Scalar.andi v2994 v2996
  let v2983 : BitVec 32 := Scalar.divsi v301 c8_i32_1554
  let c1_i32_1560 : BitVec 32 := 1#32
  let v2998 : BitVec 32 := Scalar.subi v2983 c1_i32_1560
  let v2999 : BitVec 32 := Scalar.select v2997 v2998 v2983
  let c8_i32_1561 : BitVec 32 := 8#32
  let v3000 : BitVec 32 := Scalar.muli v2999 c8_i32_1561
  let c32_i32_1562 : BitVec 32 := 32#32
  let v3001 : BitVec 32 := Scalar.muli v3000 c32_i32_1562
  let c512_i32_1567 : BitVec 32 := 512#32
  ![v3001.toNat, 512]
def k0_dev40 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1565 : BitVec 32 := 1#32
  let v3002 : BitVec 32 := Scalar.muli v271 c1_i32_1565
  let v3003 : BitVec 32 := Scalar.addi c0_i32_1566 v3002
  v3003.toNat
def k0_off60 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1570 : BitVec 32 := 0#32
  let v3011 : BitVec 1 := Scalar.cmpi .sgt v311 c0_i32_1570
  let v3012 : BitVec 32 := Scalar.extui v3011
  let c0_i32_1571 : BitVec 32 := 0#32
  let v3013 : BitVec 1 := Scalar.cmpi .slt v311 c0_i32_1571
  let v3014 : BitVec 32 := Scalar.extui v3013
  let v3015 : BitVec 32 := Scalar.subi v3012 v3014
  let c8_i32_1569 : BitVec 32 := 8#32
  let c0_i32_1572 : BitVec 32 := 0#32
  let v3016 : BitVec 1 := Scalar.cmpi .sgt c8_i32_1569 c0_i32_1572
  let v3017 : BitVec 32 := Scalar.extui v3016
  let c0_i32_1573 : BitVec 32 := 0#32
  let v3018 : BitVec 1 := Scalar.cmpi .slt c8_i32_1569 c0_i32_1573
  let v3019 : BitVec 32 := Scalar.extui v3018
  let v3020 : BitVec 32 := Scalar.subi v3017 v3019
  let v3021 : BitVec 1 := Scalar.cmpi .ne v3015 v3020
  let v3022 : BitVec 32 := Scalar.remsi v311 c8_i32_1569
  let c0_i32_1574 : BitVec 32 := 0#32
  let v3023 : BitVec 1 := Scalar.cmpi .ne v3022 c0_i32_1574
  let v3024 : BitVec 1 := Scalar.andi v3021 v3023
  let v3010 : BitVec 32 := Scalar.divsi v311 c8_i32_1569
  let c1_i32_1575 : BitVec 32 := 1#32
  let v3025 : BitVec 32 := Scalar.subi v3010 c1_i32_1575
  let v3026 : BitVec 32 := Scalar.select v3024 v3025 v3010
  let c8_i32_1576 : BitVec 32 := 8#32
  let v3027 : BitVec 32 := Scalar.muli v3026 c8_i32_1576
  let c32_i32_1577 : BitVec 32 := 32#32
  let v3028 : BitVec 32 := Scalar.muli v3027 c32_i32_1577
  let c768_i32_1582 : BitVec 32 := 768#32
  ![v3028.toNat, 768]
def k0_dev41 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_1580 : BitVec 32 := 1#32
  let v3029 : BitVec 32 := Scalar.muli v91 c1_i32_1580
  let v3030 : BitVec 32 := Scalar.addi c0_i32_1581 v3029
  v3030.toNat
def k0_off61 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_13 : BitVec 32 := 1#32
  let v39 : BitVec 32 := Scalar.andi v37 c1_i32_13
  let v40 : BitVec 32 := Scalar.xori v38 v39
  let c16_i32 : BitVec 32 := 16#32
  let v272 : BitVec 32 := Scalar.muli v40 c16_i32
  let v273 : BitVec 32 := Scalar.addi c0_i32_125 v272
  let c1_i32_14 : BitVec 32 := 1#32
  let v41 : BitVec 32 := Scalar.andi v37 c1_i32_14
  let c8_i32_126 : BitVec 32 := 8#32
  let v274 : BitVec 32 := Scalar.muli v41 c8_i32_126
  let v275 : BitVec 32 := Scalar.addi v273 v274
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c4_i32 : BitVec 32 := 4#32
  let v276 : BitVec 32 := Scalar.muli v42 c4_i32
  let v277 : BitVec 32 := Scalar.addi v275 v276
  let c1_i32_16 : BitVec 32 := 1#32
  let v43 : BitVec 32 := Scalar.shrsi v37 c1_i32_16
  let c1_i32_17 : BitVec 32 := 1#32
  let v44 : BitVec 32 := Scalar.andi v43 c1_i32_17
  let c2_i32_127 : BitVec 32 := 2#32
  let v278 : BitVec 32 := Scalar.muli v44 c2_i32_127
  let v279 : BitVec 32 := Scalar.addi v277 v278
  let c1_i32_18 : BitVec 32 := 1#32
  let v45 : BitVec 32 := Scalar.shrsi v19 c1_i32_18
  let c1_i32_19 : BitVec 32 := 1#32
  let v46 : BitVec 32 := Scalar.andi v45 c1_i32_19
  let c1_i32_128 : BitVec 32 := 1#32
  let v280 : BitVec 32 := Scalar.muli v46 c1_i32_128
  let v281 : BitVec 32 := Scalar.addi v279 v280
  let c0_i32_1629 : BitVec 32 := 0#32
  let v3078 : BitVec 1 := Scalar.cmpi .sgt v281 c0_i32_1629
  let v3079 : BitVec 32 := Scalar.extui v3078
  let c0_i32_1630 : BitVec 32 := 0#32
  let v3080 : BitVec 1 := Scalar.cmpi .slt v281 c0_i32_1630
  let v3081 : BitVec 32 := Scalar.extui v3080
  let v3082 : BitVec 32 := Scalar.subi v3079 v3081
  let c16_i32_1628 : BitVec 32 := 16#32
  let c0_i32_1631 : BitVec 32 := 0#32
  let v3083 : BitVec 1 := Scalar.cmpi .sgt c16_i32_1628 c0_i32_1631
  let v3084 : BitVec 32 := Scalar.extui v3083
  let c0_i32_1632 : BitVec 32 := 0#32
  let v3085 : BitVec 1 := Scalar.cmpi .slt c16_i32_1628 c0_i32_1632
  let v3086 : BitVec 32 := Scalar.extui v3085
  let v3087 : BitVec 32 := Scalar.subi v3084 v3086
  let v3088 : BitVec 1 := Scalar.cmpi .ne v3082 v3087
  let v3089 : BitVec 32 := Scalar.remsi v281 c16_i32_1628
  let c0_i32_1633 : BitVec 32 := 0#32
  let v3090 : BitVec 1 := Scalar.cmpi .ne v3089 c0_i32_1633
  let v3091 : BitVec 1 := Scalar.andi v3088 v3090
  let v3077 : BitVec 32 := Scalar.divsi v281 c16_i32_1628
  let c1_i32_1634 : BitVec 32 := 1#32
  let v3092 : BitVec 32 := Scalar.subi v3077 c1_i32_1634
  let v3093 : BitVec 32 := Scalar.select v3091 v3092 v3077
  let c16_i32_1635 : BitVec 32 := 16#32
  let v3094 : BitVec 32 := Scalar.muli v3093 c16_i32_1635
  let c32_i32_1636 : BitVec 32 := 32#32
  let v3095 : BitVec 32 := Scalar.muli v3094 c32_i32_1636
  let c0_i32_1641 : BitVec 32 := 0#32
  ![v3095.toNat, 0]
def k0_dev42 (d0 : Dev nD) : Nat :=
  let c0_i32_1640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_1639 : BitVec 32 := 1#32
  let v3096 : BitVec 32 := Scalar.muli v91 c1_i32_1639
  let v3097 : BitVec 32 := Scalar.addi c0_i32_1640 v3096
  v3097.toNat
def k0_off62 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_14 : BitVec 32 := 1#32
  let v41 : BitVec 32 := Scalar.andi v37 c1_i32_14
  let c16_i32_129 : BitVec 32 := 16#32
  let v282 : BitVec 32 := Scalar.muli v41 c16_i32_129
  let v283 : BitVec 32 := Scalar.addi c0_i32_130 v282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c8_i32_131 : BitVec 32 := 8#32
  let v284 : BitVec 32 := Scalar.muli v42 c8_i32_131
  let v285 : BitVec 32 := Scalar.addi v283 v284
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c4_i32_132 : BitVec 32 := 4#32
  let v286 : BitVec 32 := Scalar.muli v40 c4_i32_132
  let v287 : BitVec 32 := Scalar.addi v285 v286
  let c1_i32_18 : BitVec 32 := 1#32
  let v45 : BitVec 32 := Scalar.shrsi v19 c1_i32_18
  let c1_i32_19 : BitVec 32 := 1#32
  let v46 : BitVec 32 := Scalar.andi v45 c1_i32_19
  let c2_i32_133 : BitVec 32 := 2#32
  let v288 : BitVec 32 := Scalar.muli v46 c2_i32_133
  let v289 : BitVec 32 := Scalar.addi v287 v288
  let c1_i32_16 : BitVec 32 := 1#32
  let v43 : BitVec 32 := Scalar.shrsi v37 c1_i32_16
  let c1_i32_17 : BitVec 32 := 1#32
  let v44 : BitVec 32 := Scalar.andi v43 c1_i32_17
  let c1_i32_134 : BitVec 32 := 1#32
  let v290 : BitVec 32 := Scalar.muli v44 c1_i32_134
  let v291 : BitVec 32 := Scalar.addi v289 v290
  let c0_i32_1644 : BitVec 32 := 0#32
  let v3105 : BitVec 1 := Scalar.cmpi .sgt v291 c0_i32_1644
  let v3106 : BitVec 32 := Scalar.extui v3105
  let c0_i32_1645 : BitVec 32 := 0#32
  let v3107 : BitVec 1 := Scalar.cmpi .slt v291 c0_i32_1645
  let v3108 : BitVec 32 := Scalar.extui v3107
  let v3109 : BitVec 32 := Scalar.subi v3106 v3108
  let c16_i32_1643 : BitVec 32 := 16#32
  let c0_i32_1646 : BitVec 32 := 0#32
  let v3110 : BitVec 1 := Scalar.cmpi .sgt c16_i32_1643 c0_i32_1646
  let v3111 : BitVec 32 := Scalar.extui v3110
  let c0_i32_1647 : BitVec 32 := 0#32
  let v3112 : BitVec 1 := Scalar.cmpi .slt c16_i32_1643 c0_i32_1647
  let v3113 : BitVec 32 := Scalar.extui v3112
  let v3114 : BitVec 32 := Scalar.subi v3111 v3113
  let v3115 : BitVec 1 := Scalar.cmpi .ne v3109 v3114
  let v3116 : BitVec 32 := Scalar.remsi v291 c16_i32_1643
  let c0_i32_1648 : BitVec 32 := 0#32
  let v3117 : BitVec 1 := Scalar.cmpi .ne v3116 c0_i32_1648
  let v3118 : BitVec 1 := Scalar.andi v3115 v3117
  let v3104 : BitVec 32 := Scalar.divsi v291 c16_i32_1643
  let c1_i32_1649 : BitVec 32 := 1#32
  let v3119 : BitVec 32 := Scalar.subi v3104 c1_i32_1649
  let v3120 : BitVec 32 := Scalar.select v3118 v3119 v3104
  let c16_i32_1650 : BitVec 32 := 16#32
  let v3121 : BitVec 32 := Scalar.muli v3120 c16_i32_1650
  let c32_i32_1651 : BitVec 32 := 32#32
  let v3122 : BitVec 32 := Scalar.muli v3121 c32_i32_1651
  let c256_i32_1656 : BitVec 32 := 256#32
  ![v3122.toNat, 256]
def k0_dev43 (d0 : Dev nD) : Nat :=
  let c0_i32_1655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1654 : BitVec 32 := 1#32
  let v3123 : BitVec 32 := Scalar.muli v136 c1_i32_1654
  let v3124 : BitVec 32 := Scalar.addi c0_i32_1655 v3123
  v3124.toNat
def k0_off63 (d0 : Dev nD) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_15 : BitVec 32 := 1#32
  let v42 : BitVec 32 := Scalar.andi v19 c1_i32_15
  let c16_i32_135 : BitVec 32 := 16#32
  let v292 : BitVec 32 := Scalar.muli v42 c16_i32_135
  let v293 : BitVec 32 := Scalar.addi c0_i32_136 v292
  let c1_i32_18 : BitVec 32 := 1#32
  let v45 : BitVec 32 := Scalar.shrsi v19 c1_i32_18
  let c1_i32_19 : BitVec 32 := 1#32
  let v46 : BitVec 32 := Scalar.andi v45 c1_i32_19
  let c8_i32_137 : BitVec 32 := 8#32
  let v294 : BitVec 32 := Scalar.muli v46 c8_i32_137
  let v295 : BitVec 32 := Scalar.addi v293 v294
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c4_i32_138 : BitVec 32 := 4#32
  let v296 : BitVec 32 := Scalar.muli v44 c4_i32_138
  let v297 : BitVec 32 := Scalar.addi v295 v296
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c2_i32_139 : BitVec 32 := 2#32
  let v298 : BitVec 32 := Scalar.muli v40 c2_i32_139
  let v299 : BitVec 32 := Scalar.addi v297 v298
  let c1_i32_14 : BitVec 32 := 1#32
  let v41 : BitVec 32 := Scalar.andi v37 c1_i32_14
  let c1_i32_140 : BitVec 32 := 1#32
  let v300 : BitVec 32 := Scalar.muli v41 c1_i32_140
  let v301 : BitVec 32 := Scalar.addi v299 v300
  let c0_i32_1659 : BitVec 32 := 0#32
  let v3132 : BitVec 1 := Scalar.cmpi .sgt v301 c0_i32_1659
  let v3133 : BitVec 32 := Scalar.extui v3132
  let c0_i32_1660 : BitVec 32 := 0#32
  let v3134 : BitVec 1 := Scalar.cmpi .slt v301 c0_i32_1660
  let v3135 : BitVec 32 := Scalar.extui v3134
  let v3136 : BitVec 32 := Scalar.subi v3133 v3135
  let c16_i32_1658 : BitVec 32 := 16#32
  let c0_i32_1661 : BitVec 32 := 0#32
  let v3137 : BitVec 1 := Scalar.cmpi .sgt c16_i32_1658 c0_i32_1661
  let v3138 : BitVec 32 := Scalar.extui v3137
  let c0_i32_1662 : BitVec 32 := 0#32
  let v3139 : BitVec 1 := Scalar.cmpi .slt c16_i32_1658 c0_i32_1662
  let v3140 : BitVec 32 := Scalar.extui v3139
  let v3141 : BitVec 32 := Scalar.subi v3138 v3140
  let v3142 : BitVec 1 := Scalar.cmpi .ne v3136 v3141
  let v3143 : BitVec 32 := Scalar.remsi v301 c16_i32_1658
  let c0_i32_1663 : BitVec 32 := 0#32
  let v3144 : BitVec 1 := Scalar.cmpi .ne v3143 c0_i32_1663
  let v3145 : BitVec 1 := Scalar.andi v3142 v3144
  let v3131 : BitVec 32 := Scalar.divsi v301 c16_i32_1658
  let c1_i32_1664 : BitVec 32 := 1#32
  let v3146 : BitVec 32 := Scalar.subi v3131 c1_i32_1664
  let v3147 : BitVec 32 := Scalar.select v3145 v3146 v3131
  let c16_i32_1665 : BitVec 32 := 16#32
  let v3148 : BitVec 32 := Scalar.muli v3147 c16_i32_1665
  let c32_i32_1666 : BitVec 32 := 32#32
  let v3149 : BitVec 32 := Scalar.muli v3148 c32_i32_1666
  let c512_i32_1671 : BitVec 32 := 512#32
  ![v3149.toNat, 512]
def k0_dev44 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1669 : BitVec 32 := 1#32
  let v3150 : BitVec 32 := Scalar.muli v181 c1_i32_1669
  let v3151 : BitVec 32 := Scalar.addi c0_i32_1670 v3150
  v3151.toNat
def k0_off64 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_16 : BitVec 32 := 1#32
  let v43 : BitVec 32 := Scalar.shrsi v37 c1_i32_16
  let c1_i32_17 : BitVec 32 := 1#32
  let v44 : BitVec 32 := Scalar.andi v43 c1_i32_17
  let c16_i32_141 : BitVec 32 := 16#32
  let v302 : BitVec 32 := Scalar.muli v44 c16_i32_141
  let v303 : BitVec 32 := Scalar.addi c0_i32_142 v302
  let c2_i32_12 : BitVec 32 := 2#32
  let v38 : BitVec 32 := Scalar.remsi v20 c2_i32_12
  let c1_i32_13 : BitVec 32 := 1#32
  let v39 : BitVec 32 := Scalar.andi v37 c1_i32_13
  let v40 : BitVec 32 := Scalar.xori v38 v39
  let c8_i32_143 : BitVec 32 := 8#32
  let v304 : BitVec 32 := Scalar.muli v40 c8_i32_143
  let v305 : BitVec 32 := Scalar.addi v303 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v45 : BitVec 32 := Scalar.shrsi v19 c1_i32_18
  let c1_i32_19 : BitVec 32 := 1#32
  let v46 : BitVec 32 := Scalar.andi v45 c1_i32_19
  let c4_i32_144 : BitVec 32 := 4#32
  let v306 : BitVec 32 := Scalar.muli v46 c4_i32_144
  let v307 : BitVec 32 := Scalar.addi v305 v306
  let c1_i32_14 : BitVec 32 := 1#32
  let v41 : BitVec 32 := Scalar.andi v37 c1_i32_14
  let c2_i32_145 : BitVec 32 := 2#32
  let v308 : BitVec 32 := Scalar.muli v41 c2_i32_145
  let v309 : BitVec 32 := Scalar.addi v307 v308
  let c1_i32_15 : BitVec 32 := 1#32
  let v42 : BitVec 32 := Scalar.andi v19 c1_i32_15
  let c1_i32_146 : BitVec 32 := 1#32
  let v310 : BitVec 32 := Scalar.muli v42 c1_i32_146
  let v311 : BitVec 32 := Scalar.addi v309 v310
  let c0_i32_1674 : BitVec 32 := 0#32
  let v3159 : BitVec 1 := Scalar.cmpi .sgt v311 c0_i32_1674
  let v3160 : BitVec 32 := Scalar.extui v3159
  let c0_i32_1675 : BitVec 32 := 0#32
  let v3161 : BitVec 1 := Scalar.cmpi .slt v311 c0_i32_1675
  let v3162 : BitVec 32 := Scalar.extui v3161
  let v3163 : BitVec 32 := Scalar.subi v3160 v3162
  let c16_i32_1673 : BitVec 32 := 16#32
  let c0_i32_1676 : BitVec 32 := 0#32
  let v3164 : BitVec 1 := Scalar.cmpi .sgt c16_i32_1673 c0_i32_1676
  let v3165 : BitVec 32 := Scalar.extui v3164
  let c0_i32_1677 : BitVec 32 := 0#32
  let v3166 : BitVec 1 := Scalar.cmpi .slt c16_i32_1673 c0_i32_1677
  let v3167 : BitVec 32 := Scalar.extui v3166
  let v3168 : BitVec 32 := Scalar.subi v3165 v3167
  let v3169 : BitVec 1 := Scalar.cmpi .ne v3163 v3168
  let v3170 : BitVec 32 := Scalar.remsi v311 c16_i32_1673
  let c0_i32_1678 : BitVec 32 := 0#32
  let v3171 : BitVec 1 := Scalar.cmpi .ne v3170 c0_i32_1678
  let v3172 : BitVec 1 := Scalar.andi v3169 v3171
  let v3158 : BitVec 32 := Scalar.divsi v311 c16_i32_1673
  let c1_i32_1679 : BitVec 32 := 1#32
  let v3173 : BitVec 32 := Scalar.subi v3158 c1_i32_1679
  let v3174 : BitVec 32 := Scalar.select v3172 v3173 v3158
  let c16_i32_1680 : BitVec 32 := 16#32
  let v3175 : BitVec 32 := Scalar.muli v3174 c16_i32_1680
  let c32_i32_1681 : BitVec 32 := 32#32
  let v3176 : BitVec 32 := Scalar.muli v3175 c32_i32_1681
  let c768_i32_1686 : BitVec 32 := 768#32
  ![v3176.toNat, 768]
def k0_dev45 (d0 : Dev nD) : Nat :=
  let c0_i32_1685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1684 : BitVec 32 := 1#32
  let v3177 : BitVec 32 := Scalar.muli v226 c1_i32_1684
  let v3178 : BitVec 32 := Scalar.addi c0_i32_1685 v3177
  v3178.toNat
def k0_dev46 (d0 : Dev nD) : Nat :=
  let c0_i32_1734_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let v48 : BitVec 1 := Scalar.cmpi .sgt v2 c0_i32_21
  let v49 : BitVec 32 := Scalar.extui v48
  let c0_i32_22 : BitVec 32 := 0#32
  let v50 : BitVec 1 := Scalar.cmpi .slt v2 c0_i32_22
  let v51 : BitVec 32 := Scalar.extui v50
  let v52 : BitVec 32 := Scalar.subi v49 v51
  let c8_i32_20 : BitVec 32 := 8#32
  let c0_i32_23 : BitVec 32 := 0#32
  let v53 : BitVec 1 := Scalar.cmpi .sgt c8_i32_20 c0_i32_23
  let v54 : BitVec 32 := Scalar.extui v53
  let c0_i32_24 : BitVec 32 := 0#32
  let v55 : BitVec 1 := Scalar.cmpi .slt c8_i32_20 c0_i32_24
  let v56 : BitVec 32 := Scalar.extui v55
  let v57 : BitVec 32 := Scalar.subi v54 v56
  let v58 : BitVec 1 := Scalar.cmpi .ne v52 v57
  let v59 : BitVec 32 := Scalar.remsi v2 c8_i32_20
  let c0_i32_25 : BitVec 32 := 0#32
  let v60 : BitVec 1 := Scalar.cmpi .ne v59 c0_i32_25
  let v61 : BitVec 1 := Scalar.andi v58 v60
  let v47 : BitVec 32 := Scalar.divsi v2 c8_i32_20
  let c1_i32_26 : BitVec 32 := 1#32
  let v62 : BitVec 32 := Scalar.subi v47 c1_i32_26
  let v63 : BitVec 32 := Scalar.select v61 v62 v47
  let c8_i32_38 : BitVec 32 := 8#32
  let v86 : BitVec 32 := Scalar.muli v63 c8_i32_38
  let c8_i32_27 : BitVec 32 := 8#32
  let v64 : BitVec 32 := Scalar.remsi v2 c8_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v64 c2_i32_28
  let c0_i32_33 : BitVec 32 := 0#32
  let v78 : BitVec 1 := Scalar.cmpi .ne v77 c0_i32_33
  let v79 : BitVec 1 := Scalar.andi v76 v78
  let v65 : BitVec 32 := Scalar.divsi v64 c2_i32_28
  let c1_i32_34 : BitVec 32 := 1#32
  let v80 : BitVec 32 := Scalar.subi v65 c1_i32_34
  let v81 : BitVec 32 := Scalar.select v79 v80 v65
  let c2_i32_39 : BitVec 32 := 2#32
  let v87 : BitVec 32 := Scalar.muli v81 c2_i32_39
  let v88 : BitVec 32 := Scalar.addi v86 v87
  let c1_i32_37 : BitVec 32 := 1#32
  let c2_i32_35 : BitVec 32 := 2#32
  let v82 : BitVec 32 := Scalar.remsi v64 c2_i32_35
  let c1_i32_36 : BitVec 32 := 1#32
  let v83 : BitVec 32 := Scalar.andi v81 c1_i32_36
  let v84 : BitVec 32 := Scalar.xori v82 v83
  let v85 : BitVec 32 := Scalar.subi c1_i32_37 v84
  let c1_i32_40 : BitVec 32 := 1#32
  let v89 : BitVec 32 := Scalar.andi v81 c1_i32_40
  let v90 : BitVec 32 := Scalar.xori v85 v89
  let v91 : BitVec 32 := Scalar.addi v88 v90
  let c1_i32_1733_r0 : BitVec 32 := 1#32
  let v3226_r0 : BitVec 32 := Scalar.muli v91 c1_i32_1733_r0
  let v3227_r0 : BitVec 32 := Scalar.addi c0_i32_1734_r0 v3226_r0
  v3227_r0.toNat
def k0_dev47 (d0 : Dev nD) : Nat :=
  let c0_i32_1737_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v93 : BitVec 1 := Scalar.cmpi .sgt v2 c0_i32_42
  let v94 : BitVec 32 := Scalar.extui v93
  let c0_i32_43 : BitVec 32 := 0#32
  let v95 : BitVec 1 := Scalar.cmpi .slt v2 c0_i32_43
  let v96 : BitVec 32 := Scalar.extui v95
  let v97 : BitVec 32 := Scalar.subi v94 v96
  let c8_i32_41 : BitVec 32 := 8#32
  let c0_i32_44 : BitVec 32 := 0#32
  let v98 : BitVec 1 := Scalar.cmpi .sgt c8_i32_41 c0_i32_44
  let v99 : BitVec 32 := Scalar.extui v98
  let c0_i32_45 : BitVec 32 := 0#32
  let v100 : BitVec 1 := Scalar.cmpi .slt c8_i32_41 c0_i32_45
  let v101 : BitVec 32 := Scalar.extui v100
  let v102 : BitVec 32 := Scalar.subi v99 v101
  let v103 : BitVec 1 := Scalar.cmpi .ne v97 v102
  let v104 : BitVec 32 := Scalar.remsi v2 c8_i32_41
  let c0_i32_46 : BitVec 32 := 0#32
  let v105 : BitVec 1 := Scalar.cmpi .ne v104 c0_i32_46
  let v106 : BitVec 1 := Scalar.andi v103 v105
  let v92 : BitVec 32 := Scalar.divsi v2 c8_i32_41
  let c1_i32_47 : BitVec 32 := 1#32
  let v107 : BitVec 32 := Scalar.subi v92 c1_i32_47
  let v108 : BitVec 32 := Scalar.select v106 v107 v92
  let c8_i32_59 : BitVec 32 := 8#32
  let v131 : BitVec 32 := Scalar.muli v108 c8_i32_59
  let c8_i32_48 : BitVec 32 := 8#32
  let v109 : BitVec 32 := Scalar.remsi v2 c8_i32_48
  let c0_i32_50 : BitVec 32 := 0#32
  let v111 : BitVec 1 := Scalar.cmpi .sgt v109 c0_i32_50
  let v112 : BitVec 32 := Scalar.extui v111
  let c0_i32_51 : BitVec 32 := 0#32
  let v113 : BitVec 1 := Scalar.cmpi .slt v109 c0_i32_51
  let v114 : BitVec 32 := Scalar.extui v113
  let v115 : BitVec 32 := Scalar.subi v112 v114
  let c2_i32_49 : BitVec 32 := 2#32
  let c0_i32_52 : BitVec 32 := 0#32
  let v116 : BitVec 1 := Scalar.cmpi .sgt c2_i32_49 c0_i32_52
  let v117 : BitVec 32 := Scalar.extui v116
  let c0_i32_53 : BitVec 32 := 0#32
  let v118 : BitVec 1 := Scalar.cmpi .slt c2_i32_49 c0_i32_53
  let v119 : BitVec 32 := Scalar.extui v118
  let v120 : BitVec 32 := Scalar.subi v117 v119
  let v121 : BitVec 1 := Scalar.cmpi .ne v115 v120
  let v122 : BitVec 32 := Scalar.remsi v109 c2_i32_49
  let c0_i32_54 : BitVec 32 := 0#32
  let v123 : BitVec 1 := Scalar.cmpi .ne v122 c0_i32_54
  let v124 : BitVec 1 := Scalar.andi v121 v123
  let v110 : BitVec 32 := Scalar.divsi v109 c2_i32_49
  let c1_i32_55 : BitVec 32 := 1#32
  let v125 : BitVec 32 := Scalar.subi v110 c1_i32_55
  let v126 : BitVec 32 := Scalar.select v124 v125 v110
  let c1_i32_58 : BitVec 32 := 1#32
  let v130 : BitVec 32 := Scalar.xori v126 c1_i32_58
  let c2_i32_60 : BitVec 32 := 2#32
  let v132 : BitVec 32 := Scalar.muli v130 c2_i32_60
  let v133 : BitVec 32 := Scalar.addi v131 v132
  let c2_i32_56 : BitVec 32 := 2#32
  let v127 : BitVec 32 := Scalar.remsi v109 c2_i32_56
  let c1_i32_57 : BitVec 32 := 1#32
  let v128 : BitVec 32 := Scalar.andi v126 c1_i32_57
  let v129 : BitVec 32 := Scalar.xori v127 v128
  let c1_i32_61 : BitVec 32 := 1#32
  let v134 : BitVec 32 := Scalar.andi v130 c1_i32_61
  let v135 : BitVec 32 := Scalar.xori v129 v134
  let v136 : BitVec 32 := Scalar.addi v133 v135
  let c1_i32_1736_r0 : BitVec 32 := 1#32
  let v3228_r0 : BitVec 32 := Scalar.muli v136 c1_i32_1736_r0
  let v3229_r0 : BitVec 32 := Scalar.addi c0_i32_1737_r0 v3228_r0
  v3229_r0.toNat
def k0_dev48 (d0 : Dev nD) : Nat :=
  let c0_i32_1740_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_63 : BitVec 32 := 0#32
  let v138 : BitVec 1 := Scalar.cmpi .sgt v2 c0_i32_63
  let v139 : BitVec 32 := Scalar.extui v138
  let c0_i32_64 : BitVec 32 := 0#32
  let v140 : BitVec 1 := Scalar.cmpi .slt v2 c0_i32_64
  let v141 : BitVec 32 := Scalar.extui v140
  let v142 : BitVec 32 := Scalar.subi v139 v141
  let c8_i32_62 : BitVec 32 := 8#32
  let c0_i32_65 : BitVec 32 := 0#32
  let v143 : BitVec 1 := Scalar.cmpi .sgt c8_i32_62 c0_i32_65
  let v144 : BitVec 32 := Scalar.extui v143
  let c0_i32_66 : BitVec 32 := 0#32
  let v145 : BitVec 1 := Scalar.cmpi .slt c8_i32_62 c0_i32_66
  let v146 : BitVec 32 := Scalar.extui v145
  let v147 : BitVec 32 := Scalar.subi v144 v146
  let v148 : BitVec 1 := Scalar.cmpi .ne v142 v147
  let v149 : BitVec 32 := Scalar.remsi v2 c8_i32_62
  let c0_i32_67 : BitVec 32 := 0#32
  let v150 : BitVec 1 := Scalar.cmpi .ne v149 c0_i32_67
  let v151 : BitVec 1 := Scalar.andi v148 v150
  let v137 : BitVec 32 := Scalar.divsi v2 c8_i32_62
  let c1_i32_68 : BitVec 32 := 1#32
  let v152 : BitVec 32 := Scalar.subi v137 c1_i32_68
  let v153 : BitVec 32 := Scalar.select v151 v152 v137
  let c1_i32_79 : BitVec 32 := 1#32
  let v175 : BitVec 32 := Scalar.xori v153 c1_i32_79
  let c8_i32_80 : BitVec 32 := 8#32
  let v176 : BitVec 32 := Scalar.muli v175 c8_i32_80
  let c8_i32_69 : BitVec 32 := 8#32
  let v154 : BitVec 32 := Scalar.remsi v2 c8_i32_69
  let c0_i32_71 : BitVec 32 := 0#32
  let v156 : BitVec 1 := Scalar.cmpi .sgt v154 c0_i32_71
  let v157 : BitVec 32 := Scalar.extui v156
  let c0_i32_72 : BitVec 32 := 0#32
  let v158 : BitVec 1 := Scalar.cmpi .slt v154 c0_i32_72
  let v159 : BitVec 32 := Scalar.extui v158
  let v160 : BitVec 32 := Scalar.subi v157 v159
  let c2_i32_70 : BitVec 32 := 2#32
  let c0_i32_73 : BitVec 32 := 0#32
  let v161 : BitVec 1 := Scalar.cmpi .sgt c2_i32_70 c0_i32_73
  let v162 : BitVec 32 := Scalar.extui v161
  let c0_i32_74 : BitVec 32 := 0#32
  let v163 : BitVec 1 := Scalar.cmpi .slt c2_i32_70 c0_i32_74
  let v164 : BitVec 32 := Scalar.extui v163
  let v165 : BitVec 32 := Scalar.subi v162 v164
  let v166 : BitVec 1 := Scalar.cmpi .ne v160 v165
  let v167 : BitVec 32 := Scalar.remsi v154 c2_i32_70
  let c0_i32_75 : BitVec 32 := 0#32
  let v168 : BitVec 1 := Scalar.cmpi .ne v167 c0_i32_75
  let v169 : BitVec 1 := Scalar.andi v166 v168
  let v155 : BitVec 32 := Scalar.divsi v154 c2_i32_70
  let c1_i32_76 : BitVec 32 := 1#32
  let v170 : BitVec 32 := Scalar.subi v155 c1_i32_76
  let v171 : BitVec 32 := Scalar.select v169 v170 v155
  let c2_i32_81 : BitVec 32 := 2#32
  let v177 : BitVec 32 := Scalar.muli v171 c2_i32_81
  let v178 : BitVec 32 := Scalar.addi v176 v177
  let c2_i32_77 : BitVec 32 := 2#32
  let v172 : BitVec 32 := Scalar.remsi v154 c2_i32_77
  let c1_i32_78 : BitVec 32 := 1#32
  let v173 : BitVec 32 := Scalar.andi v171 c1_i32_78
  let v174 : BitVec 32 := Scalar.xori v172 v173
  let c1_i32_82 : BitVec 32 := 1#32
  let v179 : BitVec 32 := Scalar.andi v171 c1_i32_82
  let v180 : BitVec 32 := Scalar.xori v174 v179
  let v181 : BitVec 32 := Scalar.addi v178 v180
  let c1_i32_1739_r0 : BitVec 32 := 1#32
  let v3230_r0 : BitVec 32 := Scalar.muli v181 c1_i32_1739_r0
  let v3231_r0 : BitVec 32 := Scalar.addi c0_i32_1740_r0 v3230_r0
  v3231_r0.toNat
def k0_dev49 (d0 : Dev nD) : Nat :=
  let c0_i32_1743_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_84 : BitVec 32 := 0#32
  let v183 : BitVec 1 := Scalar.cmpi .sgt v2 c0_i32_84
  let v184 : BitVec 32 := Scalar.extui v183
  let c0_i32_85 : BitVec 32 := 0#32
  let v185 : BitVec 1 := Scalar.cmpi .slt v2 c0_i32_85
  let v186 : BitVec 32 := Scalar.extui v185
  let v187 : BitVec 32 := Scalar.subi v184 v186
  let c8_i32_83 : BitVec 32 := 8#32
  let c0_i32_86 : BitVec 32 := 0#32
  let v188 : BitVec 1 := Scalar.cmpi .sgt c8_i32_83 c0_i32_86
  let v189 : BitVec 32 := Scalar.extui v188
  let c0_i32_87 : BitVec 32 := 0#32
  let v190 : BitVec 1 := Scalar.cmpi .slt c8_i32_83 c0_i32_87
  let v191 : BitVec 32 := Scalar.extui v190
  let v192 : BitVec 32 := Scalar.subi v189 v191
  let v193 : BitVec 1 := Scalar.cmpi .ne v187 v192
  let v194 : BitVec 32 := Scalar.remsi v2 c8_i32_83
  let c0_i32_88 : BitVec 32 := 0#32
  let v195 : BitVec 1 := Scalar.cmpi .ne v194 c0_i32_88
  let v196 : BitVec 1 := Scalar.andi v193 v195
  let v182 : BitVec 32 := Scalar.divsi v2 c8_i32_83
  let c1_i32_89 : BitVec 32 := 1#32
  let v197 : BitVec 32 := Scalar.subi v182 c1_i32_89
  let v198 : BitVec 32 := Scalar.select v196 v197 v182
  let c8_i32_101 : BitVec 32 := 8#32
  let v221 : BitVec 32 := Scalar.muli v198 c8_i32_101
  let c8_i32_90 : BitVec 32 := 8#32
  let v199 : BitVec 32 := Scalar.remsi v2 c8_i32_90
  let c0_i32_92 : BitVec 32 := 0#32
  let v201 : BitVec 1 := Scalar.cmpi .sgt v199 c0_i32_92
  let v202 : BitVec 32 := Scalar.extui v201
  let c0_i32_93 : BitVec 32 := 0#32
  let v203 : BitVec 1 := Scalar.cmpi .slt v199 c0_i32_93
  let v204 : BitVec 32 := Scalar.extui v203
  let v205 : BitVec 32 := Scalar.subi v202 v204
  let c2_i32_91 : BitVec 32 := 2#32
  let c0_i32_94 : BitVec 32 := 0#32
  let v206 : BitVec 1 := Scalar.cmpi .sgt c2_i32_91 c0_i32_94
  let v207 : BitVec 32 := Scalar.extui v206
  let c0_i32_95 : BitVec 32 := 0#32
  let v208 : BitVec 1 := Scalar.cmpi .slt c2_i32_91 c0_i32_95
  let v209 : BitVec 32 := Scalar.extui v208
  let v210 : BitVec 32 := Scalar.subi v207 v209
  let v211 : BitVec 1 := Scalar.cmpi .ne v205 v210
  let v212 : BitVec 32 := Scalar.remsi v199 c2_i32_91
  let c0_i32_96 : BitVec 32 := 0#32
  let v213 : BitVec 1 := Scalar.cmpi .ne v212 c0_i32_96
  let v214 : BitVec 1 := Scalar.andi v211 v213
  let v200 : BitVec 32 := Scalar.divsi v199 c2_i32_91
  let c1_i32_97 : BitVec 32 := 1#32
  let v215 : BitVec 32 := Scalar.subi v200 c1_i32_97
  let v216 : BitVec 32 := Scalar.select v214 v215 v200
  let c2_i32_100 : BitVec 32 := 2#32
  let v220 : BitVec 32 := Scalar.xori v216 c2_i32_100
  let c2_i32_102 : BitVec 32 := 2#32
  let v222 : BitVec 32 := Scalar.muli v220 c2_i32_102
  let v223 : BitVec 32 := Scalar.addi v221 v222
  let c2_i32_98 : BitVec 32 := 2#32
  let v217 : BitVec 32 := Scalar.remsi v199 c2_i32_98
  let c1_i32_99 : BitVec 32 := 1#32
  let v218 : BitVec 32 := Scalar.andi v216 c1_i32_99
  let v219 : BitVec 32 := Scalar.xori v217 v218
  let c1_i32_103 : BitVec 32 := 1#32
  let v224 : BitVec 32 := Scalar.andi v220 c1_i32_103
  let v225 : BitVec 32 := Scalar.xori v219 v224
  let v226 : BitVec 32 := Scalar.addi v223 v225
  let c1_i32_1742_r0 : BitVec 32 := 1#32
  let v3232_r0 : BitVec 32 := Scalar.muli v226 c1_i32_1742_r0
  let v3233_r0 : BitVec 32 := Scalar.addi c0_i32_1743_r0 v3232_r0
  v3233_r0.toNat
def k0_dev50 (d0 : Dev nD) : Nat :=
  let c0_i32_1746_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_105 : BitVec 32 := 0#32
  let v228 : BitVec 1 := Scalar.cmpi .sgt v2 c0_i32_105
  let v229 : BitVec 32 := Scalar.extui v228
  let c0_i32_106 : BitVec 32 := 0#32
  let v230 : BitVec 1 := Scalar.cmpi .slt v2 c0_i32_106
  let v231 : BitVec 32 := Scalar.extui v230
  let v232 : BitVec 32 := Scalar.subi v229 v231
  let c8_i32_104 : BitVec 32 := 8#32
  let c0_i32_107 : BitVec 32 := 0#32
  let v233 : BitVec 1 := Scalar.cmpi .sgt c8_i32_104 c0_i32_107
  let v234 : BitVec 32 := Scalar.extui v233
  let c0_i32_108 : BitVec 32 := 0#32
  let v235 : BitVec 1 := Scalar.cmpi .slt c8_i32_104 c0_i32_108
  let v236 : BitVec 32 := Scalar.extui v235
  let v237 : BitVec 32 := Scalar.subi v234 v236
  let v238 : BitVec 1 := Scalar.cmpi .ne v232 v237
  let v239 : BitVec 32 := Scalar.remsi v2 c8_i32_104
  let c0_i32_109 : BitVec 32 := 0#32
  let v240 : BitVec 1 := Scalar.cmpi .ne v239 c0_i32_109
  let v241 : BitVec 1 := Scalar.andi v238 v240
  let v227 : BitVec 32 := Scalar.divsi v2 c8_i32_104
  let c1_i32_110 : BitVec 32 := 1#32
  let v242 : BitVec 32 := Scalar.subi v227 c1_i32_110
  let v243 : BitVec 32 := Scalar.select v241 v242 v227
  let c2_i32_121 : BitVec 32 := 2#32
  let v265 : BitVec 32 := Scalar.xori v243 c2_i32_121
  let c8_i32_122 : BitVec 32 := 8#32
  let v266 : BitVec 32 := Scalar.muli v265 c8_i32_122
  let c8_i32_111 : BitVec 32 := 8#32
  let v244 : BitVec 32 := Scalar.remsi v2 c8_i32_111
  let c0_i32_113 : BitVec 32 := 0#32
  let v246 : BitVec 1 := Scalar.cmpi .sgt v244 c0_i32_113
  let v247 : BitVec 32 := Scalar.extui v246
  let c0_i32_114 : BitVec 32 := 0#32
  let v248 : BitVec 1 := Scalar.cmpi .slt v244 c0_i32_114
  let v249 : BitVec 32 := Scalar.extui v248
  let v250 : BitVec 32 := Scalar.subi v247 v249
  let c2_i32_112 : BitVec 32 := 2#32
  let c0_i32_115 : BitVec 32 := 0#32
  let v251 : BitVec 1 := Scalar.cmpi .sgt c2_i32_112 c0_i32_115
  let v252 : BitVec 32 := Scalar.extui v251
  let c0_i32_116 : BitVec 32 := 0#32
  let v253 : BitVec 1 := Scalar.cmpi .slt c2_i32_112 c0_i32_116
  let v254 : BitVec 32 := Scalar.extui v253
  let v255 : BitVec 32 := Scalar.subi v252 v254
  let v256 : BitVec 1 := Scalar.cmpi .ne v250 v255
  let v257 : BitVec 32 := Scalar.remsi v244 c2_i32_112
  let c0_i32_117 : BitVec 32 := 0#32
  let v258 : BitVec 1 := Scalar.cmpi .ne v257 c0_i32_117
  let v259 : BitVec 1 := Scalar.andi v256 v258
  let v245 : BitVec 32 := Scalar.divsi v244 c2_i32_112
  let c1_i32_118 : BitVec 32 := 1#32
  let v260 : BitVec 32 := Scalar.subi v245 c1_i32_118
  let v261 : BitVec 32 := Scalar.select v259 v260 v245
  let c2_i32_123 : BitVec 32 := 2#32
  let v267 : BitVec 32 := Scalar.muli v261 c2_i32_123
  let v268 : BitVec 32 := Scalar.addi v266 v267
  let c2_i32_119 : BitVec 32 := 2#32
  let v262 : BitVec 32 := Scalar.remsi v244 c2_i32_119
  let c1_i32_120 : BitVec 32 := 1#32
  let v263 : BitVec 32 := Scalar.andi v261 c1_i32_120
  let v264 : BitVec 32 := Scalar.xori v262 v263
  let c1_i32_124 : BitVec 32 := 1#32
  let v269 : BitVec 32 := Scalar.andi v261 c1_i32_124
  let v270 : BitVec 32 := Scalar.xori v264 v269
  let v271 : BitVec 32 := Scalar.addi v268 v270
  let c1_i32_1745_r0 : BitVec 32 := 1#32
  let v3234_r0 : BitVec 32 := Scalar.muli v271 c1_i32_1745_r0
  let v3235_r0 : BitVec 32 := Scalar.addi c0_i32_1746_r0 v3234_r0
  v3235_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S4x256x1024 : Shape := ⟨3, ![4, 256, 1024]⟩
abbrev S4x256x32768 : Shape := ⟨3, ![4, 256, 32768]⟩
abbrev S4x256x256x128 : Shape := ⟨4, ![4, 256, 256, 128]⟩
abbrev S_ : Shape := ⟨0, ![]⟩
abbrev S4x256x256x1 : Shape := ⟨4, ![4, 256, 256, 1]⟩
abbrev S4x256x256x256 : Shape := ⟨4, ![4, 256, 256, 256]⟩
abbrev S4x256x256 : Shape := ⟨3, ![4, 256, 256]⟩
abbrev S4x256x128x256 : Shape := ⟨4, ![4, 256, 128, 256]⟩

abbrev nBuf : Space → Nat
  | .hbm => 54
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x32768, .bf16⟩
  | .hbm, ⟨2, _⟩ => ⟨S32768x1024, .bf16⟩
  | .hbm, ⟨3, _⟩ => ⟨S1024x32768, .bf16⟩
  | .hbm, ⟨4, _⟩ => ⟨S1024x32768, .bf16⟩
  | .hbm, ⟨5, _⟩ => ⟨S1024x1024, .f32⟩
  | .hbm, ⟨6, _⟩ => ⟨S4x256x1024, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S32768x1024, .f32⟩
  | .hbm, ⟨11, _⟩ => ⟨S4x256x32768, .f32⟩
  | .hbm, ⟨12, _⟩ => ⟨S4x256x256x128, .f32⟩
  | .hbm, ⟨13, _⟩ => ⟨S4x256x32768, .f32⟩
  | .hbm, ⟨14, _⟩ => ⟨S4x256x256x128, .f32⟩
  | .hbm, ⟨15, _⟩ => ⟨S4x256x32768, .f32⟩
  | .hbm, ⟨16, _⟩ => ⟨S4x256x256x128, .f32⟩
  | .hbm, ⟨17, _⟩ => ⟨S_, .f32⟩
  | .hbm, ⟨18, _⟩ => ⟨S4x256x256x128, .f32⟩
  | .hbm, ⟨19, _⟩ => ⟨S_, .f32⟩
  | .hbm, ⟨20, _⟩ => ⟨S4x256x256x1, .f32⟩
  | .hbm, ⟨21, _⟩ => ⟨S_, .f32⟩
  | .hbm, ⟨22, _⟩ => ⟨S4x256x256x1, .f32⟩
  | .hbm, ⟨23, _⟩ => ⟨S4x256x256x256, .f32⟩
  | .hbm, ⟨24, _⟩ => ⟨S_, .f32⟩
  | .hbm, ⟨25, _⟩ => ⟨S4x256x256x256, .f32⟩
  | .hbm, ⟨26, _⟩ => ⟨S4x256x256x256, .f32⟩
  | .hbm, ⟨27, _⟩ => ⟨S_, .f32⟩
  | .hbm, ⟨28, _⟩ => ⟨S4x256x256, .f32⟩
  | .hbm, ⟨29, _⟩ => ⟨S4x256x256x1, .f32⟩
  | .hbm, ⟨30, _⟩ => ⟨S4x256x256x1, .f32⟩
  | .hbm, ⟨31, _⟩ => ⟨S4x256x256x1, .f32⟩
  | .hbm, ⟨32, _⟩ => ⟨S4x256x256x1, .f32⟩
  | .hbm, ⟨33, _⟩ => ⟨S4x256x256x256, .f32⟩
  | .hbm, ⟨34, _⟩ => ⟨S4x256x256x256, .f32⟩
  | .hbm, ⟨35, _⟩ => ⟨S4x256x256x256, .f32⟩
  | .hbm, ⟨36, _⟩ => ⟨S4x256x256x1, .f32⟩
  | .hbm, ⟨37, _⟩ => ⟨S_, .f32⟩
  | .hbm, ⟨38, _⟩ => ⟨S4x256x256, .f32⟩
  | .hbm, ⟨39, _⟩ => ⟨S4x256x256x1, .f32⟩
  | .hbm, ⟨40, _⟩ => ⟨S4x256x256x1, .f32⟩
  | .hbm, ⟨41, _⟩ => ⟨S4x256x256x1, .f32⟩
  | .hbm, ⟨42, _⟩ => ⟨S4x256x256x128, .f32⟩
  | .hbm, ⟨43, _⟩ => ⟨S4x256x256x128, .f32⟩
  | .hbm, ⟨44, _⟩ => ⟨S4x256x128x256, .f32⟩
  | .hbm, ⟨45, _⟩ => ⟨S4x256x256x128, .f32⟩
  | .hbm, ⟨46, _⟩ => ⟨S4x256x256x128, .f32⟩
  | .hbm, ⟨47, _⟩ => ⟨S4x256x256x1, .f32⟩
  | .hbm, ⟨48, _⟩ => ⟨S4x256x256x128, .f32⟩
  | .hbm, ⟨49, _⟩ => ⟨S4x256x256x128, .f32⟩
  | .hbm, ⟨50, _⟩ => ⟨S4x256x32768, .f32⟩
  | .hbm, ⟨51, _⟩ => ⟨S4x256x1024, .f32⟩
  | .hbm, ⟨52, _⟩ => ⟨S1024x1024, .f32⟩
  | .hbm, ⟨53, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Net.lean ====
/-
# The kernel's steps, lane by lane and stage by stage

The kernel body is one long sequence of memory operations. Here its buffers, offsets, neighbours and semaphores are
tabulated by lane `j` (four column blocks of 256) and stage `s` (five exchanges), and the body is rewritten as a
short program over those tables: read the operands, compute the attention partial batch element by batch element,
greet the five neighbours, run five reduce-scatter stages and five all-gather stages, and say goodbye.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Net

open Cert.KernelIdeal Cert.KernelIdeal.Gen
open Idealize.ShloMosaic
open Idealize.ShloMosaic.TcCoe
open Idealize.SL.Sem

variable {F : FTy → Type} [FloatOps F]

/-! ## Tables -/

/-- How many rows a reduce-scatter stage sends. -/
def hs : Fin 5 → Nat
  | 0 => 512
  | 1 => 256
  | 2 => 128
  | 3 => 64
  | 4 => 32

/-- How many rows an all-gather stage sends. -/
def ah : Fin 5 → Nat
  | 0 => 32
  | 1 => 64
  | 2 => 128
  | 3 => 256
  | 4 => 512

/-- The block a reduce-scatter stage sends. -/
abbrev SH (s : Fin 5) : Shape := ⟨2, ![hs s, 256]⟩

/-- The block an all-gather stage sends. -/
abbrev AH (s : Fin 5) : Shape := ⟨2, ![ah s, 256]⟩

theorem SH_pos : ∀ s : Fin 5, 0 < (SH s).numel
  | 0 => h_S512x256
  | 1 => h_S256x256
  | 2 => h_S128x256
  | 3 => h_S64x256
  | 4 => h_S32x256

theorem AH_pos : ∀ s : Fin 5, 0 < (AH s).numel
  | 0 => h_S32x256
  | 1 => h_S64x256
  | 2 => h_S128x256
  | 3 => h_S256x256
  | 4 => h_S512x256

theorem whole_inb : ∀ (s : Fin 5) (a : Fin 2), (![0, 0] : Fin 2 → Nat) a + (SH s).size a ≤ (SH s).size a
  | 0 => inb_S512x256_S512x256_0_0
  | 1 => inb_S256x256_S256x256_0_0
  | 2 => inb_S128x256_S128x256_0_0
  | 3 => inb_S64x256_S64x256_0_0
  | 4 => inb_S32x256_S32x256_0_0

theorem whole_packed : ∀ s : Fin 5,
    (Rect.unit (s := SH s) ![0, 0] (SH s).size (whole_inb s)).PackedRows (EltTy.packing .bf16)
  | 0 => packedbf16_S512x256_S512x256_0_0
  | 1 => packedbf16_S256x256_S256x256_0_0
  | 2 => packedbf16_S128x256_S128x256_0_0
  | 3 => packedbf16_S64x256_S64x256_0_0
  | 4 => packedbf16_S32x256_S32x256_0_0

theorem SH_cast : ∀ s : Fin 5, (SH s).ShapeCasts (SH s)
  | 0 => shapeCasts_S512x256_S512x256
  | 1 => shapeCasts_S256x256_S256x256
  | 2 => shapeCasts_S128x256_S128x256
  | 3 => shapeCasts_S64x256_S64x256
  | 4 => shapeCasts_S32x256_S32x256

/-- Lane `j`'s send buffer of reduce-scatter stage `s`. -/
def sbufM : Fin 4 → (s : Fin 5) → Memref sig .tc .vmem (SH s) .bf16
  | 0, 0 => Memref.whole cc0_scratch1
  | 0, 1 => Memref.whole cc0_scratch2
  | 0, 2 => Memref.whole cc0_scratch3
  | 0, 3 => Memref.whole cc0_scratch4
  | 0, 4 => Memref.whole cc0_scratch5
  | 1, 0 => Memref.whole cc0_scratch6
  | 1, 1 => Memref.whole cc0_scratch7
  | 1, 2 => Memref.whole cc0_scratch8
  | 1, 3 => Memref.whole cc0_scratch9
  | 1, 4 => Memref.whole cc0_scratch10
  | 2, 0 => Memref.whole cc0_scratch11
  | 2, 1 => Memref.whole cc0_scratch12
  | 2, 2 => Memref.whole cc0_scratch13
  | 2, 3 => Memref.whole cc0_scratch14
  | 2, 4 => Memref.whole cc0_scratch15
  | 3, 0 => Memref.whole cc0_scratch16
  | 3, 1 => Memref.whole cc0_scratch17
  | 3, 2 => Memref.whole cc0_scratch18
  | 3, 3 => Memref.whole cc0_scratch19
  | 3, 4 => Memref.whole cc0_scratch20

/-- Lane `j`'s landing buffer of reduce-scatter stage `s`. -/
def rbufM : Fin 4 → (s : Fin 5) → Memref sig .tc .vmem (SH s) .bf16
  | 0, 0 => Memref.whole cc0_scratch21
  | 0, 1 => Memref.whole cc0_scratch22
  | 0, 2 => Memref.whole cc0_scratch23
  | 0, 3 => Memref.whole cc0_scratch24
  | 0, 4 => Memref.whole cc0_scratch25
  | 1, 0 => Memref.whole cc0_scratch26
  | 1, 1 => Memref.whole cc0_scratch27
  | 1, 2 => Memref.whole cc0_scratch28
  | 1, 3 => Memref.whole cc0_scratch29
  | 1, 4 => Memref.whole cc0_scratch30
  | 2, 0 => Memref.whole cc0_scratch31
  | 2, 1 => Memref.whole cc0_scratch32
  | 2, 2 => Memref.whole cc0_scratch33
  | 2, 3 => Memref.whole cc0_scratch34
  | 2, 4 => Memref.whole cc0_scratch35
  | 3, 0 => Memref.whole cc0_scratch36
  | 3, 1 => Memref.whole cc0_scratch37
  | 3, 2 => Memref.whole cc0_scratch38
  | 3, 3 => Memref.whole cc0_scratch39
  | 3, 4 => Memref.whole cc0_scratch40

/-- Each of these buffers is taken whole. -/
theorem sbufM_whole : ∀ (j : Fin 4) (s : Fin 5), (sbufM j s).IsWhole
  | 0, 0 => Memref.isWhole_whole _
  | 0, 1 => Memref.isWhole_whole _
  | 0, 2 => Memref.isWhole_whole _
  | 0, 3 => Memref.isWhole_whole _
  | 0, 4 => Memref.isWhole_whole _
  | 1, 0 => Memref.isWhole_whole _
  | 1, 1 => Memref.isWhole_whole _
  | 1, 2 => Memref.isWhole_whole _
  | 1, 3 => Memref.isWhole_whole _
  | 1, 4 => Memref.isWhole_whole _
  | 2, 0 => Memref.isWhole_whole _
  | 2, 1 => Memref.isWhole_whole _
  | 2, 2 => Memref.isWhole_whole _
  | 2, 3 => Memref.isWhole_whole _
  | 2, 4 => Memref.isWhole_whole _
  | 3, 0 => Memref.isWhole_whole _
  | 3, 1 => Memref.isWhole_whole _
  | 3, 2 => Memref.isWhole_whole _
  | 3, 3 => Memref.isWhole_whole _
  | 3, 4 => Memref.isWhole_whole _

/-- Each of these buffers is taken whole. -/
theorem rbufM_whole : ∀ (j : Fin 4) (s : Fin 5), (rbufM j s).IsWhole
  | 0, 0 => Memref.isWhole_whole _
  | 0, 1 => Memref.isWhole_whole _
  | 0, 2 => Memref.isWhole_whole _
  | 0, 3 => Memref.isWhole_whole _
  | 0, 4 => Memref.isWhole_whole _
  | 1, 0 => Memref.isWhole_whole _
  | 1, 1 => Memref.isWhole_whole _
  | 1, 2 => Memref.isWhole_whole _
  | 1, 3 => Memref.isWhole_whole _
  | 1, 4 => Memref.isWhole_whole _
  | 2, 0 => Memref.isWhole_whole _
  | 2, 1 => Memref.isWhole_whole _
  | 2, 2 => Memref.isWhole_whole _
  | 2, 3 => Memref.isWhole_whole _
  | 2, 4 => Memref.isWhole_whole _
  | 3, 0 => Memref.isWhole_whole _
  | 3, 1 => Memref.isWhole_whole _
  | 3, 2 => Memref.isWhole_whole _
  | 3, 3 => Memref.isWhole_whole _
  | 3, 4 => Memref.isWhole_whole _

/-- Where in `work` lane `j` reads what it sends at stage `s` of the reduce-scatter. -/
def sOff : Fin 4 → Fin 5 → Dev nD → Fin 2 → Nat
  | 0, 0 => k0_off1
  | 0, 1 => k0_off9
  | 0, 2 => k0_off17
  | 0, 3 => k0_off25
  | 0, 4 => k0_off33
  | 1, 0 => k0_off2
  | 1, 1 => k0_off10
  | 1, 2 => k0_off18
  | 1, 3 => k0_off26
  | 1, 4 => k0_off34
  | 2, 0 => k0_off3
  | 2, 1 => k0_off11
  | 2, 2 => k0_off19
  | 2, 3 => k0_off27
  | 2, 4 => k0_off35
  | 3, 0 => k0_off4
  | 3, 1 => k0_off12
  | 3, 2 => k0_off20
  | 3, 3 => k0_off28
  | 3, 4 => k0_off36

/-- The rectangle sent lies inside `work`. -/
theorem sOff_inb : ∀ (j : Fin 4) (s : Fin 5) (c : Dev nD) (a : Fin 2), sOff j s c a + (SH s).size a ≤ S1024x1024.size a
  | 0, 0 => k0_off1_inb
  | 0, 1 => k0_off9_inb
  | 0, 2 => k0_off17_inb
  | 0, 3 => k0_off25_inb
  | 0, 4 => k0_off33_inb
  | 1, 0 => k0_off2_inb
  | 1, 1 => k0_off10_inb
  | 1, 2 => k0_off18_inb
  | 1, 3 => k0_off26_inb
  | 1, 4 => k0_off34_inb
  | 2, 0 => k0_off3_inb
  | 2, 1 => k0_off11_inb
  | 2, 2 => k0_off19_inb
  | 2, 3 => k0_off27_inb
  | 2, 4 => k0_off35_inb
  | 3, 0 => k0_off4_inb
  | 3, 1 => k0_off12_inb
  | 3, 2 => k0_off20_inb
  | 3, 3 => k0_off28_inb
  | 3, 4 => k0_off36_inb

/-- Where in `work` lane `j` adds what it receives at stage `s` of the reduce-scatter. -/
def kOff : Fin 4 → Fin 5 → Dev nD → Fin 2 → Nat
  | 0, 0 => k0_off5
  | 0, 1 => k0_off13
  | 0, 2 => k0_off21
  | 0, 3 => k0_off29
  | 0, 4 => k0_off37
  | 1, 0 => k0_off6
  | 1, 1 => k0_off14
  | 1, 2 => k0_off22
  | 1, 3 => k0_off30
  | 1, 4 => k0_off38
  | 2, 0 => k0_off7
  | 2, 1 => k0_off15
  | 2, 2 => k0_off23
  | 2, 3 => k0_off31
  | 2, 4 => k0_off39
  | 3, 0 => k0_off8
  | 3, 1 => k0_off16
  | 3, 2 => k0_off24
  | 3, 3 => k0_off32
  | 3, 4 => k0_off40

/-- The rectangle kept lies inside `work`. -/
theorem kOff_inb : ∀ (j : Fin 4) (s : Fin 5) (c : Dev nD) (a : Fin 2), kOff j s c a + (SH s).size a ≤ S1024x1024.size a
  | 0, 0 => k0_off5_inb
  | 0, 1 => k0_off13_inb
  | 0, 2 => k0_off21_inb
  | 0, 3 => k0_off29_inb
  | 0, 4 => k0_off37_inb
  | 1, 0 => k0_off6_inb
  | 1, 1 => k0_off14_inb
  | 1, 2 => k0_off22_inb
  | 1, 3 => k0_off30_inb
  | 1, 4 => k0_off38_inb
  | 2, 0 => k0_off7_inb
  | 2, 1 => k0_off15_inb
  | 2, 2 => k0_off23_inb
  | 2, 3 => k0_off31_inb
  | 2, 4 => k0_off39_inb
  | 3, 0 => k0_off8_inb
  | 3, 1 => k0_off16_inb
  | 3, 2 => k0_off24_inb
  | 3, 3 => k0_off32_inb
  | 3, 4 => k0_off40_inb

/-- Where in the result lane `j`'s rows gathered before stage `s` of the all-gather lie. -/
def aOff : Fin 4 → Fin 5 → Dev nD → Fin 2 → Nat
  | 0, 0 => k0_off45
  | 0, 1 => k0_off49
  | 0, 2 => k0_off53
  | 0, 3 => k0_off57
  | 0, 4 => k0_off61
  | 1, 0 => k0_off46
  | 1, 1 => k0_off50
  | 1, 2 => k0_off54
  | 1, 3 => k0_off58
  | 1, 4 => k0_off62
  | 2, 0 => k0_off47
  | 2, 1 => k0_off51
  | 2, 2 => k0_off55
  | 2, 3 => k0_off59
  | 2, 4 => k0_off63
  | 3, 0 => k0_off48
  | 3, 1 => k0_off52
  | 3, 2 => k0_off56
  | 3, 3 => k0_off60
  | 3, 4 => k0_off64

/-- The rectangle gathered lies inside the result. -/
theorem aOff_inb : ∀ (j : Fin 4) (s : Fin 5) (c : Dev nD) (a : Fin 2), aOff j s c a + (AH s).size a ≤ S1024x1024.size a
  | 0, 0 => k0_off45_inb
  | 0, 1 => k0_off49_inb
  | 0, 2 => k0_off53_inb
  | 0, 3 => k0_off57_inb
  | 0, 4 => k0_off61_inb
  | 1, 0 => k0_off46_inb
  | 1, 1 => k0_off50_inb
  | 1, 2 => k0_off54_inb
  | 1, 3 => k0_off58_inb
  | 1, 4 => k0_off62_inb
  | 2, 0 => k0_off47_inb
  | 2, 1 => k0_off51_inb
  | 2, 2 => k0_off55_inb
  | 2, 3 => k0_off59_inb
  | 2, 4 => k0_off63_inb
  | 3, 0 => k0_off48_inb
  | 3, 1 => k0_off52_inb
  | 3, 2 => k0_off56_inb
  | 3, 3 => k0_off60_inb
  | 3, 4 => k0_off64_inb

/-- That rectangle is made of whole words. -/
theorem aOff_words : ∀ (j : Fin 4) (s : Fin 5) (c : Dev nD), (Rect.unit (s := S1024x1024) (aOff j s c) (AH s).size (aOff_inb j s c)).WholeWords (EltTy.packing .bf16)
  | 0, 0 => k0_off45_wordsbf16
  | 0, 1 => k0_off49_wordsbf16
  | 0, 2 => k0_off53_wordsbf16
  | 0, 3 => k0_off57_wordsbf16
  | 0, 4 => k0_off61_wordsbf16
  | 1, 0 => k0_off46_wordsbf16
  | 1, 1 => k0_off50_wordsbf16
  | 1, 2 => k0_off54_wordsbf16
  | 1, 3 => k0_off58_wordsbf16
  | 1, 4 => k0_off62_wordsbf16
  | 2, 0 => k0_off47_wordsbf16
  | 2, 1 => k0_off51_wordsbf16
  | 2, 2 => k0_off55_wordsbf16
  | 2, 3 => k0_off59_wordsbf16
  | 2, 4 => k0_off63_wordsbf16
  | 3, 0 => k0_off48_wordsbf16
  | 3, 1 => k0_off52_wordsbf16
  | 3, 2 => k0_off56_wordsbf16
  | 3, 3 => k0_off60_wordsbf16
  | 3, 4 => k0_off64_wordsbf16

/-- The device lane `j` sends to at stage `s` of the reduce-scatter. -/
def sDev : Fin 4 → Fin 5 → Dev nD → Dev nD
  | 0, 0 => fun c => ⟨k0_dev6 c, k0_dev6_lt c⟩
  | 0, 1 => fun c => ⟨k0_dev10 c, k0_dev10_lt c⟩
  | 0, 2 => fun c => ⟨k0_dev14 c, k0_dev14_lt c⟩
  | 0, 3 => fun c => ⟨k0_dev18 c, k0_dev18_lt c⟩
  | 0, 4 => fun c => ⟨k0_dev22 c, k0_dev22_lt c⟩
  | 1, 0 => fun c => ⟨k0_dev7 c, k0_dev7_lt c⟩
  | 1, 1 => fun c => ⟨k0_dev11 c, k0_dev11_lt c⟩
  | 1, 2 => fun c => ⟨k0_dev15 c, k0_dev15_lt c⟩
  | 1, 3 => fun c => ⟨k0_dev19 c, k0_dev19_lt c⟩
  | 1, 4 => fun c => ⟨k0_dev23 c, k0_dev23_lt c⟩
  | 2, 0 => fun c => ⟨k0_dev8 c, k0_dev8_lt c⟩
  | 2, 1 => fun c => ⟨k0_dev12 c, k0_dev12_lt c⟩
  | 2, 2 => fun c => ⟨k0_dev16 c, k0_dev16_lt c⟩
  | 2, 3 => fun c => ⟨k0_dev20 c, k0_dev20_lt c⟩
  | 2, 4 => fun c => ⟨k0_dev24 c, k0_dev24_lt c⟩
  | 3, 0 => fun c => ⟨k0_dev9 c, k0_dev9_lt c⟩
  | 3, 1 => fun c => ⟨k0_dev13 c, k0_dev13_lt c⟩
  | 3, 2 => fun c => ⟨k0_dev17 c, k0_dev17_lt c⟩
  | 3, 3 => fun c => ⟨k0_dev21 c, k0_dev21_lt c⟩
  | 3, 4 => fun c => ⟨k0_dev25 c, k0_dev25_lt c⟩

/-- The device lane `j` sends to at stage `s` of the all-gather. -/
def aDev : Fin 4 → Fin 5 → Dev nD → Dev nD
  | 0, 0 => fun c => ⟨k0_dev26 c, k0_dev26_lt c⟩
  | 0, 1 => fun c => ⟨k0_dev30 c, k0_dev30_lt c⟩
  | 0, 2 => fun c => ⟨k0_dev34 c, k0_dev34_lt c⟩
  | 0, 3 => fun c => ⟨k0_dev38 c, k0_dev38_lt c⟩
  | 0, 4 => fun c => ⟨k0_dev42 c, k0_dev42_lt c⟩
  | 1, 0 => fun c => ⟨k0_dev27 c, k0_dev27_lt c⟩
  | 1, 1 => fun c => ⟨k0_dev31 c, k0_dev31_lt c⟩
  | 1, 2 => fun c => ⟨k0_dev35 c, k0_dev35_lt c⟩
  | 1, 3 => fun c => ⟨k0_dev39 c, k0_dev39_lt c⟩
  | 1, 4 => fun c => ⟨k0_dev43 c, k0_dev43_lt c⟩
  | 2, 0 => fun c => ⟨k0_dev28 c, k0_dev28_lt c⟩
  | 2, 1 => fun c => ⟨k0_dev32 c, k0_dev32_lt c⟩
  | 2, 2 => fun c => ⟨k0_dev36 c, k0_dev36_lt c⟩
  | 2, 3 => fun c => ⟨k0_dev40 c, k0_dev40_lt c⟩
  | 2, 4 => fun c => ⟨k0_dev44 c, k0_dev44_lt c⟩
  | 3, 0 => fun c => ⟨k0_dev29 c, k0_dev29_lt c⟩
  | 3, 1 => fun c => ⟨k0_dev33 c, k0_dev33_lt c⟩
  | 3, 2 => fun c => ⟨k0_dev37 c, k0_dev37_lt c⟩
  | 3, 3 => fun c => ⟨k0_dev41 c, k0_dev41_lt c⟩
  | 3, 4 => fun c => ⟨k0_dev45 c, k0_dev45_lt c⟩

/-- The semaphore that completes lane `j`'s send of reduce-scatter stage `s`. -/
def rsS : Fin 4 → Fin 5 → DmaSem sig
  | 0, 0 => ((cc0_scratch41.slice (Rect.unit (s := S20) ![0] S1.size inb_S20_S1_0)).squeeze S_ squeezes_S1_S_).sem
  | 0, 1 => ((cc0_scratch41.slice (Rect.unit (s := S20) ![1] S1.size inb_S20_S1_1)).squeeze S_ squeezes_S1_S_).sem
  | 0, 2 => ((cc0_scratch41.slice (Rect.unit (s := S20) ![2] S1.size inb_S20_S1_2)).squeeze S_ squeezes_S1_S_).sem
  | 0, 3 => ((cc0_scratch41.slice (Rect.unit (s := S20) ![3] S1.size inb_S20_S1_3)).squeeze S_ squeezes_S1_S_).sem
  | 0, 4 => ((cc0_scratch41.slice (Rect.unit (s := S20) ![4] S1.size inb_S20_S1_4)).squeeze S_ squeezes_S1_S_).sem
  | 1, 0 => ((cc0_scratch41.slice (Rect.unit (s := S20) ![5] S1.size inb_S20_S1_5)).squeeze S_ squeezes_S1_S_).sem
  | 1, 1 => ((cc0_scratch41.slice (Rect.unit (s := S20) ![6] S1.size inb_S20_S1_6)).squeeze S_ squeezes_S1_S_).sem
  | 1, 2 => ((cc0_scratch41.slice (Rect.unit (s := S20) ![7] S1.size inb_S20_S1_7)).squeeze S_ squeezes_S1_S_).sem
  | 1, 3 => ((cc0_scratch41.slice (Rect.unit (s := S20) ![8] S1.size inb_S20_S1_8)).squeeze S_ squeezes_S1_S_).sem
  | 1, 4 => ((cc0_scratch41.slice (Rect.unit (s := S20) ![9] S1.size inb_S20_S1_9)).squeeze S_ squeezes_S1_S_).sem
  | 2, 0 => ((cc0_scratch41.slice (Rect.unit (s := S20) ![10] S1.size inb_S20_S1_10)).squeeze S_ squeezes_S1_S_).sem
  | 2, 1 => ((cc0_scratch41.slice (Rect.unit (s := S20) ![11] S1.size inb_S20_S1_11)).squeeze S_ squeezes_S1_S_).sem
  | 2, 2 => ((cc0_scratch41.slice (Rect.unit (s := S20) ![12] S1.size inb_S20_S1_12)).squeeze S_ squeezes_S1_S_).sem
  | 2, 3 => ((cc0_scratch41.slice (Rect.unit (s := S20) ![13] S1.size inb_S20_S1_13)).squeeze S_ squeezes_S1_S_).sem
  | 2, 4 => ((cc0_scratch41.slice (Rect.unit (s := S20) ![14] S1.size inb_S20_S1_14)).squeeze S_ squeezes_S1_S_).sem
  | 3, 0 => ((cc0_scratch41.slice (Rect.unit (s := S20) ![15] S1.size inb_S20_S1_15)).squeeze S_ squeezes_S1_S_).sem
  | 3, 1 => ((cc0_scratch41.slice (Rect.unit (s := S20) ![16] S1.size inb_S20_S1_16)).squeeze S_ squeezes_S1_S_).sem
  | 3, 2 => ((cc0_scratch41.slice (Rect.unit (s := S20) ![17] S1.size inb_S20_S1_17)).squeeze S_ squeezes_S1_S_).sem
  | 3, 3 => ((cc0_scratch41.slice (Rect.unit (s := S20) ![18] S1.size inb_S20_S1_18)).squeeze S_ squeezes_S1_S_).sem
  | 3, 4 => ((cc0_scratch41.slice (Rect.unit (s := S20) ![19] S1.size inb_S20_S1_19)).squeeze S_ squeezes_S1_S_).sem

/-- The semaphore that counts what lane `j` receives at reduce-scatter stage `s`. -/
def rsR : Fin 4 → Fin 5 → DmaSem sig
  | 0, 0 => ((cc0_scratch42.slice (Rect.unit (s := S20) ![0] S1.size inb_S20_S1_0)).squeeze S_ squeezes_S1_S_).sem
  | 0, 1 => ((cc0_scratch42.slice (Rect.unit (s := S20) ![1] S1.size inb_S20_S1_1)).squeeze S_ squeezes_S1_S_).sem
  | 0, 2 => ((cc0_scratch42.slice (Rect.unit (s := S20) ![2] S1.size inb_S20_S1_2)).squeeze S_ squeezes_S1_S_).sem
  | 0, 3 => ((cc0_scratch42.slice (Rect.unit (s := S20) ![3] S1.size inb_S20_S1_3)).squeeze S_ squeezes_S1_S_).sem
  | 0, 4 => ((cc0_scratch42.slice (Rect.unit (s := S20) ![4] S1.size inb_S20_S1_4)).squeeze S_ squeezes_S1_S_).sem
  | 1, 0 => ((cc0_scratch42.slice (Rect.unit (s := S20) ![5] S1.size inb_S20_S1_5)).squeeze S_ squeezes_S1_S_).sem
  | 1, 1 => ((cc0_scratch42.slice (Rect.unit (s := S20) ![6] S1.size inb_S20_S1_6)).squeeze S_ squeezes_S1_S_).sem
  | 1, 2 => ((cc0_scratch42.slice (Rect.unit (s := S20) ![7] S1.size inb_S20_S1_7)).squeeze S_ squeezes_S1_S_).sem
  | 1, 3 => ((cc0_scratch42.slice (Rect.unit (s := S20) ![8] S1.size inb_S20_S1_8)).squeeze S_ squeezes_S1_S_).sem
  | 1, 4 => ((cc0_scratch42.slice (Rect.unit (s := S20) ![9] S1.size inb_S20_S1_9)).squeeze S_ squeezes_S1_S_).sem
  | 2, 0 => ((cc0_scratch42.slice (Rect.unit (s := S20) ![10] S1.size inb_S20_S1_10)).squeeze S_ squeezes_S1_S_).sem
  | 2, 1 => ((cc0_scratch42.slice (Rect.unit (s := S20) ![11] S1.size inb_S20_S1_11)).squeeze S_ squeezes_S1_S_).sem
  | 2, 2 => ((cc0_scratch42.slice (Rect.unit (s := S20) ![12] S1.size inb_S20_S1_12)).squeeze S_ squeezes_S1_S_).sem
  | 2, 3 => ((cc0_scratch42.slice (Rect.unit (s := S20) ![13] S1.size inb_S20_S1_13)).squeeze S_ squeezes_S1_S_).sem
  | 2, 4 => ((cc0_scratch42.slice (Rect.unit (s := S20) ![14] S1.size inb_S20_S1_14)).squeeze S_ squeezes_S1_S_).sem
  | 3, 0 => ((cc0_scratch42.slice (Rect.unit (s := S20) ![15] S1.size inb_S20_S1_15)).squeeze S_ squeezes_S1_S_).sem
  | 3, 1 => ((cc0_scratch42.slice (Rect.unit (s := S20) ![16] S1.size inb_S20_S1_16)).squeeze S_ squeezes_S1_S_).sem
  | 3, 2 => ((cc0_scratch42.slice (Rect.unit (s := S20) ![17] S1.size inb_S20_S1_17)).squeeze S_ squeezes_S1_S_).sem
  | 3, 3 => ((cc0_scratch42.slice (Rect.unit (s := S20) ![18] S1.size inb_S20_S1_18)).squeeze S_ squeezes_S1_S_).sem
  | 3, 4 => ((cc0_scratch42.slice (Rect.unit (s := S20) ![19] S1.size inb_S20_S1_19)).squeeze S_ squeezes_S1_S_).sem

/-- The semaphore that completes lane `j`'s send of all-gather stage `s`. -/
def agS : Fin 4 → Fin 5 → DmaSem sig
  | 0, 0 => ((cc0_scratch43.slice (Rect.unit (s := S20) ![0] S1.size inb_S20_S1_0)).squeeze S_ squeezes_S1_S_).sem
  | 0, 1 => ((cc0_scratch43.slice (Rect.unit (s := S20) ![1] S1.size inb_S20_S1_1)).squeeze S_ squeezes_S1_S_).sem
  | 0, 2 => ((cc0_scratch43.slice (Rect.unit (s := S20) ![2] S1.size inb_S20_S1_2)).squeeze S_ squeezes_S1_S_).sem
  | 0, 3 => ((cc0_scratch43.slice (Rect.unit (s := S20) ![3] S1.size inb_S20_S1_3)).squeeze S_ squeezes_S1_S_).sem
  | 0, 4 => ((cc0_scratch43.slice (Rect.unit (s := S20) ![4] S1.size inb_S20_S1_4)).squeeze S_ squeezes_S1_S_).sem
  | 1, 0 => ((cc0_scratch43.slice (Rect.unit (s := S20) ![5] S1.size inb_S20_S1_5)).squeeze S_ squeezes_S1_S_).sem
  | 1, 1 => ((cc0_scratch43.slice (Rect.unit (s := S20) ![6] S1.size inb_S20_S1_6)).squeeze S_ squeezes_S1_S_).sem
  | 1, 2 => ((cc0_scratch43.slice (Rect.unit (s := S20) ![7] S1.size inb_S20_S1_7)).squeeze S_ squeezes_S1_S_).sem
  | 1, 3 => ((cc0_scratch43.slice (Rect.unit (s := S20) ![8] S1.size inb_S20_S1_8)).squeeze S_ squeezes_S1_S_).sem
  | 1, 4 => ((cc0_scratch43.slice (Rect.unit (s := S20) ![9] S1.size inb_S20_S1_9)).squeeze S_ squeezes_S1_S_).sem
  | 2, 0 => ((cc0_scratch43.slice (Rect.unit (s := S20) ![10] S1.size inb_S20_S1_10)).squeeze S_ squeezes_S1_S_).sem
  | 2, 1 => ((cc0_scratch43.slice (Rect.unit (s := S20) ![11] S1.size inb_S20_S1_11)).squeeze S_ squeezes_S1_S_).sem
  | 2, 2 => ((cc0_scratch43.slice (Rect.unit (s := S20) ![12] S1.size inb_S20_S1_12)).squeeze S_ squeezes_S1_S_).sem
  | 2, 3 => ((cc0_scratch43.slice (Rect.unit (s := S20) ![13] S1.size inb_S20_S1_13)).squeeze S_ squeezes_S1_S_).sem
  | 2, 4 => ((cc0_scratch43.slice (Rect.unit (s := S20) ![14] S1.size inb_S20_S1_14)).squeeze S_ squeezes_S1_S_).sem
  | 3, 0 => ((cc0_scratch43.slice (Rect.unit (s := S20) ![15] S1.size inb_S20_S1_15)).squeeze S_ squeezes_S1_S_).sem
  | 3, 1 => ((cc0_scratch43.slice (Rect.unit (s := S20) ![16] S1.size inb_S20_S1_16)).squeeze S_ squeezes_S1_S_).sem
  | 3, 2 => ((cc0_scratch43.slice (Rect.unit (s := S20) ![17] S1.size inb_S20_S1_17)).squeeze S_ squeezes_S1_S_).sem
  | 3, 3 => ((cc0_scratch43.slice (Rect.unit (s := S20) ![18] S1.size inb_S20_S1_18)).squeeze S_ squeezes_S1_S_).sem
  | 3, 4 => ((cc0_scratch43.slice (Rect.unit (s := S20) ![19] S1.size inb_S20_S1_19)).squeeze S_ squeezes_S1_S_).sem

/-- The semaphore that counts what lane `j` receives at all-gather stage `s`. -/
def agR : Fin 4 → Fin 5 → DmaSem sig
  | 0, 0 => ((cc0_scratch44.slice (Rect.unit (s := S20) ![0] S1.size inb_S20_S1_0)).squeeze S_ squeezes_S1_S_).sem
  | 0, 1 => ((cc0_scratch44.slice (Rect.unit (s := S20) ![1] S1.size inb_S20_S1_1)).squeeze S_ squeezes_S1_S_).sem
  | 0, 2 => ((cc0_scratch44.slice (Rect.unit (s := S20) ![2] S1.size inb_S20_S1_2)).squeeze S_ squeezes_S1_S_).sem
  | 0, 3 => ((cc0_scratch44.slice (Rect.unit (s := S20) ![3] S1.size inb_S20_S1_3)).squeeze S_ squeezes_S1_S_).sem
  | 0, 4 => ((cc0_scratch44.slice (Rect.unit (s := S20) ![4] S1.size inb_S20_S1_4)).squeeze S_ squeezes_S1_S_).sem
  | 1, 0 => ((cc0_scratch44.slice (Rect.unit (s := S20) ![5] S1.size inb_S20_S1_5)).squeeze S_ squeezes_S1_S_).sem
  | 1, 1 => ((cc0_scratch44.slice (Rect.unit (s := S20) ![6] S1.size inb_S20_S1_6)).squeeze S_ squeezes_S1_S_).sem
  | 1, 2 => ((cc0_scratch44.slice (Rect.unit (s := S20) ![7] S1.size inb_S20_S1_7)).squeeze S_ squeezes_S1_S_).sem
  | 1, 3 => ((cc0_scratch44.slice (Rect.unit (s := S20) ![8] S1.size inb_S20_S1_8)).squeeze S_ squeezes_S1_S_).sem
  | 1, 4 => ((cc0_scratch44.slice (Rect.unit (s := S20) ![9] S1.size inb_S20_S1_9)).squeeze S_ squeezes_S1_S_).sem
  | 2, 0 => ((cc0_scratch44.slice (Rect.unit (s := S20) ![10] S1.size inb_S20_S1_10)).squeeze S_ squeezes_S1_S_).sem
  | 2, 1 => ((cc0_scratch44.slice (Rect.unit (s := S20) ![11] S1.size inb_S20_S1_11)).squeeze S_ squeezes_S1_S_).sem
  | 2, 2 => ((cc0_scratch44.slice (Rect.unit (s := S20) ![12] S1.size inb_S20_S1_12)).squeeze S_ squeezes_S1_S_).sem
  | 2, 3 => ((cc0_scratch44.slice (Rect.unit (s := S20) ![13] S1.size inb_S20_S1_13)).squeeze S_ squeezes_S1_S_).sem
  | 2, 4 => ((cc0_scratch44.slice (Rect.unit (s := S20) ![14] S1.size inb_S20_S1_14)).squeeze S_ squeezes_S1_S_).sem
  | 3, 0 => ((cc0_scratch44.slice (Rect.unit (s := S20) ![15] S1.size inb_S20_S1_15)).squeeze S_ squeezes_S1_S_).sem
  | 3, 1 => ((cc0_scratch44.slice (Rect.unit (s := S20) ![16] S1.size inb_S20_S1_16)).squeeze S_ squeezes_S1_S_).sem
  | 3, 2 => ((cc0_scratch44.slice (Rect.unit (s := S20) ![17] S1.size inb_S20_S1_17)).squeeze S_ squeezes_S1_S_).sem
  | 3, 3 => ((cc0_scratch44.slice (Rect.unit (s := S20) ![18] S1.size inb_S20_S1_18)).squeeze S_ squeezes_S1_S_).sem
  | 3, 4 => ((cc0_scratch44.slice (Rect.unit (s := S20) ![19] S1.size inb_S20_S1_19)).squeeze S_ squeezes_S1_S_).sem

/-- Where the 32 rows lane `j` ends the reduce-scatter with lie. -/
def oOff : Fin 4 → Dev nD → Fin 2 → Nat
  | 0 => k0_off41
  | 1 => k0_off42
  | 2 => k0_off43
  | 3 => k0_off44

/-- That rectangle lies inside the array. -/
theorem oOff_inb : ∀ (j : Fin 4) (c : Dev nD) (a : Fin 2), oOff j c a + (AH 0).size a ≤ S1024x1024.size a
  | 0 => k0_off41_inb
  | 1 => k0_off42_inb
  | 2 => k0_off43_inb
  | 3 => k0_off44_inb

/-- The device the `a`-th entry signal goes to. -/
def bDev : Fin 5 → Dev nD → Dev nD
  | 0 => fun c => ⟨k0_dev1 c, k0_dev1_lt c⟩
  | 1 => fun c => ⟨k0_dev2 c, k0_dev2_lt c⟩
  | 2 => fun c => ⟨k0_dev3 c, k0_dev3_lt c⟩
  | 3 => fun c => ⟨k0_dev4 c, k0_dev4_lt c⟩
  | 4 => fun c => ⟨k0_dev5 c, k0_dev5_lt c⟩

/-- The device the `a`-th exit signal goes to. -/
def xDev : Fin 5 → Dev nD → Dev nD
  | 0 => fun c => ⟨k0_dev46 c, k0_dev46_lt c⟩
  | 1 => fun c => ⟨k0_dev47 c, k0_dev47_lt c⟩
  | 2 => fun c => ⟨k0_dev48 c, k0_dev48_lt c⟩
  | 3 => fun c => ⟨k0_dev49 c, k0_dev49_lt c⟩
  | 4 => fun c => ⟨k0_dev50 c, k0_dev50_lt c⟩

theorem oOff_packed : ∀ (j : Fin 4) (c : Dev nD),
    (Rect.unit (s := S1024x1024) (oOff j c) (AH 0).size (oOff_inb j c)).PackedRows (EltTy.packing .bf16)
  | 0 => k0_off41_packedbf16
  | 1 => k0_off42_packedbf16
  | 2 => k0_off43_packedbf16
  | 3 => k0_off44_packedbf16

/-! ## The attention partial, batch element by batch element -/

/-- Batch element `0`'s rows of the attention partial, from the loaded blocks. -/
def attB0 (x wq wk wv : Vec F S1024x1024 .bf16) (w : Fin 8 → Vec F S128x1024 .bf16) : FVec F S256x1024 .f32 :=
  let v317 := k0_pay2 x wq
  let v313 := k0_pay1 x
  let v321 := k0_pay3 v313 wk
  let v325 := k0_pay4 v313 wv
  let v348 := k0_pay5 v313 v317 wk wv (w 0)
  let v351 := k0_pay6 v313 wv
  let v359 := k0_pay7 v313 v317 wk
  let v360 := k0_pay8 v313 v317 wk
  let v392 := k0_pay9 v317 v321 v325 v348 v351 v359 v360 (w 1) (w 2)
  let v395 := k0_pay10 v325
  let v403 := k0_pay11 v317 v321
  let v404 := k0_pay12 v317 v321
  let v436 := k0_pay13 v317 v321 v325 v392 v395 v403 v404 (w 3) (w 4)
  let v439 := k0_pay14 v325
  let v447 := k0_pay15 v317 v321
  let v448 := k0_pay16 v317 v321
  let v480 := k0_pay17 v317 v321 v325 v436 v439 v447 v448 (w 5) (w 6)
  let v483 := k0_pay18 v325
  let v491 := k0_pay19 v317 v321
  let v492 := k0_pay20 v317 v321
  k0_pay21 v480 v483 v491 v492 (w 7)

/-- Batch element `1`'s rows of the attention partial, from the loaded blocks. -/
def attB1 (x wq wk wv : Vec F S1024x1024 .bf16) (w : Fin 8 → Vec F S128x1024 .bf16) : FVec F S256x1024 .f32 :=
  let v317 := k0_pay2 x wq
  let v313 := k0_pay1 x
  let v321 := k0_pay3 v313 wk
  let v325 := k0_pay4 v313 wv
  let v528 := k0_pay22 v317 v321 v325 (w 0)
  let v531 := k0_pay23 v325
  let v534 := k0_pay24 v317 v321
  let v572 := k0_pay25 v317 v321 v325 v528 v531 v534 (w 1) (w 2)
  let v575 := k0_pay26 v325
  let v578 := k0_pay27 v317 v321
  let v616 := k0_pay28 v317 v321 v325 v572 v575 v578 (w 3) (w 4)
  let v619 := k0_pay29 v325
  let v622 := k0_pay30 v317 v321
  let v660 := k0_pay31 v317 v321 v325 v616 v619 v622 (w 5) (w 6)
  let v663 := k0_pay32 v325
  let v666 := k0_pay33 v317 v321
  k0_pay34 v660 v663 v666 (w 7)

/-- Batch element `2`'s rows of the attention partial, from the loaded blocks. -/
def attB2 (x wq wk wv : Vec F S1024x1024 .bf16) (w : Fin 8 → Vec F S128x1024 .bf16) : FVec F S256x1024 .f32 :=
  let v317 := k0_pay2 x wq
  let v313 := k0_pay1 x
  let v321 := k0_pay3 v313 wk
  let v325 := k0_pay4 v313 wv
  let v708 := k0_pay35 v317 v321 v325 (w 0)
  let v752 := k0_pay36 v317 v321 v325 v708 (w 1) (w 2)
  let v796 := k0_pay37 v317 v321 v325 v752 (w 3) (w 4)
  let v840 := k0_pay38 v317 v321 v325 v796 (w 5) (w 6)
  k0_pay39 v317 v321 v325 v840 (w 7)

/-- Batch element `3`'s rows of the attention partial, from the loaded blocks. -/
def attB3 (x wq wk wv : Vec F S1024x1024 .bf16) (w : Fin 8 → Vec F S128x1024 .bf16) : FVec F S256x1024 .f32 :=
  let v317 := k0_pay2 x wq
  let v313 := k0_pay1 x
  let v321 := k0_pay3 v313 wk
  let v325 := k0_pay4 v313 wv
  let v866 := k0_pay40 (F := F)
  let v883 := k0_pay41 v317 v321 v325
  let v910 := k0_pay42 v317 v321 v325 v866 v883 (w 0) (w 1)
  let v927 := k0_pay43 v317 v321 v325
  let v954 := k0_pay44 v317 v321 v325 v910 v927 (w 2) (w 3)
  let v971 := k0_pay45 v317 v321 v325
  let v998 := k0_pay46 v317 v321 v325 v954 v971 (w 4) (w 5)
  let v1015 := k0_pay47 v317 v321 v325
  k0_pay48 v317 v321 v325 v998 v1015 (w 6) (w 7)

/-- Batch element `b`'s rows of the attention partial. -/
def attB (b : Fin 4) (x wq wk wv : Vec F S1024x1024 .bf16) (w : Fin 8 → Vec F S128x1024 .bf16) :
    FVec F S256x1024 .f32 :=
  match b with
  | 0 => attB0 x wq wk wv w
  | 1 => attB1 x wq wk wv w
  | 2 => attB2 x wq wk wv w
  | 3 => attB3 x wq wk wv w

/-! ## The operands and the scratch -/

abbrev xM : Memref sig .tc .vmem S1024x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev outM : Memref sig .tc .vmem S1024x1024 .bf16 := Memref.whole cc0_stg5_0
abbrev workM : Memref sig .tc .vmem S1024x1024 .f32 := Memref.whole cc0_scratch0
abbrev barS : Sem sig := (SemArray.scalar (sig.barrier 0 rfl) : Sems sig S_).sem
abbrev exitS : Sem sig := cc0_scoped0.sem

theorem outM_whole : outM.IsWhole := Memref.isWhole_whole _
theorem workM_whole : workM.IsWhole := Memref.isWhole_whole _

theorem woRow_inb (h : Fin 8) : ∀ a, (![128 * h.val, 0] : Fin 2 → Nat) a + S128x1024.size a ≤ S1024x1024.size a := by
  intro a
  have := h.isLt
  fin_cases a
  · show 128 * h.val + 128 ≤ 1024
    omega
  · show 0 + 1024 ≤ 1024
    omega

theorem workRow_inb (b : Fin 4) : ∀ a, (![256 * b.val, 0] : Fin 2 → Nat) a + S256x1024.size a ≤ S1024x1024.size a := by
  intro a
  have := b.isLt
  fin_cases a
  · show 256 * b.val + 256 ≤ 1024
    omega
  · show 0 + 1024 ≤ 1024
    omega

/-- The whole of a 1024 by 1024 array. -/
abbrev rWhole : Rect S1024x1024 := Rect.unit ![0, 0] S1024x1024.size inb_S1024x1024_S1024x1024_0_0
/-- Head `h`'s rows of the output projection. -/
abbrev rWo (h : Fin 8) : Rect S1024x1024 := Rect.unit ![128 * h.val, 0] S128x1024.size (woRow_inb h)
/-- Batch element `b`'s rows. -/
abbrev rB (b : Fin 4) : Rect S1024x1024 := Rect.unit ![256 * b.val, 0] S256x1024.size (workRow_inb b)
/-- What stage `s` sends off lane `j`. -/
abbrev rSend (j : Fin 4) (s : Fin 5) (c : Dev nD) : Rect S1024x1024 := Rect.unit (sOff j s c) (SH s).size (sOff_inb j s c)
/-- What stage `s` keeps of lane `j`. -/
abbrev rKeep (j : Fin 4) (s : Fin 5) (c : Dev nD) : Rect S1024x1024 := Rect.unit (kOff j s c) (SH s).size (kOff_inb j s c)
/-- What is left of lane `j` after the reduce-scatter. -/
abbrev rOut (j : Fin 4) (c : Dev nD) : Rect S1024x1024 := Rect.unit (oOff j c) (AH 0).size (oOff_inb j c)
/-- What all-gather stage `s` sends of lane `j`. -/
abbrev rAg (j : Fin 4) (s : Fin 5) (c : Dev nD) : Rect S1024x1024 := Rect.unit (aOff j s c) (AH s).size (aOff_inb j s c)
/-- The whole of a stage's buffer. -/
abbrev rBuf (s : Fin 5) : Rect (SH s) := Rect.unit ![0, 0] (SH s).size (whole_inb s)
/-- The block of the result an all-gather stage moves. -/
abbrev agM (j : Fin 4) (s : Fin 5) (c : Dev nD) : Memref sig .tc .vmem (AH s) .bf16 := outM.slice (rAg j s c) (fun _ => rfl)

/-! ## The steps, each before a continuation -/

abbrev P (F : FTy → Type) := Prog (TpuEff nD τ sig (Elt F) Λ₀ .tc) PUnit

/-- Round a block to bf16, as it is put in a send buffer. -/
def pack (s : Fin 5) (v : Vec F (SH s) .f32) : FVec F (SH s) .bf16 :=
  shapeCast (SH s) (truncf .bf16 v bitsLt_bf16_f32) (SH_cast s)

/-- Add what arrived to what was kept. -/
def addIn (s : Fin 5) (v : Vec F (SH s) .f32) (w : Vec F (SH s) .bf16) : FVec F (SH s) .f32 :=
  shapeCast (SH s) (addf v (extf .f32 w bitsLt_bf16_f32)) (SH_cast s)

/-- Round a finished block to bf16. -/
def outV (v : Vec F (AH 0) .f32) : FVec F (AH 0) .bf16 := truncf .bf16 v bitsLt_bf16_f32

/-- Lane `j`, stage `s`: fill the send buffer and send it. -/
def rsSendK (c : Dev nD) (s : Fin 5) (j : Fin 4) (k : P F) : P F :=
  .op (.load workM (rSend j s c).toLoadRect (View.loadsAt_vmem (SH_pos s))) fun v =>
  .op (.load (sbufM j s) (rBuf s).toLoadRect (View.loadsAt_vmem (SH_pos s))) fun _ =>
  .op (.store (sbufM j s) (rBuf s) (pack s v) Finset.univ
    (View.stores_vmem (SH_pos s) ((sbufM_whole j s).storeExact_slice rfl _ (whole_packed s)) (fun _ => rfl)) (.inl rfl)) fun _ =>
  .op (.enqueueDma (sbufM j s) (.remote (Dev.tc (sDev j s c)) (rbufM j s) (.dma (rsS j s))) (.dma (rsR j s))
    (sbufM_whole j s).wordExact (rbufM_whole j s).wordExact ⟨⟨rfl, Or.inl rfl⟩, trivial⟩) fun _ => k

/-- Lane `j`, stage `s`: wait for the block sent and the block received, and add the latter in. -/
def rsRecvK (c : Dev nD) (s : Fin 5) (j : Fin 4) (k : P F) : P F :=
  .op (.waitDma2 (rsS j s) (rbufM j s) (sbufM j s) (rbufM_whole j s).wordExact (sbufM_whole j s).wordExact) fun _ =>
  .op (.waitDma2 (rsR j s) (sbufM j s) (rbufM j s) (sbufM_whole j s).wordExact (rbufM_whole j s).wordExact) fun _ =>
  .op (.load workM (rKeep j s c).toLoadRect (View.loadsAt_vmem (SH_pos s))) fun v =>
  .op (.load (rbufM j s) (rBuf s).toLoadRect (View.loadsAt_vmem (SH_pos s))) fun w =>
  .op (.load workM (rKeep j s c).toLoadRect (View.loadsAt_vmem (SH_pos s))) fun _ =>
  .op (.store workM (rKeep j s c) (addIn s v w) Finset.univ
    (View.stores_vmem_bits_univ (SH_pos s) rfl) (.inl rfl)) fun _ => k

/-- Lane `j`: put the finished block in the result. -/
def outK (c : Dev nD) (j : Fin 4) (k : P F) : P F :=
  .op (.load workM (rOut j c).toLoadRect (View.loadsAt_vmem (AH_pos 0))) fun v =>
  .op (.load outM (rOut j c).toLoadRect (View.loadsAt_vmem (AH_pos 0))) fun _ =>
  .op (.store outM (rOut j c) (outV v) Finset.univ
    (View.stores_vmem (AH_pos 0) (outM_whole.storeExact_slice rfl _ (oOff_packed j c)) (fun _ => rfl)) (.inl rfl)) fun _ => k

/-- Lane `j`, stage `s`: send the finished part of the result. -/
def agSendK (c : Dev nD) (s : Fin 5) (j : Fin 4) (k : P F) : P F :=
  .op (.enqueueDma (agM j s c) (.remote (Dev.tc (aDev j s c)) (agM j s c) (.dma (agS j s))) (.dma (agR j s))
    (outM_whole.wordExact_slice rfl _ (aOff_words j s c)) (outM_whole.wordExact_slice rfl _ (aOff_words j s c))
    ⟨⟨rfl, Or.inl rfl⟩, trivial⟩) fun _ => k

/-- Lane `j`, stage `s`: wait for the part sent and the part received. -/
def agRecvK (c : Dev nD) (s : Fin 5) (j : Fin 4) (k : P F) : P F :=
  .op (.waitDma2 (agS j s) (agM j s c) (agM j s c)
    (outM_whole.wordExact_slice rfl _ (aOff_words j s c)) (outM_whole.wordExact_slice rfl _ (aOff_words j s c))) fun _ =>
  .op (.waitDma2 (agR j s) (agM j s c) (agM j s c)
    (outM_whole.wordExact_slice rfl _ (aOff_words j s c)) (outM_whole.wordExact_slice rfl _ (aOff_words j s c))) fun _ => k

/-- One reduce-scatter stage. -/
def rsStageK (c : Dev nD) (s : Fin 5) (k : P F) : P F :=
  rsSendK c s 0 <| rsSendK c s 1 <| rsSendK c s 2 <| rsSendK c s 3 <|
  rsRecvK c s 0 <| rsRecvK c s 1 <| rsRecvK c s 2 <| rsRecvK c s 3 k

/-- One all-gather stage. -/
def agStageK (c : Dev nD) (s : Fin 5) (k : P F) : P F :=
  agSendK c s 0 <| agSendK c s 1 <| agSendK c s 2 <| agSendK c s 3 <|
  agRecvK c s 0 <| agRecvK c s 1 <| agRecvK c s 2 <| agRecvK c s 3 k

/-- A signal to the `a`-th neighbour's entry semaphore. -/
def barK (c : Dev nD) (a : Fin 5) (k : P F) : P F := .op (.semSignal (bDev a c, .tc) barS (1#32).toInt) fun _ => k
/-- A signal to the `a`-th neighbour's exit semaphore. -/
def exitK (c : Dev nD) (a : Fin 5) (k : P F) : P F := .op (.semSignal (xDev a c, .tc) exitS (1#32).toInt) fun _ => k

/-- Read head `h`'s rows of the output projection. -/
def woK (h : Fin 8) (k : Vec F S128x1024 .bf16 → P F) : P F :=
  .op (.load woM (rWo h).toLoadRect (View.loadsAt_vmem h_S128x1024)) k

/-- Batch element `b`: read the eight heads' output projections, and store its rows of the partial. -/
def batchK (b : Fin 4) (x wq wk wv : Vec F S1024x1024 .bf16) (k : P F) : P F :=
  woK 0 fun w0 => woK 1 fun w1 => woK 2 fun w2 => woK 3 fun w3 =>
  woK 4 fun w4 => woK 5 fun w5 => woK 6 fun w6 => woK 7 fun w7 =>
  .op (.load workM (rB b).toLoadRect (View.loadsAt_vmem h_S256x1024)) fun _ =>
  .op (.store workM (rB b) (attB b x wq wk wv ![w0, w1, w2, w3, w4, w5, w6, w7]) Finset.univ
    (View.stores_vmem_bits_univ h_S256x1024 rfl) (.inl rfl)) fun _ => k

/-- The attention partial. -/
def attK (k : P F) : P F :=
  .op (.load xM rWhole.toLoadRect (View.loadsAt_vmem h_S1024x1024)) fun x =>
  .op (.load wqM rWhole.toLoadRect (View.loadsAt_vmem h_S1024x1024)) fun wq =>
  .op (.load wkM rWhole.toLoadRect (View.loadsAt_vmem h_S1024x1024)) fun wk =>
  .op (.load wvM rWhole.toLoadRect (View.loadsAt_vmem h_S1024x1024)) fun wv =>
  batchK 0 x wq wk wv <| batchK 1 x wq wk wv <| batchK 2 x wq wk wv <| batchK 3 x wq wk wv k

/-- After the attention partial: the handshake, the two halves of the all-reduce, and the closing handshake. -/
def reduceK (c : Dev nD) : P F :=
  barK c 0 <| barK c 1 <| barK c 2 <| barK c 3 <| barK c 4 <|
  .op (.semWait barS (5#32).toInt) fun _ =>
  rsStageK c 0 <| rsStageK c 1 <| rsStageK c 2 <| rsStageK c 3 <| rsStageK c 4 <|
  outK c 0 <| outK c 1 <| outK c 2 <| outK c 3 <|
  agStageK c 0 <| agStageK c 1 <| agStageK c 2 <| agStageK c 3 <| agStageK c 4 <|
  exitK c 0 <| exitK c 1 <| exitK c 2 <| exitK c 3 <| exitK c 4 <|
  .op (.semWait exitS (5#32).toInt) fun _ => .ret ⟨⟩

/-- The whole body. -/
def bodyK : P F := .op .deviceId fun c => attK (reduceK c)

set_option maxRecDepth 65536 in
/-- The kernel's body is the program above. -/
theorem body_eq : (cc0__body xM (Memref.isWhole_whole _) wqM (Memref.isWhole_whole _) woM (Memref.isWhole_whole _) wkM (Memref.isWhole_whole _) wvM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) cc0_scratch41 cc0_scratch42 cc0_scratch43 cc0_scratch44 cc0_scoped0 : P F) = bodyK := by
  rewrite [cc0__body_eq_skeleton]
  rfl

end Cert.KernelIdeal.Net

end
-- ==== Proof.Topo.lean ====
/-
# Neighbours and blocks

The devices form a five-dimensional cube: along each of the five axes a device has one neighbour. Lane `j` visits the
axes in an order of its own. This file states the closed forms of the kernel's printed device numbers and offsets:
everything reduces to a neighbour map and to the block number a device is left with in each lane.
-/
module

public import proofs.«01_k».proof.Proof.Net

@[expose] public section

noncomputable section

namespace Cert.KernelIdeal.Net

open Cert.KernelIdeal Cert.KernelIdeal.Gen
open Idealize.ShloMosaic
open Idealize.ShloMosaic.TcCoe
open Idealize.SL.Sem

/-- The axis lane `j` exchanges along at reduce-scatter stage `s`. -/
def ord : Fin 4 → Fin 5 → Fin 5
  | 0 => ![0, 1, 2, 3, 4]
  | 1 => ![1, 2, 0, 4, 3]
  | 2 => ![2, 4, 3, 0, 1]
  | 3 => ![3, 0, 4, 1, 2]

/-- The neighbour along axis `a`. -/
abbrev nb (a : Fin 5) (c : Dev nD) : Dev nD := bDev a c

/-- The block of 32 rows device `c` finishes in lane `j`. -/
def cl (j : Fin 4) (c : Dev nD) : Nat := oOff j c 0 / 32

/-- The neighbour of reduce-scatter stage `s` of lane `j`. -/
abbrev pr (j : Fin 4) (s : Fin 5) (c : Dev nD) : Dev nD := nb (ord j s) c

theorem nb_nb : ∀ (a : Fin 5) (c : Dev nD), nb a (nb a c) = c := by decide +kernel
theorem nb_ne : ∀ (a : Fin 5) (c : Dev nD), nb a c ≠ c := by decide +kernel
theorem xDev_eq : ∀ (a : Fin 5) (c : Dev nD), xDev a c = nb a c := by decide +kernel
theorem sDev_eq : ∀ (j : Fin 4) (s : Fin 5) (c : Dev nD), sDev j s c = pr j s c := by decide +kernel
theorem aDev_eq : ∀ (j : Fin 4) (s : Fin 5) (c : Dev nD), aDev j s c = pr j s.rev c := by decide +kernel
theorem nb_inj : ∀ (a b : Fin 5) (c : Dev nD), nb a c = nb b c → a = b := by decide +kernel
theorem cl_lt : ∀ (j : Fin 4) (c : Dev nD), cl j c < 32 := by decide +kernel
theorem cl_inj : ∀ (j : Fin 4) (c d : Dev nD), cl j c = cl j d → c = d := by decide +kernel
theorem ord_bij : ∀ (j : Fin 4) (s t : Fin 5), ord j s = ord j t → s = t := by decide +kernel

theorem oOff_eq : ∀ (j : Fin 4) (c : Dev nD) (a : Fin 2), oOff j c a = ![32 * cl j c, 256 * j.val] a := by decide +kernel
theorem sOff_eq : ∀ (j : Fin 4) (s : Fin 5) (c : Dev nD) (a : Fin 2), sOff j s c a = ![hs s * (32 * cl j (pr j s c) / hs s), 256 * j.val] a := by decide +kernel
theorem kOff_eq : ∀ (j : Fin 4) (s : Fin 5) (c : Dev nD) (a : Fin 2), kOff j s c a = ![hs s * (32 * cl j c / hs s), 256 * j.val] a := by decide +kernel
theorem aOff_eq : ∀ (j : Fin 4) (s : Fin 5) (c : Dev nD) (a : Fin 2), aOff j s c a = ![ah s * (32 * cl j c / ah s), 256 * j.val] a := by decide +kernel

/-- Along a lane's stage-`s` axis the block number changes in one binary digit. -/
theorem cl_pr : ∀ (j : Fin 4) (s : Fin 5) (c : Dev nD), cl j (pr j s c) = Nat.xor (cl j c) (hs s / 32) := by decide +kernel

end Cert.KernelIdeal.Net

end
-- ==== Proof.Contents.lean ====
/-
# What the buffers hold

The contents of the working array, of the landing buffers and of the result, as functions of the operands: the
attention partial; after each exchange, the partial with the neighbour's block added in; at the end, the finished
result, the same on every device.
-/
module

public import proofs.«01_k».proof.Proof.Topo
public import Idealize.ShloMosaic.Lib.Pipeline.Launch
public import Idealize.ShloMosaic.Lib.Pipeline.Kit
public import Idealize.ShloMosaic.Lib.Tactic

@[expose] public section

noncomputable section

namespace Cert.KernelIdeal.Net

open Cert.KernelIdeal Cert.KernelIdeal.Gen
open Idealize.ShloMosaic
open Idealize.ShloMosaic.TcCoe
open Idealize.SL.Sem

variable {F : FTy → Type} [FloatOps F]

/-! ## Reading and writing blocks -/

/-- The rectangle covering a stage's buffer indexes it by itself. -/
theorem rBuf_emb (s : Fin 5) (x : (SH s).Idx) : (rBuf s).emb x = x := by
  funext a
  apply Fin.ext
  show (![0, 0] : Fin 2 → Nat) a + 1 * (x a).val = (x a).val
  fin_cases a <;> simp

/-- A stage's buffer written whole reads what was written. -/
theorem read_buf (s : Fin 5) (M : Memref sig .tc .vmem (SH s) .bf16) (f : M.view.ty.Contents (Elt F)) (w : Vec F (SH s) .bf16) :
    M.view.read (Elt F) ((M.access (rBuf s) : View sig .tc _ _ _).write (Elt F) f w Finset.univ) = w := by
  funext x
  have h := View.read_slice_write_emb (v := M.view) (Val := Elt F) (rBuf s) f w (Finset.mem_univ x)
  rw [rBuf_emb] at h
  exact h

/-- A stage's buffer loaded whole is what it holds. -/
theorem load_buf (s : Fin 5) (M : Memref sig .tc .vmem (SH s) .bf16) (f : M.view.ty.Contents (Elt F)) :
    M.view.readAt (Elt F) (rBuf s).toLoadRect f = M.view.read (Elt F) f := by
  funext x
  show M.view.read (Elt F) f ((rBuf s).emb x) = _
  rw [rBuf_emb]

/-- What is written over a view's own contents leaves the view as it was. -/
theorem write_read_self {sp : Space} {sh : Shape} {e : EltTy} (v : View sig .tc sp sh e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

/-- The element of a unit rectangle that lies over `i`. -/
def inRect (off sz : Fin 2 → Nat) (i : S1024x1024.Idx) (h : ∀ a, off a ≤ (i a).val ∧ (i a).val < off a + sz a) : (⟨2, sz⟩ : Shape).Idx :=
  fun a => ⟨(i a).val - off a, Nat.sub_lt_left_of_lt_add (h a).1 (h a).2⟩

/-- A block written into the working array: the block inside, the old contents outside. -/
theorem work_write (off sz : Fin 2 → Nat) (inb : ∀ a, off a + sz a ≤ S1024x1024.size a) (f : Vec F S1024x1024 .f32)
    (w : Vec F ⟨2, sz⟩ .f32) (i : S1024x1024.Idx) :
    (workM.access (Rect.unit off sz inb) : View sig .tc _ _ _).write (Elt F) f w Finset.univ i
      = if h : ∀ a, off a ≤ (i a).val ∧ (i a).val < off a + sz a then w (inRect off sz i h) else f i := by
  by_cases h : ∀ a, off a ≤ (i a).val ∧ (i a).val < off a + sz a
  · rw [dif_pos h]
    have he : (Rect.unit off sz inb : Rect S1024x1024).emb (inRect off sz i h) = i := by
      funext a
      apply Fin.ext
      show off a + 1 * ((i a).val - off a) = (i a).val
      rw [Nat.one_mul, Nat.add_sub_cancel' (h a).1]
    have := View.read_slice_write_emb (v := workM.view) (Val := Elt F) (Rect.unit off sz inb) f w (Finset.mem_univ (inRect off sz i h))
    rw [he] at this
    exact this
  · rw [dif_neg h]
    refine View.write_of_not_mem _ _ _ ?_
    intro hm
    have hm' : i ∈ ((View.whole cc0_scratch0).slice (Rect.unit off sz inb)).set := hm
    rw [View.set_slice_whole, Rect.mem_set_unit] at hm'
    exact h hm'

/-- The same for the result array. -/
theorem out_write (off sz : Fin 2 → Nat) (inb : ∀ a, off a + sz a ≤ S1024x1024.size a) (f : Vec F S1024x1024 .bf16)
    (w : Vec F ⟨2, sz⟩ .bf16) (i : S1024x1024.Idx) :
    (outM.access (Rect.unit off sz inb) : View sig .tc _ _ _).write (Elt F) f w Finset.univ i
      = if h : ∀ a, off a ≤ (i a).val ∧ (i a).val < off a + sz a then w (inRect off sz i h) else f i := by
  by_cases h : ∀ a, off a ≤ (i a).val ∧ (i a).val < off a + sz a
  · rw [dif_pos h]
    have he : (Rect.unit off sz inb : Rect S1024x1024).emb (inRect off sz i h) = i := by
      funext a
      apply Fin.ext
      show off a + 1 * ((i a).val - off a) = (i a).val
      rw [Nat.one_mul, Nat.add_sub_cancel' (h a).1]
    have := View.read_slice_write_emb (v := outM.view) (Val := Elt F) (Rect.unit off sz inb) f w (Finset.mem_univ (inRect off sz i h))
    rw [he] at this
    exact this
  · rw [dif_neg h]
    refine View.write_of_not_mem _ _ _ ?_
    intro hm
    have hm' : i ∈ ((View.whole cc0_stg5_0).slice (Rect.unit off sz inb)).set := hm
    rw [View.set_slice_whole, Rect.mem_set_unit] at hm'
    exact h hm'

/-! ## The operands -/

variable (m : (ℓ : Loc nD τ sig) → Buf (Elt F) ℓ)

/-- The operands as they are staged. -/
def opX (c : Dev nD) : Vec F S1024x1024 .bf16 := (win0_0.blk (0 : Fin 1)).view.read (Elt F) (m ((c : Thread nD τ).loc main_arg0))
def opWq (c : Dev nD) : Vec F S1024x1024 .bf16 := (win0_1.blk (0 : Fin 1)).view.read (Elt F) (m ((c : Thread nD τ).loc main_arg1))
def opWo (c : Dev nD) : Vec F S1024x1024 .bf16 := (win0_2.blk (0 : Fin 1)).view.read (Elt F) (m ((c : Thread nD τ).loc main_arg2))
def opWk (c : Dev nD) : Vec F S1024x1024 .bf16 := (win0_3.blk (0 : Fin 1)).view.read (Elt F) (m ((c : Thread nD τ).loc main_arg3))
def opWv (c : Dev nD) : Vec F S1024x1024 .bf16 := (win0_4.blk (0 : Fin 1)).view.read (Elt F) (m ((c : Thread nD τ).loc main_arg4))

/-- Head `h`'s rows of the output projection. -/
def woRow (c : Dev nD) (h : Fin 8) : Vec F S128x1024 .bf16 := woM.view.readAt (Elt F) (rWo h).toLoadRect (opWo m c)

/-- Batch element `b`'s rows of device `c`'s attention partial. -/
def part (c : Dev nD) (b : Fin 4) : FVec F S256x1024 .f32 := attB b (opX m c) (opWq m c) (opWk m c) (opWv m c) (woRow m c)

/-- Device `c`'s attention partial. -/
def watt (c : Dev nD) : Vec F S1024x1024 .f32 := fun i =>
  part m c ⟨(i 0).val / 256, by have : (i 0).val < 1024 := (i 0).isLt; omega⟩
    (inRect ![256 * ((i 0).val / 256), 0] S256x1024.size i (by
      have h0 : (i 0).val < 1024 := (i 0).isLt
      have h1 : (i 1).val < 1024 := (i 1).isLt
      intro a
      fin_cases a
      · show 256 * ((i 0).val / 256) ≤ (i 0).val ∧ (i 0).val < 256 * ((i 0).val / 256) + 256
        omega
      · show 0 ≤ (i 1).val ∧ (i 1).val < 0 + 1024
        omega))

/-- The working array after the first `n` batch elements, from contents `f`. -/
def wrB (c : Dev nD) (b : Fin 4) (f : Vec F S1024x1024 .f32) : Vec F S1024x1024 .f32 :=
  (workM.access (rB b) : View sig .tc _ _ _).write (Elt F) f (part m c b) Finset.univ

theorem wrB_all (c : Dev nD) (f : Vec F S1024x1024 .f32) :
    wrB m c 3 (wrB m c 2 (wrB m c 1 (wrB m c 0 f))) = watt m c := by
  funext i
  have h0 : (i 0).val < 1024 := (i 0).isLt
  have h1 : (i 1).val < 1024 := (i 1).isLt
  have key : ∀ (b : Fin 4) (g : Vec F S1024x1024 .f32), wrB m c b g i = if b.val = (i 0).val / 256 then watt m c i else g i := by
    intro b g
    unfold wrB
    rw [work_write]
    by_cases hb : b.val = (i 0).val / 256
    · rw [if_pos hb]
      obtain ⟨b, hlt⟩ := b
      have hb' : b = (i 0).val / 256 := hb
      subst hb'
      rw [dif_pos]
      rfl
    · rw [if_neg hb, dif_neg]
      intro h
      have := h 0
      have h' : 256 * b.val ≤ (i 0).val ∧ (i 0).val < 256 * b.val + 256 := this
      omega
  rw [key, key, key, key]
  have : (i 0).val / 256 = 0 ∨ (i 0).val / 256 = 1 ∨ (i 0).val / 256 = 2 ∨ (i 0).val / 256 = 3 := by omega
  rcases this with h | h | h | h <;> simp [h]

/-! ## The reduce-scatter -/

/-- The block device `c` sends off lane `j` at stage `s` when the working array holds `f`. -/
def sendV (j : Fin 4) (s : Fin 5) (c : Dev nD) (f : Vec F S1024x1024 .f32) : Vec F (SH s) .bf16 :=
  pack s (workM.view.readAt (Elt F) (rSend j s c).toLoadRect f)

/-- The working array with a received block added in. -/
def addL (j : Fin 4) (s : Fin 5) (c : Dev nD) (r : Vec F (SH s) .bf16) (f : Vec F S1024x1024 .f32) : Vec F S1024x1024 .f32 :=
  (workM.access (rKeep j s c) : View sig .tc _ _ _).write (Elt F) f
    (addIn s (workM.view.readAt (Elt F) (rKeep j s c).toLoadRect f) r) Finset.univ

/-- One stage over all devices. -/
def stepS (s : Fin 5) (W : Dev nD → Vec F S1024x1024 .f32) (c : Dev nD) : Vec F S1024x1024 .f32 :=
  addL 3 s c (sendV 3 s (pr 3 s c) (W (pr 3 s c))) <| addL 2 s c (sendV 2 s (pr 2 s c) (W (pr 2 s c))) <|
  addL 1 s c (sendV 1 s (pr 1 s c) (W (pr 1 s c))) <| addL 0 s c (sendV 0 s (pr 0 s c) (W (pr 0 s c))) (W c)

/-- The working array before stage `n`. -/
def wst : Nat → Dev nD → Vec F S1024x1024 .f32
  | 0 => watt m
  | n + 1 => stepS ⟨n % 5, Nat.mod_lt _ (by decide)⟩ (wst n)

theorem wst_succ (s : Fin 5) (c : Dev nD) : wst m (s.val + 1) c = stepS s (wst m s.val) c := by
  have : (⟨s.val % 5, Nat.mod_lt _ (by decide)⟩ : Fin 5) = s := Fin.ext (Nat.mod_eq_of_lt s.isLt)
  show stepS ⟨s.val % 5, _⟩ (wst m s.val) c = _
  rw [this]

/-! ## The result -/

theorem exists_cl : ∀ (j : Fin 4) (r : Fin 32), ∃ c : Dev nD, cl j c = r.val := by decide +kernel

/-- Which lane an element lies in. -/
def lane (i : S1024x1024.Idx) : Fin 4 := ⟨(i 1).val / 256, by have : (i 1).val < 1024 := (i 1).isLt; omega⟩
/-- Which block of 32 rows it lies in. -/
def blk (i : S1024x1024.Idx) : Fin 32 := ⟨(i 0).val / 32, by have : (i 0).val < 1024 := (i 0).isLt; omega⟩
/-- The device that finishes the element. -/
def own (i : S1024x1024.Idx) : Dev nD := (exists_cl (lane i) (blk i)).choose

theorem cl_own (i : S1024x1024.Idx) : cl (lane i) (own i) = (i 0).val / 32 := (exists_cl (lane i) (blk i)).choose_spec

/-- The finished result, the same on every device. -/
def fin : Vec F S1024x1024 .bf16 := fun i => FloatOps.truncf .bf16 bitsLt_bf16_f32 (wst m 5 (own i) i)

/-! ## The blocks of the result -/

/-- The elements of the result that all-gather stage `s` sends from device `c` in lane `j`. -/
def agSet (j : Fin 4) (s : Fin 5) (c : Dev nD) : Finset S1024x1024.Idx := (agM j s c).view.set

theorem mem_agSet (j : Fin 4) (s : Fin 5) (c : Dev nD) (i : S1024x1024.Idx) :
    i ∈ agSet j s c ↔ (lane i = j ∧ (i 0).val / ah s = 32 * cl j c / ah s) := by
  unfold agSet
  have h0 : (i 0).val < 1024 := (i 0).isLt
  have h1 : (i 1).val < 1024 := (i 1).isLt
  have hm : i ∈ (agM j s c).view.set ↔ i ∈ (rAg j s c).set := by
    show i ∈ ((View.whole cc0_stg5_0).slice (rAg j s c)).set ↔ _
    rw [View.set_slice_whole]
  rw [hm, Rect.mem_set_unit]
  have e0 : aOff j s c 0 = ah s * (32 * cl j c / ah s) := aOff_eq j s c 0
  have e1 : aOff j s c 1 = 256 * j.val := aOff_eq j s c 1
  have hp : 0 < ah s := by fin_cases s <;> decide
  have hl : lane i = j ↔ (i 1).val / 256 = j.val := ⟨fun h => congrArg Fin.val h, fun h => Fin.ext h⟩
  rw [hl]
  have e2 : (i 0).val / ah s = 32 * cl j c / ah s ↔ ah s * (32 * cl j c / ah s) ≤ (i 0).val ∧ (i 0).val < ah s * (32 * cl j c / ah s) + ah s := by
    rw [Nat.div_eq_iff hp]
    constructor
    · rintro ⟨h, h'⟩
      rw [Nat.mul_comm] at h
      exact ⟨h, by rw [Nat.mul_comm (ah s)]; omega⟩
    · rintro ⟨h, h'⟩
      rw [Nat.mul_comm]
      exact ⟨h, by omega⟩
  rw [e2]
  constructor
  · intro h
    have a0 := h 0
    have a1 := h 1
    rw [e0] at a0
    rw [e1] at a1
    have a0' : ah s * (32 * cl j c / ah s) ≤ (i 0).val ∧ (i 0).val < ah s * (32 * cl j c / ah s) + ah s := a0
    have a1' : 256 * j.val ≤ (i 1).val ∧ (i 1).val < 256 * j.val + 256 := a1
    exact ⟨by omega, a0'⟩
  · rintro ⟨h, h'⟩ a
    fin_cases a
    · show aOff j s c 0 ≤ (i 0).val ∧ (i 0).val < aOff j s c 0 + ah s
      rw [e0]
      exact h'
    · show aOff j s c 1 ≤ (i 1).val ∧ (i 1).val < aOff j s c 1 + 256
      rw [e1]
      omega

/-- A lane of the result. -/
def laneSet (j : Fin 4) : Finset S1024x1024.Idx := Finset.univ.filter fun i => lane i = j

/-- What device `c` holds finished in lane `j` before all-gather stage `n`. -/
def curSet (j : Fin 4) (n : Nat) (c : Dev nD) : Finset S1024x1024.Idx :=
  Finset.univ.filter fun i => lane i = j ∧ (i 0).val / (32 * 2 ^ n) = 32 * cl j c / (32 * 2 ^ n)

theorem ah_eq : ∀ s : Fin 5, ah s = 32 * 2 ^ s.val := by decide

theorem agSet_eq (j : Fin 4) (s : Fin 5) (c : Dev nD) : agSet j s c = curSet j s.val c := by
  ext i
  rw [mem_agSet, curSet, Finset.mem_filter, ah_eq]
  simp

theorem curSet_five (j : Fin 4) (c : Dev nD) : curSet j 5 c = laneSet j := by
  ext i
  have h0 : (i 0).val < 1024 := (i 0).isLt
  have := cl_lt j c
  simp only [curSet, laneSet, Finset.mem_filter, Finset.mem_univ, true_and, and_iff_left_iff_imp]
  intro _
  show (i 0).val / 1024 = 32 * cl j c / 1024
  omega

theorem cl_split : ∀ (j : Fin 4) (s : Fin 5) (c : Dev nD) (r : Fin 32),
    (r.val / 2 ^ (s.val + 1) = cl j c / 2 ^ (s.val + 1) ↔
      (r.val / 2 ^ s.val = cl j c / 2 ^ s.val ∨ r.val / 2 ^ s.val = cl j (pr j s.rev c) / 2 ^ s.val))
    ∧ ¬ (r.val / 2 ^ s.val = cl j c / 2 ^ s.val ∧ r.val / 2 ^ s.val = cl j (pr j s.rev c) / 2 ^ s.val) := by
  decide +kernel

theorem mem_curSet (j : Fin 4) (n : Nat) (c : Dev nD) (i : S1024x1024.Idx) :
    i ∈ curSet j n c ↔ (lane i = j ∧ (blk i).val / 2 ^ n = cl j c / 2 ^ n) := by
  simp only [curSet, Finset.mem_filter, Finset.mem_univ, true_and]
  rw [← Nat.div_div_eq_div_mul, ← Nat.div_div_eq_div_mul, Nat.mul_div_cancel_left _ (by decide : 0 < 32)]
  rfl

/-- An all-gather stage joins what the device holds and what its neighbour holds. -/
theorem curSet_succ (j : Fin 4) (s : Fin 5) (c : Dev nD) :
    curSet j (s.val + 1) c = agSet j s c ∪ agSet j s (pr j s.rev c) := by
  ext i
  rw [agSet_eq, agSet_eq, Finset.mem_union, mem_curSet, mem_curSet, mem_curSet, (cl_split j s c (blk i)).1]
  tauto

theorem agSet_disjoint (j : Fin 4) (s : Fin 5) (c : Dev nD) : Disjoint (agSet j s c) (agSet j s (pr j s.rev c)) := by
  rw [Finset.disjoint_left]
  intro i h h'
  rw [agSet_eq, mem_curSet] at h h'
  exact (cl_split j s c (blk i)).2 ⟨h.2, h'.2⟩

theorem laneSet_disjoint (j j' : Fin 4) (h : j ≠ j') : Disjoint (laneSet j) (laneSet j') := by
  rw [Finset.disjoint_left]
  intro i hi hi'
  simp only [laneSet, Finset.mem_filter, Finset.mem_univ, true_and] at hi hi'
  exact h (hi.symm.trans hi')

theorem laneSet_cover : (Finset.univ : Finset (Fin 4)).biUnion laneSet = Finset.univ := by
  ext i
  simp [laneSet]

/-- Where a lane's finished block is written, the result is final. -/
theorem out_final (j : Fin 4) (c : Dev nD) (f : Vec F S1024x1024 .bf16) : ∀ i ∈ agSet j 0 c,
    (outM.access (rOut j c) : View sig .tc _ _ _).write (Elt F) f
      (outV (workM.view.readAt (Elt F) (rOut j c).toLoadRect (wst m 5 c))) Finset.univ i = fin m i := by
  intro i hi
  rw [agSet_eq, mem_curSet] at hi
  obtain ⟨hl, hb⟩ := hi
  have hb' : (i 0).val / 32 = cl j c := by simpa [blk] using hb
  have hown : own i = c := by
    apply cl_inj j
    rw [← hl, cl_own, hl, hb']
  have h1 : (i 1).val / 256 = j.val := congrArg Fin.val hl
  have e0 : oOff j c 0 = 32 * cl j c := oOff_eq j c 0
  have e1 : oOff j c 1 = 256 * j.val := oOff_eq j c 1
  have hin : ∀ a, oOff j c a ≤ (i a).val ∧ (i a).val < oOff j c a + (AH 0).size a := by
    intro a
    fin_cases a
    · show oOff j c 0 ≤ (i 0).val ∧ (i 0).val < oOff j c 0 + 32
      omega
    · show oOff j c 1 ≤ (i 1).val ∧ (i 1).val < oOff j c 1 + 256
      omega
  have hw := out_write (F := F) (oOff j c) (AH 0).size (oOff_inb j c) f (outV (workM.view.readAt (Elt F) (rOut j c).toLoadRect (wst m 5 c))) i
  refine hw.trans ?_
  rw [dif_pos hin]
  unfold fin
  rw [hown]
  have he : (rOut j c).emb (inRect (oOff j c) (AH 0).size i hin) = i := by
    funext a
    apply Fin.ext
    show oOff j c a + 1 * ((i a).val - oOff j c a) = (i a).val
    rw [Nat.one_mul, Nat.add_sub_cancel' (hin a).1]
  show FloatOps.truncf .bf16 _ (workM.view.read (Elt F) (wst m 5 c) ((rOut j c).emb (inRect (oOff j c) (AH 0).size i hin))) = _
  rw [he]
  rfl

/-- The block an output store writes lies in what the device holds first. -/
theorem rOut_set (j : Fin 4) (c : Dev nD) : (outM.access (rOut j c) : View sig .tc _ _ _).set = agSet j 0 c := by
  have ha : ∀ a, aOff j 0 c a = oOff j c a := by
    intro a
    rw [aOff_eq, oOff_eq]
    fin_cases a
    · show ah 0 * (32 * cl j c / ah 0) = 32 * cl j c
      show 32 * (32 * cl j c / 32) = 32 * cl j c
      omega
    · rfl
  ext i
  have hm : i ∈ agSet j 0 c ↔ i ∈ (rAg j 0 c).set := by
    show i ∈ ((View.whole cc0_stg5_0).slice (rAg j 0 c)).set ↔ _
    rw [View.set_slice_whole]
  have hm' : i ∈ (outM.access (rOut j c) : View sig .tc _ _ _).set ↔ i ∈ (rOut j c).set := by
    show i ∈ ((View.whole cc0_stg5_0).slice (rOut j c)).set ↔ _
    rw [View.set_slice_whole]
  rw [hm, hm', Rect.mem_set_unit, Rect.mem_set_unit]
  exact forall_congr' fun a => by rw [ha]

end Cert.KernelIdeal.Net

end
-- ==== Proof.Sched.lean ====
/-
# The schedule

The kernel's semaphores and what each of them stands for: the entry barrier hands over the landing buffers and the
blocks of the result that neighbours will write, a send semaphore returns the block sent, a receive semaphore hands over
the block received, the exit barrier hands over nothing. With it: what each device owes at launch, in the order in which
it pays, and the levels that make every wait admissible.
-/
module

public import proofs.«01_k».proof.Proof.Contents

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Fin 5)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kernel's own semaphores: the exit barrier, and by kind (send and receive of the reduce-scatter, send and receive
    of the all-gather), lane and stage the transfers'. -/
abbrev OK := Option (Fin 4 × Fin 4 × Fin 5)
/-- With the entry barrier. -/
abbrev CK := Option OK

abbrev kBar : CK := none
abbrev kExit : CK := some none
abbrev kRsS (j : Fin 4) (s : Fin 5) : CK := some (some (0, j, s))
abbrev kRsR (j : Fin 4) (s : Fin 5) : CK := some (some (1, j, s))
abbrev kAgS (j : Fin 4) (s : Fin 5) : CK := some (some (2, j, s))
abbrev kAgR (j : Fin 4) (s : Fin 5) : CK := some (some (3, j, s))

def osem : OK → SemLoc sig
  | none => .reg exitS
  | some (0, j, s) => .dma (rsS j s)
  | some (1, j, s) => .dma (rsR j s)
  | some (2, j, s) => .dma (agS j s)
  | some (3, j, s) => .dma (agR j s)

def csem : CK → SemLoc sig
  | none => .reg barS
  | some o => osem o

abbrev cell (c : Dev nD) (k : CK) : GSem nD τ sig := ((c : Thread nD τ), csem k)

theorem csem_inj : Function.Injective csem := by decide +kernel

open Classical in
/-- Which of the kernel's semaphores a semaphore is. -/
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h, csem_inj h.choose_spec]

theorem kindOf_none (sm : SemLoc sig) (h : ∀ k, csem k ≠ sm) : kindOf sm = none :=
  dif_neg fun ⟨k, hk⟩ => h k hk

theorem cell_inj {c c' : Dev nD} {k k' : CK} : cell c k = cell c' k' ↔ c = c' ∧ k = k' := by
  constructor
  · intro h
    exact ⟨congrArg (fun g : GSem nD τ sig => g.1.1) h, csem_inj (congrArg Prod.snd h)⟩
  · rintro ⟨rfl, rfl⟩
    rfl

/-! ## Amounts and levels -/

/-- What a transfer of a reduce-scatter block counts for. -/
def amtR (j : Fin 4) (s : Fin 5) : ℕ := (rbufM j s).view.dmaCredit
/-- What a transfer of an all-gather block counts for. -/
def amtA (s : Fin 5) : ℕ := (agM 0 s 0).view.dmaCredit

theorem amtR_sbuf : ∀ (j : Fin 4) (s : Fin 5), (sbufM j s).view.dmaCredit = amtR j s := by
  intro j s
  fin_cases j <;> fin_cases s <;> rfl

theorem amtA_eq (j : Fin 4) (s : Fin 5) (c : Dev nD) : (agM j s c).view.dmaCredit = amtA s := rfl

theorem amtR_pos (j : Fin 4) (s : Fin 5) : 0 < amtR j s := View.dmaCredit_pos _ (SH_pos s)
theorem amtA_pos (s : Fin 5) : 0 < amtA s := View.dmaCredit_pos _ (AH_pos s)

def amtK : CK → ℕ
  | none => 1
  | some none => 1
  | some (some (0, j, s)) => amtR j s
  | some (some (1, j, s)) => amtR j s
  | some (some (2, _, s)) => amtA s
  | some (some (3, _, s)) => amtA s

theorem amtK_pos (k : CK) : 0 < amtK k := by
  rcases k with _ | _ | ⟨t, j, s⟩
  · exact Nat.one_pos
  · exact Nat.one_pos
  · fin_cases t
    · exact amtR_pos j s
    · exact amtR_pos j s
    · exact amtA_pos s
    · exact amtA_pos s

def lvK : CK → ℕ
  | none => 1
  | some none => 12
  | some (some (0, _, _)) => 0
  | some (some (1, _, s)) => 2 + s.val
  | some (some (2, _, _)) => 0
  | some (some (3, _, s)) => 7 + s.val

def L (g : GSem nD τ sig) : Finset Unit := if g.1.2 = .tc then {()} else ∅
def lv (g : GSem nD τ sig) (_ : Unit) : ℕ := match kindOf g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : CK) (u : Unit) : lv (cell c k) u = lvK k := by
  unfold lv
  rw [kindOf_csem]

theorem lv_none (c : Dev nD) (sm : SemLoc sig) (h : ∀ k, csem k ≠ sm) (u : Unit) : lv ((c : Thread nD τ), sm) u = 0 := by
  unfold lv
  rw [kindOf_none sm h]

/-! ## What is owed -/

/-- A debt: to the neighbour along an axis, at one of its semaphores. -/
abbrev Debt := Fin 5 × CK

/-- What device `c` owes by a list of debts. -/
def owedBy (c : Dev nD) : List Debt → CellTallies nD τ sig Unit
  | [] => 0
  | d :: l => owedBy c l + tallyAt (cell (nb d.1 c) d.2) () (amtK d.2)

def barDebts (l : List Debt) : List Debt := (0, kBar) :: (1, kBar) :: (2, kBar) :: (3, kBar) :: (4, kBar) :: l
def exitDebts : List Debt := [(0, kExit), (1, kExit), (2, kExit), (3, kExit), (4, kExit)]
def rsDebts (s : Fin 5) (l : List Debt) : List Debt :=
  (ord 0 s, kRsR 0 s) :: (ord 1 s, kRsR 1 s) :: (ord 2 s, kRsR 2 s) :: (ord 3 s, kRsR 3 s) :: l
def agDebts (s : Fin 5) (l : List Debt) : List Debt :=
  (ord 0 s.rev, kAgR 0 s) :: (ord 1 s.rev, kAgR 1 s) :: (ord 2 s.rev, kAgR 2 s) :: (ord 3 s.rev, kAgR 3 s) :: l

/-- The debts left before all-gather stage `n`. -/
def agLeft : Nat → List Debt
  | 0 => agDebts 0 (agDebts 1 (agDebts 2 (agDebts 3 (agDebts 4 exitDebts))))
  | 1 => agDebts 1 (agDebts 2 (agDebts 3 (agDebts 4 exitDebts)))
  | 2 => agDebts 2 (agDebts 3 (agDebts 4 exitDebts))
  | 3 => agDebts 3 (agDebts 4 exitDebts)
  | 4 => agDebts 4 exitDebts
  | _ => exitDebts

/-- The debts left before reduce-scatter stage `n`. -/
def rsLeft : Nat → List Debt
  | 0 => rsDebts 0 (rsDebts 1 (rsDebts 2 (rsDebts 3 (rsDebts 4 (agLeft 0)))))
  | 1 => rsDebts 1 (rsDebts 2 (rsDebts 3 (rsDebts 4 (agLeft 0))))
  | 2 => rsDebts 2 (rsDebts 3 (rsDebts 4 (agLeft 0)))
  | 3 => rsDebts 3 (rsDebts 4 (agLeft 0))
  | 4 => rsDebts 4 (agLeft 0)
  | _ => agLeft 0

def allDebts : List Debt := barDebts (rsLeft 0)

/-- What device `c` owes at launch. -/
def O₀ (c : Dev nD) : CellTallies nD τ sig Unit := owedBy c allDebts

theorem owedBy_pos {c : Dev nD} {g : GSem nD τ sig} {u : Unit} : ∀ {l : List Debt}, 0 < owedBy c l g u →
    ∃ d ∈ l, g = cell (nb d.1 c) d.2
  | [], h => absurd h (Nat.lt_irrefl 0)
  | d :: l, h => by
    unfold owedBy at h
    rw [Pi.add_apply, Finsupp.add_apply] at h
    by_cases hg : g = cell (nb d.1 c) d.2
    · exact ⟨d, List.mem_cons_self, hg⟩
    · rw [tallyAt_apply, if_neg (fun h' => hg h'.1), Nat.add_zero] at h
      obtain ⟨d', hd', h'⟩ := owedBy_pos h
      exact ⟨d', List.mem_cons_of_mem _ hd', h'⟩

/-- All devices' debts at one semaphore of one device. -/
theorem owedBy_sum (c : Dev nD) (k : CK) : ∀ l : List Debt,
    (∑ d : Dev nD, owedBy d l (cell c k) ()) = l.countP (fun d => d.2 = k) * amtK k
  | [] => by simp [owedBy]
  | d :: l => by
    have h1 : ∀ e : Dev nD, owedBy e (d :: l) (cell c k) ()
        = owedBy e l (cell c k) () + (if e = nb d.1 c then (if d.2 = k then amtK k else 0) else 0) := by
      intro e
      show (owedBy e l + tallyAt (cell (nb d.1 e) d.2) () (amtK d.2)) (cell c k) () = _
      rw [Pi.add_apply, Finsupp.add_apply, tallyAt_apply]
      congr 1
      by_cases he : e = nb d.1 c
      · subst he
        rw [if_pos rfl, nb_nb]
        by_cases hk : d.2 = k
        · rw [if_pos hk, if_pos ⟨by rw [hk], rfl⟩, hk]
        · rw [if_neg hk, if_neg (fun h => hk (cell_inj.mp h.1).2.symm)]
      · rw [if_neg he, if_neg]
        intro h
        apply he
        rw [(cell_inj.mp h.1).1, nb_nb]
    rw [Finset.sum_congr rfl fun e _ => h1 e, Finset.sum_add_distrib, owedBy_sum c k l, Finset.sum_ite_eq' Finset.univ,
      if_pos (Finset.mem_univ _), List.countP_cons]
    by_cases hk : d.2 = k
    · simp only [hk, decide_true, if_true]
      rw [Nat.succ_mul]
    · simp [hk]

/-- How many times a semaphore is paid. -/
def countK : CK → ℕ
  | none => 5
  | some none => 5
  | some (some (0, _, _)) => 0
  | some (some (1, _, _)) => 1
  | some (some (2, _, _)) => 0
  | some (some (3, _, _)) => 1

theorem count_all : ∀ k : CK, allDebts.countP (fun d => d.2 = k) = countK k := by decide +kernel

/-- The credit a semaphore has at launch. -/
theorem launch_cell (c : Dev nD) (k : CK) :
    tallyOn (cell c k) (launchCredit (Pipeline.owing O₀) 0 (cell c k)) = (tallyAt (cell c k) () (countK k * amtK k) : CellTallies nD τ sig Unit) := by
  unfold tallyAt
  refine congrArg _ (Finsupp.ext fun u => ?_)
  cases u
  rw [Pipeline.launchCredit_owing, Finsupp.single_eq_same, ← count_all]
  exact owedBy_sum c k allDebts

/-! ## Waiting -/

/-- A device may wait at a semaphore below all it owes. -/
theorem mayWait_key (c : Dev nD) (k : CK) (l : List Debt) (h : ∀ d ∈ l, lvK k < lvK d.2) :
    (levAts L lv : sProp 𝕄) ⊢ MayWait (c : Thread nD τ) (csem k) () (owedBy c l) :=
  MayOwe.of_cut (L := L) (lev := lv) (lvK k)
    (fun p hp => by rw [Finset.mem_singleton.mp hp, L_tc]; exact Finset.mem_singleton_self _)
    (fun g u hg => by
      obtain ⟨d, -, rfl⟩ := owedBy_pos hg
      rw [L_tc]
      exact Finset.mem_singleton_self _)
    (fun p hp => by rw [Finset.mem_singleton.mp hp]; exact le_of_eq (lv_cell c k _))
    (fun g u hg => by
      obtain ⟨d, hd, rfl⟩ := owedBy_pos hg
      rw [lv_cell]
      exact h d hd)

theorem lv_owed : ∀ d ∈ allDebts, 0 < lvK d.2 := by decide +kernel

/-- A device may wait at a semaphore that is none of these. -/
theorem mayWait_other (c : Dev nD) (sm : SemLoc sig) (hs : ∀ k, csem k ≠ sm) :
    (levAts L lv : sProp 𝕄) ⊢ MayWait (c : Thread nD τ) sm () (O₀ c) :=
  MayOwe.of_cut (L := L) (lev := lv) 0
    (fun p hp => by rw [Finset.mem_singleton.mp hp, L_tc]; exact Finset.mem_singleton_self _)
    (fun g u hg => by
      obtain ⟨d, -, rfl⟩ := owedBy_pos hg
      rw [L_tc]
      exact Finset.mem_singleton_self _)
    (fun p hp => by rw [Finset.mem_singleton.mp hp]; exact le_of_eq (lv_none c sm hs _))
    (fun g u hg => by
      obtain ⟨d, hd, rfl⟩ := owedBy_pos hg
      rw [lv_cell]
      exact lv_owed d hd)

/-! ## What the semaphores hand over -/

variable (m : (ℓ : Loc nD τ sig) → Buf (Elt F) ℓ)

/-- Device `c`'s result array at some elements. -/
def outPts (c : Dev nD) (S : Finset S1024x1024.Idx) (f : Vec F S1024x1024 .bf16) : sProp 𝕄 :=
  ((c : Thread nD τ).loc cc0_stg5_0) ↦[S]{fullShare} f

def sbufAny (c : Dev nD) (j : Fin 4) (s : Fin 5) : sProp 𝕄 := iprop(∃ X, owns (c : Thread nD τ) (sbufM j s) fullShare X)
def rbufHas (c : Dev nD) (j : Fin 4) (s : Fin 5) (X : Vec F (SH s) .bf16) : sProp 𝕄 := owns (c : Thread nD τ) (rbufM j s) fullShare X
def rbufAny (c : Dev nD) (j : Fin 4) (s : Fin 5) : sProp 𝕄 := iprop(∃ X, rbufHas c j s X)

instance outPts_storable (c : Dev nD) (S) (f) : BI.Storable (upEmb : UEmb _ 𝕄) (outPts (F := F) c S f) := by
  unfold outPts; infer_instance
instance sbufAny_storable (c : Dev nD) (j : Fin 4) (s : Fin 5) : BI.Storable (upEmb : UEmb _ 𝕄) (sbufAny (F := F) c j s) := by
  unfold sbufAny; infer_instance
instance rbufHas_storable (c : Dev nD) (j : Fin 4) (s : Fin 5) (X) : BI.Storable (upEmb : UEmb _ 𝕄) (rbufHas (F := F) c j s X) := by
  unfold rbufHas; infer_instance
instance rbufAny_storable (c : Dev nD) (j : Fin 4) (s : Fin 5) : BI.Storable (upEmb : UEmb _ 𝕄) (rbufAny (F := F) c j s) := by
  unfold rbufAny; infer_instance

/-- What device `q` lets device `c` write in lane `j`: its landing buffer of reduce-scatter stage `s`, and the block of
    its result that `c` sends in all-gather stage `4 - s`. -/
def hand (j : Fin 4) (s : Fin 5) (q c : Dev nD) : sProp 𝕄 :=
  iprop(rbufAny q j s ∗ ∃ f, outPts q (agSet j s.rev c) f)

instance hand_storable (j : Fin 4) (s : Fin 5) (q c : Dev nD) : BI.Storable (upEmb : UEmb _ 𝕄) (hand (F := F) j s q c) := by
  unfold hand; infer_instance

/-- The stage in which lane `j` exchanges along an axis. -/
def ordInv : Fin 4 → Fin 5 → Fin 5
  | 0 => ![0, 1, 2, 3, 4]
  | 1 => ![2, 0, 1, 4, 3]
  | 2 => ![3, 4, 0, 2, 1]
  | 3 => ![1, 3, 4, 0, 2]

theorem ordInv_ord : ∀ j s, ordInv j (ord j s) = s := by decide
theorem ord_ordInv : ∀ j a, ord j (ordInv j a) = a := by decide

def ordEquiv (j : Fin 4) : Fin 5 ≃ Fin 5 := ⟨ord j, ordInv j, ordInv_ord j, ord_ordInv j⟩

/-- What the neighbour along axis `a` hands over at the entry barrier. -/
def barPay (c : Dev nD) (a : Fin 5) : sProp 𝕄 := bigSep Finset.univ fun j : Fin 4 => hand j (ordInv j a) (nb a c) c

/-- What a reduce-scatter stage brings in lane `j`. -/
def recvV (j : Fin 4) (s : Fin 5) (c : Dev nD) : Vec F (SH s) .bf16 := sendV j s (pr j s c) (wst m s.val (pr j s c))

def payK (c : Dev nD) (d : Fin 5) : CK → sProp 𝕄
  | none => barPay c d
  | some none => iprop(emp)
  | some (some (0, j, s)) => sbufAny c j s
  | some (some (1, j, s)) => rbufHas c j s (recvV m j s c)
  | some (some (2, j, s)) => outPts c (agSet j s c) (fin m)
  | some (some (3, j, s)) => outPts c (agSet j s (pr j s.rev c)) (fin m)

instance payK_storable (c : Dev nD) (d : Fin 5) (k : CK) : BI.Storable (upEmb : UEmb _ 𝕄) (payK m c d k) := by
  rcases k with _ | _ | ⟨t, j, s⟩
  · show BI.Storable upEmb (barPay c d)
    unfold barPay
    infer_instance
  · show BI.Storable upEmb iprop(emp)
    infer_instance
  · fin_cases t
    · show BI.Storable upEmb (sbufAny c j s)
      infer_instance
    · show BI.Storable upEmb (rbufHas c j s (recvV m j s c))
      infer_instance
    · show BI.Storable upEmb (outPts c (agSet j s c) (fin m))
      infer_instance
    · show BI.Storable upEmb (outPts c (agSet j s (pr j s.rev c)) (fin m))
      infer_instance

def dutK : CK → Finset (Fin 5)
  | none => Finset.univ
  | some none => Finset.univ
  | some (some _) => {0}

/-- One round: a barrier has a duty of one unit for each axis, a transfer's semaphore one duty of the block's credit. -/
def Rd : Rounds.Schedule (GSem nD τ sig) (Fin 5) 𝕄 where
  duties g r := if r = 0 ∧ g.1.2 = .tc then (match kindOf g.2 with | some k => dutK k | none => ∅) else ∅
  unitless _ := False
  amount g _ _ := match kindOf g.2 with | some k => amtK k | none => 1
  payload g _ d := match kindOf g.2 with | some k => payK m g.1.1 d k | none => iprop(emp)
  amount_pos g _ _ _ := by
    cases h : kindOf g.2 with
    | none => exact Nat.one_pos
    | some k => exact amtK_pos k

instance Rd_payload_storable (g : GSem nD τ sig) (r : ℕ) (d : Fin 5) :
    BI.Storable (upEmb : UEmb _ 𝕄) ((Rd (F := F) m).payload g r d) := by
  show BI.Storable upEmb (match kindOf g.2 with | some k => payK m g.1.1 d k | none => iprop(emp))
  cases kindOf g.2 with
  | none => infer_instance
  | some k => infer_instance

theorem duties_cell (c : Dev nD) (k : CK) : (Rd (F := F) m).duties (cell c k) 0 = dutK k := by
  dsimp only [Rd]
  rw [if_pos ⟨rfl, rfl⟩, kindOf_csem]

theorem duties_later (g : GSem nD τ sig) : ∀ r, 1 ≤ r → (Rd (F := F) m).duties g r = ∅ :=
  fun r hr => by dsimp only [Rd]; rw [if_neg fun h => by omega]

theorem amount_cell (c : Dev nD) (k : CK) (d : Fin 5) : (Rd (F := F) m).amount (cell c k) 0 d = amtK k := by
  dsimp only [Rd]
  rw [kindOf_csem]

theorem payload_cell (c : Dev nD) (k : CK) (d : Fin 5) : (Rd (F := F) m).payload (cell c k) 0 d = payK m c d k := by
  dsimp only [Rd]
  rw [kindOf_csem]

theorem expect_bar (c : Dev nD) : (Rd (F := F) m).expect (cell c kBar) 0 = 5 := by
  unfold Schedule.expect Schedule.amountOf
  rw [duties_cell, Finset.sum_congr rfl fun d _ => amount_cell m c kBar d]
  rfl

theorem expect_exit (c : Dev nD) : (Rd (F := F) m).expect (cell c kExit) 0 = 5 := by
  unfold Schedule.expect Schedule.amountOf
  rw [duties_cell, Finset.sum_congr rfl fun d _ => amount_cell m c kExit d]
  rfl

theorem expect_dma (c : Dev nD) (o : Fin 4 × Fin 4 × Fin 5) : (Rd (F := F) m).expect (cell c (some (some o))) 0 = amtK (some (some o)) := by
  unfold Schedule.expect Schedule.amountOf
  rw [duties_cell]
  show ∑ d ∈ {0}, _ = _
  rw [Finset.sum_singleton, amount_cell]

theorem rest_bar (c : Dev nD) : bigSep ((Rd (F := F) m).duties (cell c kBar) 0 \ ∅) (fun d => (Rd (F := F) m).payload (cell c kBar) 0 d)
    = bigSep Finset.univ fun a : Fin 5 => barPay c a := by
  rw [Finset.sdiff_empty, duties_cell]
  exact bigSep_congr fun d _ => payload_cell m c kBar d

theorem rest_dma (c : Dev nD) (o : Fin 4 × Fin 4 × Fin 5) :
    bigSep ((Rd (F := F) m).duties (cell c (some (some o))) 0 \ ∅) (fun d => (Rd (F := F) m).payload (cell c (some (some o))) 0 d)
      = payK m c 0 (some (some o)) := by
  rw [Finset.sdiff_empty, duties_cell]
  show bigSep {0} _ = _
  rw [bigSep_singleton, payload_cell]

/-- What the entry barrier hands over, lane by lane and stage by stage. -/
theorem barPay_all (c : Dev nD) : (bigSep Finset.univ fun a : Fin 5 => (barPay c a : sProp 𝕄))
    = bigSep Finset.univ fun j : Fin 4 => bigSep Finset.univ fun s : Fin 5 => hand j s (pr j s c) c := by
  unfold barPay
  rw [bigSep_univ_comm]
  refine bigSep_congr fun j _ => ?_
  rw [bigSep_univ_equiv (ordEquiv j)]
  refine bigSep_congr fun s _ => ?_
  show hand j (ordInv j (ord j s)) (nb (ord j s) c) c = _
  rw [ordInv_ord]

/-- What the device hands over to its neighbours, lane by lane and stage by stage. -/
theorem barPay_out (c : Dev nD) : (bigSep Finset.univ fun a : Fin 5 => (barPay (nb a c) a : sProp 𝕄))
    = bigSep Finset.univ fun j : Fin 4 => bigSep Finset.univ fun s : Fin 5 => hand j s c (pr j s c) := by
  unfold barPay
  rw [bigSep_univ_comm]
  refine bigSep_congr fun j _ => ?_
  rw [bigSep_univ_equiv (ordEquiv j)]
  refine bigSep_congr fun s _ => ?_
  show hand j (ordInv j (ord j s)) (nb (ord j s) (nb (ord j s) c)) (nb (ord j s) c) = _
  rw [ordInv_ord, nb_nb]

end Cert.KernelIdeal.Net

end
-- ==== Proof.Steps.lean ====
/-
# The steps

One lemma for each kind of step of the reduction: a wait at a semaphore, the sending and the receiving half of a
reduce-scatter exchange, the store of a finished block, the two halves of an all-gather exchange, and a signal.
-/
module

public import proofs.«01_k».proof.Proof.Sched

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What every step may use -/

/-- Every semaphore's invariant, and that every semaphore is at its first round. -/
def records (K : Dev nD × CK → ℕ) : sProp 𝕄 :=
  iprop((bigSep Finset.univ fun ck : Dev nD × CK => cellInv ER (Rd m) (K ck) (cell ck.1 ck.2))
    ∗ bigSep Finset.univ fun ck : Dev nD × CK => reached ER (cell ck.1 ck.2) 0)

instance records_persistent (K : Dev nD × CK → ℕ) : BI.Persistent (records m K) := by unfold records; infer_instance

/-- The records and the levels. -/
def env (K : Dev nD × CK → ℕ) : sProp 𝕄 := iprop(records m K ∗ levAts L lv)

instance env_persistent (K : Dev nD × CK → ℕ) : BI.Persistent (env m K) := by unfold env; infer_instance

variable (K : Dev nD × CK → ℕ)

theorem env_inv (c : Dev nD) (k : CK) : env m K ⊢ cellInv ER (Rd m) (K (c, k)) (cell c k) := by
  unfold env records
  iintro ⟨⟨#HI, #HR⟩, #HL⟩
  iapply (show (bigSep Finset.univ fun ck : Dev nD × CK => (cellInv ER (Rd m) (K ck) (cell ck.1 ck.2) : sProp 𝕄)) ⊢ cellInv ER (Rd m) (K (c, k)) (cell c k) from
    bigSep_elim (Finset.mem_univ (c, k)))
  iexact HI

theorem env_reached (c : Dev nD) (k : CK) : env m K ⊢ reached ER (cell c k) 0 := by
  unfold env records
  iintro ⟨⟨#HI, #HR⟩, #HL⟩
  iapply (show (bigSep Finset.univ fun ck : Dev nD × CK => (reached ER (cell ck.1 ck.2) 0 : sProp 𝕄)) ⊢ reached ER (cell c k) 0 from
    bigSep_elim (Finset.mem_univ (c, k)))
  iexact HR

theorem env_lev : env m K ⊢ levAts L lv := by
  unfold env
  iintro ⟨#HI, #HL⟩
  iexact HL

set_option maxRecDepth 20000 in
theorem mayWait_env (c : Dev nD) (k : CK) (l : List Debt) (h : ∀ d ∈ l, lvK k < lvK d.2) :
    env m K ⊢ MayWait (c : Thread nD τ) (csem k) () (owedBy c l) := by
  refine BI.Entails.trans (env_lev m K) ?_
  exact mayWait_key c k l h

/-- What device `c` owes, having waited on something. -/
def owesE (c : Dev nD) (l : List Debt) : sProp 𝕄 := iprop(∃ W, owes (c : Thread nD τ) (owedBy c l) W)

abbrev wpc (c : Dev nD) (p : P F) (Q : PUnit → sProp 𝕄) : sProp 𝕄 :=
  wp frame (wpE (defs₀ (F := F)) 𝒱₀ (c : Thread nD τ) none) Set.univ p Q

/-! ## A wait -/

theorem wait_cell (c : Dev nD) (k : CK) {w : TpuEff nD τ sig (Elt F) Λ₀ .tc PUnit} {n : ℕ} {R : sProp 𝕄}
    (hw : ∀ Φ : PUnit → sProp 𝕄, wpE (defs₀ (F := F)) 𝒱₀ (c : Thread nD τ) none Set.univ w Φ = waitSpec (c : Thread nD τ) Set.univ (csem k) n Φ)
    (hn : 0 + n = (Rd (F := F) m).expect (cell c k) 0)
    (hR : bigSep ((Rd (F := F) m).duties (cell c k) 0 \ ∅) (fun d => (Rd (F := F) m).payload (cell c k) 0 d) = R)
    (l : List Debt) (hl : ∀ d ∈ l, lvK k < lvK d.2) (kk : PUnit → P F) (Q : PUnit → sProp 𝕄) :
    iprop(env m K ∗ (cred (tallyAt (cell c k) () n) ∗ owesE c l ∗ atPos ER (cell c k) 0 ∅ 0)
        ∗ ((owesE c l ∗ semVal (cell c k) 0 ∗ R) -∗ wpc c (kk ⟨⟩) Q))
      ⊢ wpc c (.op w kk) Q := by
  unfold owesE
  iintro ⟨#He, ⟨Hc, ⟨%W, HO⟩, Hat⟩, Hk⟩
  ihave #HI := (env_inv m K c k) $$ He
  iapply (Rounds.wp_wait_rest_token 𝒱₀ ER (Rd m) (c : Thread nD τ) none (κ := K (c, k)) hw (Set.mem_univ _) () (O := owedBy c l) (W := W)
    (R := 0) (m := 0) (T := ∅) hn) $$ [Hc HO Hat]
  · isplitr; · iexact HI
    isplitl [Hc]; · iexact Hc
    isplitl [HO]; · iexact HO
    isplitr; · iapply (mayWait_env m K c k l hl); iexact He
    iexact Hat
  iintro ⟨HO, Hat, -, Hpay⟩
  have hu : ¬ (Rd (F := F) m).unitless (cell c k) := fun h => h
  imod (Rounds.cell_close ER (Rd m) (g := cell c k) (Set.mem_univ (K (c, k))) hu (R := 0 + 1) (duties_later m (cell c k))) $$ [Hat] with Hz
  · isplitr; · iexact HI
    iexact Hat
  iapply Hk
  isplitl [HO]; · iexists _; iexact HO
  isplitl [Hz]; · iexact Hz
  ihave H := (Entails.of_eq hR) $$ Hpay
  iexact H

/-- A wait at a transfer's semaphore. -/
theorem wait_dma (c : Dev nD) (o : Fin 4 × Fin 4 × Fin 5) {w : TpuEff nD τ sig (Elt F) Λ₀ .tc PUnit}
    (hw : ∀ Φ : PUnit → sProp 𝕄, wpE (defs₀ (F := F)) 𝒱₀ (c : Thread nD τ) none Set.univ w Φ
      = waitSpec (c : Thread nD τ) Set.univ (csem (some (some o))) (amtK (some (some o))) Φ)
    (l : List Debt) (hl : ∀ d ∈ l, lvK (some (some o)) < lvK d.2) (kk : PUnit → P F) (Q : PUnit → sProp 𝕄) :
    iprop(env m K ∗ (cred (tallyAt (cell c (some (some o))) () (amtK (some (some o)))) ∗ owesE c l ∗ atPos ER (cell c (some (some o))) 0 ∅ 0)
        ∗ ((owesE c l ∗ semVal (cell c (some (some o))) 0 ∗ payK m c 0 (some (some o))) -∗ wpc c (kk ⟨⟩) Q))
      ⊢ wpc c (.op w kk) Q :=
  wait_cell m K c (some (some o)) hw (by rw [expect_dma, Nat.zero_add]) (rest_dma m c o) l hl kk Q

/-! ## The reduce-scatter -/

/-- The working array. -/
def workPts (c : Dev nD) (f : Vec F S1024x1024 .f32) : sProp 𝕄 := ((c : Thread nD τ).loc cc0_scratch0) ↦{fullShare} f

/-- What lane `j`'s exchange of stage `s` needs: the send buffer, leave to write the partner's landing buffer, the
    positions at the two semaphores, the right to signal them, and the credit of the receive semaphore. -/
def RsRes (j : Fin 4) (s : Fin 5) (c : Dev nD) : sProp 𝕄 :=
  iprop(sbufAny c j s ∗ rbufAny (pr j s c) j s ∗ atPos ER (cell c (kRsS j s)) 0 ∅ 0 ∗ atPos ER (cell c (kRsR j s)) 0 ∅ 0
    ∗ dutyTok ER (cell c (kRsS j s)) 0 0 ∗ dutyTok ER (cell (pr j s c) (kRsR j s)) 0 0 ∗ cred (tallyAt (cell c (kRsR j s)) () (amtR j s)))

/-- The same between the two halves. -/
def RsFly (j : Fin 4) (s : Fin 5) (c : Dev nD) : sProp 𝕄 :=
  iprop(atPos ER (cell c (kRsS j s)) 0 ∅ 0 ∗ atPos ER (cell c (kRsR j s)) 0 ∅ 0
    ∗ cred (tallyAt (cell c (kRsS j s)) () (amtR j s)) ∗ cred (tallyAt (cell c (kRsR j s)) () (amtR j s)))

/-- What it leaves. -/
def RsDone (j : Fin 4) (s : Fin 5) (c : Dev nD) : sProp 𝕄 :=
  iprop(sbufAny c j s ∗ rbufAny c j s ∗ semVal (cell c (kRsS j s)) 0 ∗ semVal (cell c (kRsR j s)) 0)

theorem wp_send_rs (j : Fin 4) (s : Fin 5) (c n : Dev nD) (hn : n = pr j s c)
    {hsc : (rbufM j s : Memref sig (Dev.tc n : Thread nD τ).2.kind .vmem (SH s) .bf16).view.ref.isScScratch = false}
    {hsrc : (sbufM j s).view.WordExact} {hdst : (rbufM j s : Memref sig (Dev.tc n : Thread nD τ).2.kind .vmem (SH s) .bf16).view.WordExact}
    {hsem : DmaTarget.Typed .vmem (.dma (rsR j s)) (.remote (Dev.tc n : Thread nD τ) (rbufM j s : Memref sig (Dev.tc n : Thread nD τ).2.kind .vmem (SH s) .bf16) (.dma (rsS j s)) hsc)}
    {Q : PUnit → sProp 𝕄} {k : PUnit → P F}
    (fs : Buf (Elt F) ((sbufM j s).view.loc (c : Thread nD τ)))
    (hfs : (sbufM j s).view.read (Elt F) fs = recvV m j s (pr j s c))
    (fn : Buf (Elt F) ((rbufM j s).view.loc (pr j s c : Thread nD τ))) (l : List Debt) (W : Waits sig Unit) :
    iprop(cellInv ER (Rd m) (K (c, kRsS j s)) (cell c (kRsS j s)) ∗ cellInv ER (Rd m) (K (pr j s c, kRsR j s)) (cell (pr j s c) (kRsR j s))
        ∗ ((sbufM j s).view.loc (c : Thread nD τ) ↦[(sbufM j s).view.set]{fullShare} fs)
        ∗ ((rbufM j s).view.loc (pr j s c : Thread nD τ) ↦[(rbufM j s).view.set]{fullShare} fn)
        ∗ owes (c : Thread nD τ) (owedBy c ((ord j s, kRsR j s) :: l)) W
        ∗ dutyTok ER (cell c (kRsS j s)) 0 0 ∗ reached ER (cell c (kRsS j s)) 0
        ∗ dutyTok ER (cell (pr j s c) (kRsR j s)) 0 0 ∗ reached ER (cell (pr j s c) (kRsR j s)) 0)
      ⊢ iprop(((cred (tallyAt (cell c (kRsS j s)) () (amtR j s)) ∗ owes (c : Thread nD τ) (owedBy c l) W) -∗ wpc c (k ⟨⟩) Q)
          -∗ wpc c (.op (.enqueueDma (sbufM j s) (.remote (Dev.tc n : Thread nD τ) (rbufM j s) (.dma (rsS j s)) hsc) (.dma (rsR j s)) hsrc hdst hsem) k) Q) := by
  subst hn
  exact Rounds.wp_send_pointsTo 𝒱₀ ER (Rd m) (c : Thread nD τ) none (κ₁ := K (c, kRsS j s)) (κ₂ := K (pr j s c, kRsR j s))
    (r₁ := 0) (r₂ := 0) (d₁ := 0) (d₂ := 0) (fd := fn)
    (by have := duties_cell (F := F) m c (kRsS j s); exact this ▸ Finset.mem_singleton_self _)
    (by have := duties_cell (F := F) m (pr j s c) (kRsR j s); exact this ▸ Finset.mem_singleton_self _)
    () () (amtR j s) rfl (amount_cell m c (kRsS j s) 0) (amount_cell m (pr j s c) (kRsR j s) 0) (owedBy c l) rfl (W := W)
    (by
      refine BI.Entails.trans ?_ (Entails.of_eq (payload_cell (F := F) m c (kRsS j s) 0).symm)
      show _ ⊢ sbufAny c j s
      unfold sbufAny owns
      iintro H
      iexists _
      iexists fs
      isplitr; · ipureintro; rfl
      iexact H)
    (by
      refine BI.Entails.trans ?_ (Entails.of_eq (payload_cell (F := F) m (pr j s c) (kRsR j s) 0).symm)
      show _ ⊢ rbufHas (pr j s c) j s (recvV m j s (pr j s c))
      unfold rbufHas owns
      iintro H
      iexists ((rbufM j s).view.write (Elt F) fn ((sbufM j s).view.read (Elt F) fs) Finset.univ)
      isplitr; · ipureintro; exact (View.read_write_univ _ _).trans hfs
      iexact H)

theorem rsSend_step (j : Fin 4) (s : Fin 5) (c : Dev nD) (l : List Debt) (k : P F) (Q : PUnit → sProp 𝕄) :
    iprop(env m K ∗ (workPts c (wst m s.val c) ∗ owesE c ((ord j s, kRsR j s) :: l) ∗ RsRes j s c)
        ∗ ((workPts c (wst m s.val c) ∗ owesE c l ∗ RsFly j s c) -∗ wpc c k Q))
      ⊢ wpc c (rsSendK c s j k) Q := by
  unfold RsRes RsFly sbufAny rbufAny rbufHas owns rsSendK owesE workPts
  iintro ⟨#He, ⟨Hw, ⟨%W, HO⟩, ⟨%X, %fs, %hfs, Hs⟩, ⟨%Y, %fn, %hfn, Hr⟩, HaS, HaR, HtS, HtR, HcR⟩, Hk⟩
  iapply (wp_load 𝒱₀ (c : Thread nD τ) none Set.univ (m := workM) (Finset.subset_univ _)) $$ Hw; iintro Hw
  iapply (wp_load 𝒱₀ (c : Thread nD τ) none Set.univ (m := sbufM j s) (View.setOn_subset_set _ _)) $$ Hs; iintro Hs
  iapply (wp_store 𝒱₀ (c : Thread nD τ) none Set.univ (m := sbufM j s) (r := rBuf s) (Mk := Finset.univ) (View.set_slice_subset _ _)) $$ Hs; iintro Hs
  ihave #HI1 := (env_inv m K c (kRsS j s)) $$ He
  ihave #HI2 := (env_inv m K (pr j s c) (kRsR j s)) $$ He
  ihave #HR1 := (env_reached m K c (kRsS j s)) $$ He
  ihave #HR2 := (env_reached m K (pr j s c) (kRsR j s)) $$ He
  iapply (wp_send_rs m K j s c _ (sDev_eq j s c) _ (by
      rw [recvV, pr, nb_nb]
      exact (read_buf s (sbufM j s) fs _)) fn l W) $$ [Hs Hr HO HtS HtR]
  · isplitr; · iexact HI1
    isplitr; · iexact HI2
    isplitl [Hs]; · iexact Hs
    isplitl [Hr]; · iexact Hr
    isplitl [HO]; · iexact HO
    isplitl [HtS]; · iexact HtS
    isplitr; · iexact HR1
    isplitl [HtR]; · iexact HtR
    iexact HR2
  iintro ⟨HcS, HO⟩
  iapply Hk
  isplitl [Hw]; · iexact Hw
  isplitl [HO]; · iexists _; iexact HO
  isplitl [HaS]; · iexact HaS
  isplitl [HaR]; · iexact HaR
  isplitl [HcS]; · iexact HcS
  iexact HcR

theorem rsRecv_step (j : Fin 4) (s : Fin 5) (c : Dev nD) (f : Vec F S1024x1024 .f32) (l : List Debt) (hl : ∀ d ∈ l, 2 + s.val < lvK d.2)
    (k : P F) (Q : PUnit → sProp 𝕄) :
    iprop(env m K ∗ (workPts c f ∗ owesE c l ∗ RsFly j s c)
        ∗ ((workPts c (addL j s c (recvV m j s c) f) ∗ owesE c l ∗ RsDone j s c) -∗ wpc c k Q))
      ⊢ wpc c (rsRecvK c s j k) Q := by
  unfold RsFly RsDone rsRecvK
  iintro ⟨#He, ⟨Hw, HO, HaS, HaR, HcS, HcR⟩, Hk⟩
  iapply (wait_dma m K c (0, j, s) (fun Φ => (wpE_waitDma2_eq 𝒱₀ (c : Thread nD τ) none Set.univ Φ).trans (by rw [amtR_sbuf]; rfl)) l
    (fun d hd => lt_of_le_of_lt (Nat.zero_le _) (hl d hd)))
  isplitr; · iexact He
  isplitl [HcS HO HaS]
  · isplitl [HcS]; · iexact HcS
    isplitl [HO]; · iexact HO
    iexact HaS
  iintro ⟨HO, HzS, Hs⟩
  iapply (wait_dma m K c (1, j, s) (fun Φ => (wpE_waitDma2_eq 𝒱₀ (c : Thread nD τ) none Set.univ Φ)) l hl)
  isplitr; · iexact He
  isplitl [HcR HO HaR]
  · isplitl [HcR]; · iexact HcR
    isplitl [HO]; · iexact HO
    iexact HaR
  iintro ⟨HO, HzR, Hr⟩
  ihave Hr' := (show payK m c 0 (some (some (1, j, s))) ⊢ rbufHas c j s (recvV m j s c) from BI.Entails.refl _) $$ Hr
  unfold rbufHas owns
  icases Hr' with ⟨%fr, %hfr, Hr⟩
  unfold workPts
  iapply (wp_load 𝒱₀ (c : Thread nD τ) none Set.univ (m := workM) (Finset.subset_univ _)) $$ Hw; iintro Hw
  iapply (wp_load 𝒱₀ (c : Thread nD τ) none Set.univ (m := rbufM j s) (View.setOn_subset_set _ _)) $$ Hr; iintro Hr
  iapply (wp_load 𝒱₀ (c : Thread nD τ) none Set.univ (m := workM) (Finset.subset_univ _)) $$ Hw; iintro Hw
  iapply (wp_store 𝒱₀ (c : Thread nD τ) none Set.univ (m := workM) (r := rKeep j s c) (Mk := Finset.univ) (Finset.subset_univ _)) $$ Hw; iintro Hw
  rw [load_buf, hfr]
  iapply Hk
  isplitl [Hw]; · iexact Hw
  isplitl [HO]; · iexact HO
  isplitl [Hs]
  · iapply (show payK m c 0 (some (some (0, j, s))) ⊢ sbufAny c j s from BI.Entails.refl _)
    iexact Hs
  isplitl [Hr]
  · unfold rbufAny rbufHas owns
    iexists _
    iexists fr
    isplitr; · ipureintro; rfl
    iexact Hr
  isplitl [HzS]; · iexact HzS
  iexact HzR

/-! ## The store of a finished block -/

theorem out_step (j : Fin 4) (c : Dev nD) (f : Vec F S1024x1024 .bf16) (k : P F) (Q : PUnit → sProp 𝕄) :
    iprop((workPts c (wst m 5 c) ∗ outPts c (agSet j 0 c) f)
        ∗ ((workPts c (wst m 5 c) ∗ outPts c (agSet j 0 c) (fin m)) -∗ wpc c k Q))
      ⊢ wpc c (outK c j k) Q := by
  unfold outK workPts outPts
  iintro ⟨⟨Hw, Ho⟩, Hk⟩
  iapply (wp_load 𝒱₀ (c : Thread nD τ) none Set.univ (m := workM) (Finset.subset_univ _)) $$ Hw; iintro Hw
  iapply (wp_load 𝒱₀ (c : Thread nD τ) none Set.univ (m := outM) (S := agSet j 0 c) (by
    rw [← rOut_set]
    exact (View.set_slice outM.view (rOut j c)).symm.subset)) $$ Ho; iintro Ho
  iapply (wp_store 𝒱₀ (c : Thread nD τ) none Set.univ (m := outM) (r := rOut j c) (Mk := Finset.univ) (S := agSet j 0 c) (by
    rw [← rOut_set]
    exact Finset.Subset.refl _)) $$ Ho; iintro Ho
  iapply Hk
  isplitl [Hw]; · iexact Hw
  ihave H := (Entails.of_eq (pointsTo_congr (out_final m j c f))) $$ Ho
  iexact H

/-! ## The all-gather -/

/-- What lane `j`'s exchange of all-gather stage `s` needs: leave to write the block in the partner's result, the
    positions at the two semaphores, the right to signal them, and the credit of the receive semaphore. -/
def AgRes (j : Fin 4) (s : Fin 5) (c : Dev nD) : sProp 𝕄 :=
  iprop((∃ f, outPts (pr j s.rev c) (agSet j s c) f) ∗ atPos ER (cell c (kAgS j s)) 0 ∅ 0 ∗ atPos ER (cell c (kAgR j s)) 0 ∅ 0
    ∗ dutyTok ER (cell c (kAgS j s)) 0 0 ∗ dutyTok ER (cell (pr j s.rev c) (kAgR j s)) 0 0 ∗ cred (tallyAt (cell c (kAgR j s)) () (amtA s)))

/-- The same between the two halves. -/
def AgFly (j : Fin 4) (s : Fin 5) (c : Dev nD) : sProp 𝕄 :=
  iprop(atPos ER (cell c (kAgS j s)) 0 ∅ 0 ∗ atPos ER (cell c (kAgR j s)) 0 ∅ 0
    ∗ cred (tallyAt (cell c (kAgS j s)) () (amtA s)) ∗ cred (tallyAt (cell c (kAgR j s)) () (amtA s)))

/-- What it leaves. -/
def AgDone (j : Fin 4) (s : Fin 5) (c : Dev nD) : sProp 𝕄 :=
  iprop(semVal (cell c (kAgS j s)) 0 ∗ semVal (cell c (kAgR j s)) 0)

theorem wp_send_ag (j : Fin 4) (s : Fin 5) (c n : Dev nD) (hn : n = pr j s.rev c)
    {hsc : (agM j s c : Memref sig (Dev.tc n : Thread nD τ).2.kind .vmem (AH s) .bf16).view.ref.isScScratch = false}
    {hsrc : (agM j s c).view.WordExact} {hdst : (agM j s c : Memref sig (Dev.tc n : Thread nD τ).2.kind .vmem (AH s) .bf16).view.WordExact}
    {hsem : DmaTarget.Typed .vmem (.dma (agR j s)) (.remote (Dev.tc n : Thread nD τ) (agM j s c : Memref sig (Dev.tc n : Thread nD τ).2.kind .vmem (AH s) .bf16) (.dma (agS j s)) hsc)}
    {Q : PUnit → sProp 𝕄} {k : PUnit → P F}
    (fn : Vec F S1024x1024 .bf16) (l : List Debt) (W : Waits sig Unit) :
    iprop(cellInv ER (Rd m) (K (c, kAgS j s)) (cell c (kAgS j s)) ∗ cellInv ER (Rd m) (K (pr j s.rev c, kAgR j s)) (cell (pr j s.rev c) (kAgR j s))
        ∗ outPts c (agSet j s c) (fin m)
        ∗ outPts (pr j s.rev c) (agSet j s c) fn
        ∗ owes (c : Thread nD τ) (owedBy c ((ord j s.rev, kAgR j s) :: l)) W
        ∗ dutyTok ER (cell c (kAgS j s)) 0 0 ∗ reached ER (cell c (kAgS j s)) 0
        ∗ dutyTok ER (cell (pr j s.rev c) (kAgR j s)) 0 0 ∗ reached ER (cell (pr j s.rev c) (kAgR j s)) 0)
      ⊢ iprop(((cred (tallyAt (cell c (kAgS j s)) () (amtA s)) ∗ owes (c : Thread nD τ) (owedBy c l) W) -∗ wpc c (k ⟨⟩) Q)
          -∗ wpc c (.op (.enqueueDma (agM j s c) (.remote (Dev.tc n : Thread nD τ) (agM j s c) (.dma (agS j s)) hsc) (.dma (agR j s)) hsrc hdst hsem) k) Q) := by
  subst hn
  have h₁ : (((agM j s c).view.loc (c : Thread nD τ) ↦[(agM j s c).view.set]{fullShare} fin m) : sProp 𝕄)
      ⊢ (Rd (F := F) m).payload ((c : Thread nD τ), .dma (agS j s)) 0 0 := by
    refine BI.Entails.trans ?_ (Entails.of_eq (payload_cell (F := F) m c (kAgS j s) 0).symm)
    show _ ⊢ outPts c (agSet j s c) (fin m)
    exact BI.Entails.refl _
  have h₂ : (((agM j s c).view.loc (pr j s.rev c : Thread nD τ) ↦[(agM j s c).view.set]{fullShare}
        ((agM j s c).view.write (Elt F) fn ((agM j s c).view.read (Elt F) (fin m)) Finset.univ)) : sProp 𝕄)
      ⊢ (Rd (F := F) m).payload ((pr j s.rev c : Thread nD τ), .dma (agR j s)) 0 0 := by
    refine BI.Entails.trans ?_ (Entails.of_eq (payload_cell (F := F) m (pr j s.rev c) (kAgR j s) 0).symm)
    show _ ⊢ outPts (pr j s.rev c) (agSet j s (pr j s.rev (pr j s.rev c))) (fin m)
    rw [show pr j s.rev (pr j s.rev c) = c from nb_nb _ c]
    exact Entails.of_eq (pointsTo_congr (write_read_self (F := F) (agM j s c).view fn (fin m)))
  have d₁ : (0 : Fin 5) ∈ (Rd (F := F) m).duties ((c : Thread nD τ), .dma (agS j s)) 0 := by
    have := duties_cell (F := F) m c (kAgS j s)
    exact this ▸ Finset.mem_singleton_self _
  have d₂ : (0 : Fin 5) ∈ (Rd (F := F) m).duties ((pr j s.rev c : Thread nD τ), .dma (agR j s)) 0 := by
    have := duties_cell (F := F) m (pr j s.rev c) (kAgR j s)
    exact this ▸ Finset.mem_singleton_self _
  have a₁ : (Rd (F := F) m).amount ((c : Thread nD τ), .dma (agS j s)) 0 0 = amtA s := amount_cell m c (kAgS j s) 0
  have a₂ : (Rd (F := F) m).amount ((pr j s.rev c : Thread nD τ), .dma (agR j s)) 0 0 = amtA s := amount_cell m (pr j s.rev c) (kAgR j s) 0
  exact Rounds.wp_send_pointsTo 𝒱₀ ER (Rd m) (c : Thread nD τ) none (κ₁ := K (c, kAgS j s)) (κ₂ := K (pr j s.rev c, kAgR j s))
    (c' := (pr j s.rev c : Thread nD τ)) (src := agM j s c) (dst := agM j s c) (hsc := hsc) (hsrc := hsrc) (hdst := hdst) (hsem := hsem)
    (r₁ := 0) (r₂ := 0) (d₁ := 0) (d₂ := 0) (fs := fin m) (fd := fn)
    d₁ d₂ () () (amtA s) rfl a₁ a₂ (owedBy c l) rfl (W := W) h₁ h₂

theorem agSend_step (j : Fin 4) (s : Fin 5) (c : Dev nD) (l : List Debt) (k : P F) (Q : PUnit → sProp 𝕄) :
    iprop(env m K ∗ (outPts c (agSet j s c) (fin m) ∗ owesE c ((ord j s.rev, kAgR j s) :: l) ∗ AgRes j s c)
        ∗ ((owesE c l ∗ AgFly j s c) -∗ wpc c k Q))
      ⊢ wpc c (agSendK c s j k) Q := by
  unfold AgRes AgFly agSendK owesE
  iintro ⟨#He, ⟨Hs, ⟨%W, HO⟩, ⟨%fn, Hr⟩, HaS, HaR, HtS, HtR, HcR⟩, Hk⟩
  ihave #HI1 := (env_inv m K c (kAgS j s)) $$ He
  ihave #HI2 := (env_inv m K (pr j s.rev c) (kAgR j s)) $$ He
  ihave #HR1 := (env_reached m K c (kAgS j s)) $$ He
  ihave #HR2 := (env_reached m K (pr j s.rev c) (kAgR j s)) $$ He
  iapply (wp_send_ag m K j s c _ (aDev_eq j s c) fn l W) $$ [Hs Hr HO HtS HtR]
  · isplitr; · iexact HI1
    isplitr; · iexact HI2
    isplitl [Hs]; · iexact Hs
    isplitl [Hr]; · iexact Hr
    isplitl [HO]; · iexact HO
    isplitl [HtS]; · iexact HtS
    isplitr; · iexact HR1
    isplitl [HtR]; · iexact HtR
    iexact HR2
  iintro ⟨HcS, HO⟩
  iapply Hk
  isplitl [HO]; · iexists _; iexact HO
  isplitl [HaS]; · iexact HaS
  isplitl [HaR]; · iexact HaR
  isplitl [HcS]; · iexact HcS
  iexact HcR

theorem agRecv_step (j : Fin 4) (s : Fin 5) (c : Dev nD) (l : List Debt) (hl : ∀ d ∈ l, 7 + s.val < lvK d.2)
    (k : P F) (Q : PUnit → sProp 𝕄) :
    iprop(env m K ∗ (owesE c l ∗ AgFly j s c)
        ∗ ((outPts c (curSet j (s.val + 1) c) (fin m) ∗ owesE c l ∗ AgDone j s c) -∗ wpc c k Q))
      ⊢ wpc c (agRecvK c s j k) Q := by
  unfold AgFly AgDone agRecvK
  iintro ⟨#He, ⟨HO, HaS, HaR, HcS, HcR⟩, Hk⟩
  iapply (wait_dma m K c (2, j, s) (w := .waitDma2 (agS j s) (agM j s c) (agM j s c)
      (outM_whole.wordExact_slice rfl _ (aOff_words j s c)) (outM_whole.wordExact_slice rfl _ (aOff_words j s c))) (fun Φ => (wpE_waitDma2_eq 𝒱₀ (c : Thread nD τ) none Set.univ Φ)) l
    (fun d hd => lt_of_le_of_lt (Nat.zero_le _) (hl d hd)))
  isplitr; · iexact He
  isplitl [HcS HO HaS]
  · isplitl [HcS]; · iexact HcS
    isplitl [HO]; · iexact HO
    iexact HaS
  iintro ⟨HO, HzS, Hs⟩
  iapply (wait_dma m K c (3, j, s) (w := .waitDma2 (agR j s) (agM j s c) (agM j s c)
      (outM_whole.wordExact_slice rfl _ (aOff_words j s c)) (outM_whole.wordExact_slice rfl _ (aOff_words j s c))) (fun Φ => (wpE_waitDma2_eq 𝒱₀ (c : Thread nD τ) none Set.univ Φ)) l hl)
  isplitr; · iexact He
  isplitl [HcR HO HaR]
  · isplitl [HcR]; · iexact HcR
    isplitl [HO]; · iexact HO
    iexact HaR
  iintro ⟨HO, HzR, Hr⟩
  iapply Hk
  isplitl [Hs Hr]
  · rw [curSet_succ]
    unfold outPts
    iapply (pointsTo_union (agSet_disjoint j s c)).2
    isplitl [Hs]
    · iapply (show payK m c 0 (some (some (2, j, s))) ⊢ (((c : Thread nD τ).loc cc0_stg5_0) ↦[agSet j s c]{fullShare} fin m) from BI.Entails.refl _)
      iexact Hs
    iapply (show payK m c 0 (some (some (3, j, s))) ⊢ (((c : Thread nD τ).loc cc0_stg5_0) ↦[agSet j s (pr j s.rev c)]{fullShare} fin m) from BI.Entails.refl _)
    iexact Hr
  isplitl [HO]; · iexact HO
  isplitl [HzS]; · iexact HzS
  iexact HzR

/-! ## The handshakes -/

/-- A signal at the neighbour along axis `a`. -/
theorem signal_step (c n : Dev nD) (a : Fin 5) (hn : n = nb a c) (k : CK) (sem : Sem sig) (hs : csem k = .reg sem) (hu : dutK k = Finset.univ)
    (hk : amtK k = 1) (l : List Debt) (p : P F) (Q : PUnit → sProp 𝕄) :
    iprop(env m K ∗ (owesE c ((a, k) :: l) ∗ dutyTok ER (cell (nb a c) k) 0 a ∗ payK m (nb a c) a k)
        ∗ (owesE c l -∗ wpc c p Q))
      ⊢ wpc c (.op (.semSignal (n, .tc) sem (1#32).toInt) fun _ => p) Q := by
  subst hn
  unfold owesE
  iintro ⟨#He, ⟨⟨%W, HO⟩, Ht, Hp⟩, Hk⟩
  ihave #HI := (env_inv m K (nb a c) k) $$ He
  ihave #HR := (env_reached m K (nb a c) k) $$ He
  have hd := duties_cell (F := F) m (nb a c) k
  have ha := amount_cell (F := F) m (nb a c) k a
  have hp := payload_cell (F := F) m (nb a c) k a
  have hO : owedBy c ((a, k) :: l) = owedBy c l + tallyAt (cell (nb a c) k) () (amtK k) := rfl
  rw [hO, hk]
  unfold cell at hd ha hp ⊢
  rw [hs] at hd ha hp ⊢
  rw [hu] at hd
  rw [hk] at ha
  iapply (Rounds.wp_signal 𝒱₀ ER (Rd m) (c : Thread nD τ) none (dst := (nb a c : Thread nD τ)) (κ := K (nb a c, k))
      (d := a) (by rw [hd]; exact Finset.mem_univ _) (ha.trans (by decide)) () (owedBy c l) rfl) $$ [HO Ht Hp]
  · isplitr; · iexact HI
    isplitl [HO]; · iexact HO
    isplitl [Ht]; · iexact Ht
    isplitl [Hp]; · rw [hp]; iexact Hp
    iexact HR
  iintro HO
  iapply Hk
  iexists _; iexact HO

end Cert.KernelIdeal.Net

end
-- ==== Proof.Body.lean ====
/-
# The body

The kernel's body from its start to its end on one device: the attention partial, the entry handshake, the five
reduce-scatter stages, the finished blocks, the five all-gather stages, the exit handshake.
-/
module

public import proofs.«01_k».proof.Proof.Steps

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over lanes and stages -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- One resource for each lane and stage. -/
def allJS (X : Fin 4 → Fin 5 → sProp 𝕄) : sProp 𝕄 := bigSep Finset.univ fun s : Fin 5 => bigSep Finset.univ fun j : Fin 4 => X j s

theorem allJS_sep (X Y : Fin 4 → Fin 5 → sProp 𝕄) : allJS (fun j s => iprop(X j s ∗ Y j s)) = iprop(allJS X ∗ allJS Y) := by
  unfold allJS
  simp only [bigSep_sep']

theorem allJS_rev (X : Fin 4 → Fin 5 → sProp 𝕄) : allJS (fun j s => X j s.rev) = allJS X := by
  unfold allJS
  exact (bigSep_univ_equiv Fin.revPerm (fun s : Fin 5 => bigSep Finset.univ fun j : Fin 4 => X j s)).symm

theorem allJS_stages (X : Fin 4 → Fin 5 → sProp 𝕄) : allJS X
    = iprop((bigSep Finset.univ fun j => X j 0) ∗ (bigSep Finset.univ fun j => X j 1) ∗ (bigSep Finset.univ fun j => X j 2)
      ∗ (bigSep Finset.univ fun j => X j 3) ∗ (bigSep Finset.univ fun j => X j 4)) :=
  bigSep_fin5 _

theorem allJS_lanes (X : Fin 4 → Fin 5 → sProp 𝕄) : allJS X
    = bigSep Finset.univ fun j : Fin 4 => bigSep Finset.univ fun s : Fin 5 => X j s := by
  unfold allJS
  rw [bigSep_univ_comm]

theorem allJS_mono {X Y : Fin 4 → Fin 5 → sProp 𝕄} (h : ∀ j s, X j s ⊢ Y j s) : allJS X ⊢ allJS Y :=
  bigSep_mono fun s _ => bigSep_mono fun j _ => h j s

variable (m : (ℓ : Loc nD τ sig) → Buf (Elt F) ℓ)

/-! ## The attention partial -/

/-- The staged operands. -/
def opPts (c : Dev nD) : sProp 𝕄 :=
  iprop((((c : Thread nD τ).loc cc0_stg0_0) ↦{fullShare} opX m c) ∗ (((c : Thread nD τ).loc cc0_stg1_0) ↦{fullShare} opWq m c)
    ∗ (((c : Thread nD τ).loc cc0_stg2_0) ↦{fullShare} opWo m c) ∗ (((c : Thread nD τ).loc cc0_stg3_0) ↦{fullShare} opWk m c)
    ∗ (((c : Thread nD τ).loc cc0_stg4_0) ↦{fullShare} opWv m c))

theorem hz : (![0, 0] : Fin 2 → Nat) = fun _ => 0 := funext fun a => by fin_cases a <;> rfl

theorem woRow_all (c : Dev nD) : (![woRow m c 0, woRow m c 1, woRow m c 2, woRow m c 3, woRow m c 4, woRow m c 5, woRow m c 6, woRow m c 7] : Fin 8 → Vec F S128x1024 .bf16) = woRow m c := by
  funext h
  fin_cases h <;> rfl

theorem batch_step (b : Fin 4) (c : Dev nD) (f : Vec F S1024x1024 .f32) (k : P F) (Q : PUnit → sProp 𝕄) :
    iprop(((((c : Thread nD τ).loc cc0_stg2_0) ↦{fullShare} opWo m c) ∗ workPts c f)
        ∗ (((((c : Thread nD τ).loc cc0_stg2_0) ↦{fullShare} opWo m c) ∗ workPts c (wrB m c b f)) -∗ wpc c k Q))
      ⊢ wpc c (batchK b (opX m c) (opWq m c) (opWk m c) (opWv m c) k) Q := by
  unfold batchK woK workPts
  iintro ⟨⟨Ho, Hw⟩, Hk⟩
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := woM) (Finset.subset_univ _)) $$ Ho; iintro Ho
  iapply (wp_load 𝒱₀ (c : Thread nD τ) none Set.univ (m := workM) (Finset.subset_univ _)) $$ Hw; iintro Hw
  iapply (wp_store 𝒱₀ (c : Thread nD τ) none Set.univ (m := workM) (r := rB b) (Mk := Finset.univ) (Finset.subset_univ _)) $$ Hw; iintro Hw
  iapply Hk
  isplitl [Ho]; · iexact Ho
  have e : (workM.access (rB b) : View sig .tc _ _ _).write (Elt F) f
      (attB b (opX m c) (opWq m c) (opWk m c) (opWv m c) ![woRow m c 0, woRow m c 1, woRow m c 2, woRow m c 3, woRow m c 4, woRow m c 5, woRow m c 6, woRow m c 7])
      Finset.univ = wrB m c b f := by
    rw [woRow_all]
    rfl
  rw [← e]
  iexact Hw

theorem att_step (c : Dev nD) (f : Vec F S1024x1024 .f32) (k : P F) (Q : PUnit → sProp 𝕄) :
    iprop((opPts m c ∗ workPts c f) ∗ ((opPts m c ∗ workPts c (wst m 0 c)) -∗ wpc c k Q))
      ⊢ wpc c (attK k) Q := by
  unfold attK opPts
  iintro ⟨⟨⟨Hx, Hq, Ho, Hkk, Hv⟩, Hw⟩, Hk⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  iapply (wp_load 𝒱₀ (c : Thread nD τ) none Set.univ (m := wkM) (Finset.subset_univ _)) $$ Hkk; iintro Hkk
  iapply (wp_load 𝒱₀ (c : Thread nD τ) none Set.univ (m := wvM) (Finset.subset_univ _)) $$ Hv; iintro Hv
  have e0 : xM.view.readAt (Elt F) rWhole.toLoadRect (opX m c) = opX m c := Memref.readAt_unit_zero (Elt F) cc0_stg0_0 hz _ _
  have e1 : wqM.view.readAt (Elt F) rWhole.toLoadRect (opWq m c) = opWq m c := Memref.readAt_unit_zero (Elt F) cc0_stg1_0 hz _ _
  have e3 : wkM.view.readAt (Elt F) rWhole.toLoadRect (opWk m c) = opWk m c := Memref.readAt_unit_zero (Elt F) cc0_stg3_0 hz _ _
  have e4 : wvM.view.readAt (Elt F) rWhole.toLoadRect (opWv m c) = opWv m c := Memref.readAt_unit_zero (Elt F) cc0_stg4_0 hz _ _
  rw [e0, e1, e3, e4]
  iapply (batch_step m 0 c f)
  isplitl [Ho Hw]
  · isplitl [Ho] <;> iassumption
  iintro ⟨Ho, Hw⟩
  iapply (batch_step m 1 c _)
  isplitl [Ho Hw]
  · isplitl [Ho] <;> iassumption
  iintro ⟨Ho, Hw⟩
  iapply (batch_step m 2 c _)
  isplitl [Ho Hw]
  · isplitl [Ho] <;> iassumption
  iintro ⟨Ho, Hw⟩
  iapply (batch_step m 3 c _)
  isplitl [Ho Hw]
  · isplitl [Ho] <;> iassumption
  iintro ⟨Ho, Hw⟩
  rw [wrB_all]
  iapply Hk
  isplitr [Hw]
  · isplitl [Hx]; · iexact Hx
    isplitl [Hq]; · iexact Hq
    isplitl [Ho]; · iexact Ho
    isplitl [Hkk]; · iexact Hkk
    iexact Hv
  iexact Hw

/-! ## Stages -/

variable (K : Dev nD × CK → ℕ)

theorem rsStage (s : Fin 5) (c : Dev nD) (l : List Debt) (hl : ∀ d ∈ l, 2 + s.val < lvK d.2) (k : P F) (Q : PUnit → sProp 𝕄) :
    iprop(env m K ∗ (workPts c (wst m s.val c) ∗ owesE c (rsDebts s l) ∗ bigSep Finset.univ fun j => RsRes j s c)
        ∗ ((workPts c (wst m (s.val + 1) c) ∗ owesE c l ∗ bigSep Finset.univ fun j => RsDone j s c) -∗ wpc c k Q))
      ⊢ wpc c (rsStageK c s k) Q := by
  rw [bigSep_fin4, bigSep_fin4]
  unfold rsStageK rsDebts
  iintro ⟨#He, ⟨Hw, HO, H0, H1, H2, H3⟩, Hk⟩
  iapply (rsSend_step m K 0 s c)
  isplitr; · iexact He
  isplitl [Hw HO H0]
  · isplitl [Hw]; · iexact Hw
    isplitl [HO] <;> iassumption
  iintro ⟨Hw, HO, H0⟩
  iapply (rsSend_step m K 1 s c)
  isplitr; · iexact He
  isplitl [Hw HO H1]
  · isplitl [Hw]; · iexact Hw
    isplitl [HO] <;> iassumption
  iintro ⟨Hw, HO, H1⟩
  iapply (rsSend_step m K 2 s c)
  isplitr; · iexact He
  isplitl [Hw HO H2]
  · isplitl [Hw]; · iexact Hw
    isplitl [HO] <;> iassumption
  iintro ⟨Hw, HO, H2⟩
  iapply (rsSend_step m K 3 s c)
  isplitr; · iexact He
  isplitl [Hw HO H3]
  · isplitl [Hw]; · iexact Hw
    isplitl [HO] <;> iassumption
  iintro ⟨Hw, HO, H3⟩
  iapply (rsRecv_step m K 0 s c _ l hl)
  isplitr; · iexact He
  isplitl [Hw HO H0]
  · isplitl [Hw]; · iexact Hw
    isplitl [HO] <;> iassumption
  iintro ⟨Hw, HO, H0⟩
  iapply (rsRecv_step m K 1 s c _ l hl)
  isplitr; · iexact He
  isplitl [Hw HO H1]
  · isplitl [Hw]; · iexact Hw
    isplitl [HO] <;> iassumption
  iintro ⟨Hw, HO, H1⟩
  iapply (rsRecv_step m K 2 s c _ l hl)
  isplitr; · iexact He
  isplitl [Hw HO H2]
  · isplitl [Hw]; · iexact Hw
    isplitl [HO] <;> iassumption
  iintro ⟨Hw, HO, H2⟩
  iapply (rsRecv_step m K 3 s c _ l hl)
  isplitr; · iexact He
  isplitl [Hw HO H3]
  · isplitl [Hw]; · iexact Hw
    isplitl [HO] <;> iassumption
  iintro ⟨Hw, HO, H3⟩
  iapply Hk
  isplitl [Hw]
  · rw [wst_succ]
    iexact Hw
  isplitl [HO]; · iexact HO
  isplitl [H0]; · iexact H0
  isplitl [H1]; · iexact H1
  isplitl [H2] <;> iassumption

theorem agStage (s : Fin 5) (c : Dev nD) (l : List Debt) (hl : ∀ d ∈ l, 7 + s.val < lvK d.2) (k : P F) (Q : PUnit → sProp 𝕄) :
    iprop(env m K ∗ ((bigSep Finset.univ fun j => outPts c (curSet j s.val c) (fin m)) ∗ owesE c (agDebts s l) ∗ bigSep Finset.univ fun j => AgRes j s c)
        ∗ (((bigSep Finset.univ fun j => outPts c (curSet j (s.val + 1) c) (fin m)) ∗ owesE c l ∗ bigSep Finset.univ fun j => AgDone j s c) -∗ wpc c k Q))
      ⊢ wpc c (agStageK c s k) Q := by
  rw [bigSep_fin4, bigSep_fin4, bigSep_fin4, bigSep_fin4]
  unfold agStageK agDebts
  rw [← agSet_eq, ← agSet_eq, ← agSet_eq, ← agSet_eq]
  iintro ⟨#He, ⟨⟨Ho0, Ho1, Ho2, Ho3⟩, HO, H0, H1, H2, H3⟩, Hk⟩
  iapply (agSend_step m K 0 s c)
  isplitr; · iexact He
  isplitl [Ho0 HO H0]
  · isplitl [Ho0]; · iexact Ho0
    isplitl [HO] <;> iassumption
  iintro ⟨HO, H0⟩
  iapply (agSend_step m K 1 s c)
  isplitr; · iexact He
  isplitl [Ho1 HO H1]
  · isplitl [Ho1]; · iexact Ho1
    isplitl [HO] <;> iassumption
  iintro ⟨HO, H1⟩
  iapply (agSend_step m K 2 s c)
  isplitr; · iexact He
  isplitl [Ho2 HO H2]
  · isplitl [Ho2]; · iexact Ho2
    isplitl [HO] <;> iassumption
  iintro ⟨HO, H2⟩
  iapply (agSend_step m K 3 s c)
  isplitr; · iexact He
  isplitl [Ho3 HO H3]
  · isplitl [Ho3]; · iexact Ho3
    isplitl [HO] <;> iassumption
  iintro ⟨HO, H3⟩
  iapply (agRecv_step m K 0 s c l hl)
  isplitr; · iexact He
  isplitl [HO H0]
  · isplitl [HO] <;> iassumption
  iintro ⟨Ho0, HO, H0⟩
  iapply (agRecv_step m K 1 s c l hl)
  isplitr; · iexact He
  isplitl [HO H1]
  · isplitl [HO] <;> iassumption
  iintro ⟨Ho1, HO, H1⟩
  iapply (agRecv_step m K 2 s c l hl)
  isplitr; · iexact He
  isplitl [HO H2]
  · isplitl [HO] <;> iassumption
  iintro ⟨Ho2, HO, H2⟩
  iapply (agRecv_step m K 3 s c l hl)
  isplitr; · iexact He
  isplitl [HO H3]
  · isplitl [HO] <;> iassumption
  iintro ⟨Ho3, HO, H3⟩
  iapply Hk
  isplitl [Ho0 Ho1 Ho2 Ho3]
  · isplitl [Ho0]; · iexact Ho0
    isplitl [Ho1]; · iexact Ho1
    isplitl [Ho2] <;> iassumption
  isplitl [HO]; · iexact HO
  isplitl [H0]; · iexact H0
  isplitl [H1]; · iexact H1
  isplitl [H2] <;> iassumption

/-! ## Parting the result array -/

/-- One lane: what the device finishes itself, and what each all-gather stage brings. -/
theorem lane_split (j : Fin 4) (c : Dev nD) (f : Vec F S1024x1024 .bf16) :
    outPts c (laneSet j) f ⊢ iprop(outPts c (agSet j 0 c) f ∗ bigSep Finset.univ fun s : Fin 5 => iprop(∃ g, outPts c (agSet j s (pr j s.rev c)) g) : sProp 𝕄) := by
  have h (s : Fin 5) : outPts c (curSet j (s.val + 1) c) f ⊢ (iprop(outPts c (curSet j s.val c) f ∗ outPts c (agSet j s (pr j s.rev c)) f) : sProp 𝕄) := by
    rw [curSet_succ, ← agSet_eq]
    exact (pointsTo_union (agSet_disjoint j s c)).1
  rw [← curSet_five j c, bigSep_fin5, agSet_eq]
  iintro H
  ihave H4 := (show outPts c (curSet j 5 c) f ⊢ (iprop(outPts c (curSet j 4 c) f ∗ outPts c (agSet j 4 (pr j (Fin.rev 4) c)) f) : sProp 𝕄) from h 4) $$ H
  icases H4 with ⟨H, H4⟩
  ihave H3 := (show outPts c (curSet j 4 c) f ⊢ (iprop(outPts c (curSet j 3 c) f ∗ outPts c (agSet j 3 (pr j (Fin.rev 3) c)) f) : sProp 𝕄) from h 3) $$ H
  icases H3 with ⟨H, H3⟩
  ihave H2 := (show outPts c (curSet j 3 c) f ⊢ (iprop(outPts c (curSet j 2 c) f ∗ outPts c (agSet j 2 (pr j (Fin.rev 2) c)) f) : sProp 𝕄) from h 2) $$ H
  icases H2 with ⟨H, H2⟩
  ihave H1 := (show outPts c (curSet j 2 c) f ⊢ (iprop(outPts c (curSet j 1 c) f ∗ outPts c (agSet j 1 (pr j (Fin.rev 1) c)) f) : sProp 𝕄) from h 1) $$ H
  icases H1 with ⟨H, H1⟩
  ihave H0 := (show outPts c (curSet j 1 c) f ⊢ (iprop(outPts c (curSet j 0 c) f ∗ outPts c (agSet j 0 (pr j (Fin.rev 0) c)) f) : sProp 𝕄) from h 0) $$ H
  icases H0 with ⟨H, H0⟩
  isplitl [H]; · iexact H
  isplitl [H0]; · iexists f; iexact H0
  isplitl [H1]; · iexists f; iexact H1
  isplitl [H2]; · iexists f; iexact H2
  isplitl [H3]; · iexists f; iexact H3
  iexists f; iexact H4

theorem out_lanes (c : Dev nD) (f : Vec F S1024x1024 .bf16) :
    (outPts c Finset.univ f : sProp 𝕄) = bigSep Finset.univ fun j : Fin 4 => outPts c (laneSet j) f := by
  rw [← laneSet_cover]
  exact pointsTo_biUnion _ _ (fun j _ j' _ h => laneSet_disjoint j j' h)

theorem out_split (c : Dev nD) (f : Vec F S1024x1024 .bf16) :
    outPts c Finset.univ f ⊢ iprop((bigSep Finset.univ fun j : Fin 4 => outPts c (agSet j 0 c) f)
      ∗ allJS fun j s => iprop(∃ g, outPts c (agSet j s.rev (pr j s c)) g) : sProp 𝕄) := by
  rw [out_lanes, allJS_lanes, ← bigSep_sep']
  refine bigSep_mono fun j _ => ?_
  refine (lane_split j c f).trans (sep_mono_right ?_)
  rw [bigSep_univ_equiv Fin.revPerm]
  refine Entails.of_eq (bigSep_congr fun s _ => ?_)
  show iprop(∃ g, outPts c (agSet j s.rev (pr j s.rev.rev c)) g) = _
  rw [Fin.rev_rev]

/-! ## The start and the end -/

def RsTok (j : Fin 4) (s : Fin 5) (c : Dev nD) : sProp 𝕄 :=
  iprop(atPos ER (cell c (kRsS j s)) 0 ∅ 0 ∗ atPos ER (cell c (kRsR j s)) 0 ∅ 0
    ∗ dutyTok ER (cell c (kRsS j s)) 0 0 ∗ dutyTok ER (cell (pr j s c) (kRsR j s)) 0 0 ∗ cred (tallyAt (cell c (kRsR j s)) () (amtR j s)))

def AgTok (j : Fin 4) (s : Fin 5) (c : Dev nD) : sProp 𝕄 :=
  iprop(atPos ER (cell c (kAgS j s)) 0 ∅ 0 ∗ atPos ER (cell c (kAgR j s)) 0 ∅ 0
    ∗ dutyTok ER (cell c (kAgS j s)) 0 0 ∗ dutyTok ER (cell (pr j s.rev c) (kAgR j s)) 0 0 ∗ cred (tallyAt (cell c (kAgR j s)) () (amtA s)))

/-- At a handshake's semaphore: the position, the credit, and the right to signal the neighbours. -/
def HsTok (k : CK) (c : Dev nD) : sProp 𝕄 :=
  iprop(atPos ER (cell c k) 0 ∅ 0 ∗ cred (tallyAt (cell c k) () 5) ∗ bigSep Finset.univ fun a : Fin 5 => dutyTok ER (cell (nb a c) k) 0 a)

/-- What device `c` starts from, besides its buffers. -/
def linear (c : Dev nD) : sProp 𝕄 :=
  iprop(HsTok kBar c ∗ HsTok kExit c ∗ (allJS fun j s => RsTok j s c) ∗ allJS fun j s => AgTok j s c)

/-- The exchange buffers. -/
def bufs (c : Dev nD) : sProp 𝕄 := iprop((∃ f, workPts c f) ∗ (allJS fun j s => sbufAny c j s) ∗ allJS fun j s => rbufAny c j s)

/-- The semaphores at zero. -/
def zeros (c : Dev nD) : sProp 𝕄 :=
  iprop(semVal (cell c kBar) 0 ∗ semVal (cell c kExit) 0
    ∗ (allJS fun j s => iprop(semVal (cell c (kRsS j s)) 0 ∗ semVal (cell c (kRsR j s)) 0))
    ∗ allJS fun j s => iprop(semVal (cell c (kAgS j s)) 0 ∗ semVal (cell c (kAgR j s)) 0))

/-- The five signals of the entry handshake. -/
theorem bar_step (c : Dev nD) (l : List Debt) (k : P F) (Q : PUnit → sProp 𝕄) :
    iprop(env m K ∗ (owesE c (barDebts l) ∗ (bigSep Finset.univ fun a : Fin 5 => dutyTok ER (cell (nb a c) kBar) 0 a) ∗ bigSep Finset.univ fun a => barPay (nb a c) a)
        ∗ (owesE c l -∗ wpc c k Q))
      ⊢ wpc c (barK c 0 <| barK c 1 <| barK c 2 <| barK c 3 <| barK c 4 k) Q := by
  rw [bigSep_fin5, bigSep_fin5]
  unfold barK barDebts
  iintro ⟨#He, ⟨HO, ⟨T0, T1, T2, T3, T4⟩, P0, P1, P2, P3, P4⟩, Hk⟩
  iapply (signal_step m K c (bDev 0 c) 0 rfl kBar barS rfl rfl rfl)
  isplitr; · iexact He
  isplitl [HO T0 P0]
  · isplitl [HO]; · iexact HO
    isplitl [T0]; · iexact T0
    iapply (show barPay (nb 0 c) 0 ⊢ payK m (nb 0 c) 0 kBar from BI.Entails.refl _)
    iexact P0
  iintro HO
  iapply (signal_step m K c (bDev 1 c) 1 rfl kBar barS rfl rfl rfl)
  isplitr; · iexact He
  isplitl [HO T1 P1]
  · isplitl [HO]; · iexact HO
    isplitl [T1]; · iexact T1
    iapply (show barPay (nb 1 c) 1 ⊢ payK m (nb 1 c) 1 kBar from BI.Entails.refl _)
    iexact P1
  iintro HO
  iapply (signal_step m K c (bDev 2 c) 2 rfl kBar barS rfl rfl rfl)
  isplitr; · iexact He
  isplitl [HO T2 P2]
  · isplitl [HO]; · iexact HO
    isplitl [T2]; · iexact T2
    iapply (show barPay (nb 2 c) 2 ⊢ payK m (nb 2 c) 2 kBar from BI.Entails.refl _)
    iexact P2
  iintro HO
  iapply (signal_step m K c (bDev 3 c) 3 rfl kBar barS rfl rfl rfl)
  isplitr; · iexact He
  isplitl [HO T3 P3]
  · isplitl [HO]; · iexact HO
    isplitl [T3]; · iexact T3
    iapply (show barPay (nb 3 c) 3 ⊢ payK m (nb 3 c) 3 kBar from BI.Entails.refl _)
    iexact P3
  iintro HO
  iapply (signal_step m K c (bDev 4 c) 4 rfl kBar barS rfl rfl rfl)
  isplitr; · iexact He
  isplitl [HO T4 P4]
  · isplitl [HO]; · iexact HO
    isplitl [T4]; · iexact T4
    iapply (show barPay (nb 4 c) 4 ⊢ payK m (nb 4 c) 4 kBar from BI.Entails.refl _)
    iexact P4
  iexact Hk

/-- The five signals of the exit handshake. -/
theorem exit_step (c : Dev nD) (k : P F) (Q : PUnit → sProp 𝕄) :
    iprop(env m K ∗ (owesE c exitDebts ∗ bigSep Finset.univ fun a : Fin 5 => dutyTok ER (cell (nb a c) kExit) 0 a)
        ∗ (owesE c [] -∗ wpc c k Q))
      ⊢ wpc c (exitK c 0 <| exitK c 1 <| exitK c 2 <| exitK c 3 <| exitK c 4 k) Q := by
  rw [bigSep_fin5]
  unfold exitK exitDebts
  iintro ⟨#He, ⟨HO, T0, T1, T2, T3, T4⟩, Hk⟩
  iapply (signal_step m K c (xDev 0 c) 0 (xDev_eq 0 c) kExit exitS rfl rfl rfl)
  isplitr; · iexact He
  isplitl [HO T0]
  · isplitl [HO]; · iexact HO
    isplitl [T0]; · iexact T0
    unfold payK; iempintro
  iintro HO
  iapply (signal_step m K c (xDev 1 c) 1 (xDev_eq 1 c) kExit exitS rfl rfl rfl)
  isplitr; · iexact He
  isplitl [HO T1]
  · isplitl [HO]; · iexact HO
    isplitl [T1]; · iexact T1
    unfold payK; iempintro
  iintro HO
  iapply (signal_step m K c (xDev 2 c) 2 (xDev_eq 2 c) kExit exitS rfl rfl rfl)
  isplitr; · iexact He
  isplitl [HO T2]
  · isplitl [HO]; · iexact HO
    isplitl [T2]; · iexact T2
    unfold payK; iempintro
  iintro HO
  iapply (signal_step m K c (xDev 3 c) 3 (xDev_eq 3 c) kExit exitS rfl rfl rfl)
  isplitr; · iexact He
  isplitl [HO T3]
  · isplitl [HO]; · iexact HO
    isplitl [T3]; · iexact T3
    unfold payK; iempintro
  iintro HO
  iapply (signal_step m K c (xDev 4 c) 4 (xDev_eq 4 c) kExit exitS rfl rfl rfl)
  isplitr; · iexact He
  isplitl [HO T4]
  · isplitl [HO]; · iexact HO
    isplitl [T4]; · iexact T4
    unfold payK; iempintro
  iexact Hk

end Cert.KernelIdeal.Net

end
-- ==== Proof.Walk.lean ====
/-
# The reduction

The whole of the reduction on one device, from what it holds after its attention partial to the finished result.
-/
module

public import proofs.«01_k».proof.Proof.Body

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The stages in a row -/

theorem rs_all (c : Dev nD) (k : P F) (Q : PUnit → sProp 𝕄) :
    iprop(env m K ∗ (workPts c (wst m 0 c) ∗ owesE c (rsLeft 0) ∗ allJS fun j s => RsRes j s c)
        ∗ ((workPts c (wst m 5 c) ∗ owesE c (agLeft 0) ∗ allJS fun j s => RsDone j s c) -∗ wpc c k Q))
      ⊢ wpc c (rsStageK c 0 <| rsStageK c 1 <| rsStageK c 2 <| rsStageK c 3 <| rsStageK c 4 k) Q := by
  rw [allJS_stages, allJS_stages]
  iintro ⟨#He, ⟨Hw, HO, R0, R1, R2, R3, R4⟩, Hk⟩
  iapply (rsStage m K 0 c (rsLeft 1) (by decide +kernel))
  isplitr; · iexact He
  isplitl [Hw HO R0]
  · isplitl [Hw]; · iexact Hw
    isplitl [HO]; · iexact HO
    iexact R0
  iintro ⟨Hw, HO, R0⟩
  iapply (rsStage m K 1 c (rsLeft 2) (by decide +kernel))
  isplitr; · iexact He
  isplitl [Hw HO R1]
  · isplitl [Hw]; · iexact Hw
    isplitl [HO]; · iexact HO
    iexact R1
  iintro ⟨Hw, HO, R1⟩
  iapply (rsStage m K 2 c (rsLeft 3) (by decide +kernel))
  isplitr; · iexact He
  isplitl [Hw HO R2]
  · isplitl [Hw]; · iexact Hw
    isplitl [HO]; · iexact HO
    iexact R2
  iintro ⟨Hw, HO, R2⟩
  iapply (rsStage m K 3 c (rsLeft 4) (by decide +kernel))
  isplitr; · iexact He
  isplitl [Hw HO R3]
  · isplitl [Hw]; · iexact Hw
    isplitl [HO]; · iexact HO
    iexact R3
  iintro ⟨Hw, HO, R3⟩
  iapply (rsStage m K 4 c (rsLeft 5) (by decide +kernel))
  isplitr; · iexact He
  isplitl [Hw HO R4]
  · isplitl [Hw]; · iexact Hw
    isplitl [HO]; · iexact HO
    iexact R4
  iintro ⟨Hw, HO, R4⟩
  iapply Hk
  isplitl [Hw]; · iexact Hw
  isplitl [HO]; · iexact HO
  isplitl [R0]; · iexact R0
  isplitl [R1]; · iexact R1
  isplitl [R2]; · iexact R2
  isplitl [R3]; · iexact R3
  iexact R4

theorem ag_all (c : Dev nD) (k : P F) (Q : PUnit → sProp 𝕄) :
    iprop(env m K ∗ ((bigSep Finset.univ fun j => outPts c (curSet j 0 c) (fin m)) ∗ owesE c (agLeft 0) ∗ allJS fun j s => AgRes j s c)
        ∗ (((bigSep Finset.univ fun j => outPts c (curSet j 5 c) (fin m)) ∗ owesE c exitDebts ∗ allJS fun j s => AgDone j s c) -∗ wpc c k Q))
      ⊢ wpc c (agStageK c 0 <| agStageK c 1 <| agStageK c 2 <| agStageK c 3 <| agStageK c 4 k) Q := by
  rw [allJS_stages, allJS_stages]
  iintro ⟨#He, ⟨Ho, HO, A0, A1, A2, A3, A4⟩, Hk⟩
  iapply (agStage m K 0 c (agLeft 1) (by decide +kernel))
  isplitr; · iexact He
  isplitl [Ho HO A0]
  · isplitl [Ho]; · iexact Ho
    isplitl [HO]; · iexact HO
    iexact A0
  iintro ⟨Ho, HO, A0⟩
  iapply (agStage m K 1 c (agLeft 2) (by decide +kernel))
  isplitr; · iexact He
  isplitl [Ho HO A1]
  · isplitl [Ho]; · iexact Ho
    isplitl [HO]; · iexact HO
    iexact A1
  iintro ⟨Ho, HO, A1⟩
  iapply (agStage m K 2 c (agLeft 3) (by decide +kernel))
  isplitr; · iexact He
  isplitl [Ho HO A2]
  · isplitl [Ho]; · iexact Ho
    isplitl [HO]; · iexact HO
    iexact A2
  iintro ⟨Ho, HO, A2⟩
  iapply (agStage m K 3 c (agLeft 4) (by decide +kernel))
  isplitr; · iexact He
  isplitl [Ho HO A3]
  · isplitl [Ho]; · iexact Ho
    isplitl [HO]; · iexact HO
    iexact A3
  iintro ⟨Ho, HO, A3⟩
  iapply (agStage m K 4 c (agLeft 5) (by decide +kernel))
  isplitr; · iexact He
  isplitl [Ho HO A4]
  · isplitl [Ho]; · iexact Ho
    isplitl [HO]; · iexact HO
    iexact A4
  iintro ⟨Ho, HO, A4⟩
  iapply Hk
  isplitl [Ho]; · iexact Ho
  isplitl [HO]; · iexact HO
  isplitl [A0]; · iexact A0
  isplitl [A1]; · iexact A1
  isplitl [A2]; · iexact A2
  isplitl [A3]; · iexact A3
  iexact A4

/-- The finished blocks, all four lanes. -/
theorem out_all (c : Dev nD) (f : Vec F S1024x1024 .bf16) (k : P F) (Q : PUnit → sProp 𝕄) :
    iprop((workPts c (wst m 5 c) ∗ bigSep Finset.univ fun j => outPts c (agSet j 0 c) f)
        ∗ ((workPts c (wst m 5 c) ∗ bigSep Finset.univ fun j => outPts c (curSet j 0 c) (fin m)) -∗ wpc c k Q))
      ⊢ wpc c (outK c 0 <| outK c 1 <| outK c 2 <| outK c 3 k) Q := by
  have e : ∀ j, curSet j 0 c = agSet j 0 c := fun j => (agSet_eq j 0 c).symm
  rw [bigSep_fin4, bigSep_fin4, e, e, e, e]
  iintro ⟨⟨Hw, H0, H1, H2, H3⟩, Hk⟩
  iapply (out_step m 0 c f)
  isplitl [Hw H0]
  · isplitl [Hw] <;> iassumption
  iintro ⟨Hw, H0⟩
  iapply (out_step m 1 c f)
  isplitl [Hw H1]
  · isplitl [Hw] <;> iassumption
  iintro ⟨Hw, H1⟩
  iapply (out_step m 2 c f)
  isplitl [Hw H2]
  · isplitl [Hw] <;> iassumption
  iintro ⟨Hw, H2⟩
  iapply (out_step m 3 c f)
  isplitl [Hw H3]
  · isplitl [Hw] <;> iassumption
  iintro ⟨Hw, H3⟩
  iapply Hk
  isplitl [Hw]; · iexact Hw
  isplitl [H0]; · iexact H0
  isplitl [H1]; · iexact H1
  isplitl [H2] <;> iassumption

/-! ## What the handshake exchanges -/

/-- The landing buffers and the blocks of the result together are what the neighbours are handed. -/
theorem give (c : Dev nD) : iprop((allJS fun j s => rbufAny c j s) ∗ allJS fun j s => iprop(∃ g, outPts c (agSet j s.rev (pr j s c)) g))
    ⊢ (bigSep Finset.univ fun a : Fin 5 => (barPay (nb a c) a : sProp 𝕄)) := by
  rw [barPay_out, ← allJS_lanes, ← allJS_sep]
  exact BI.Entails.refl _

/-- What the neighbours hand over is leave to write their landing buffers and blocks of their results. -/
theorem take (c : Dev nD) : (bigSep Finset.univ fun a : Fin 5 => (barPay c a : sProp 𝕄))
    ⊢ iprop((allJS fun j s => rbufAny (pr j s c) j s) ∗ allJS fun j s => iprop(∃ g, outPts (pr j s.rev c) (agSet j s c) g)) := by
  rw [barPay_all, ← allJS_lanes, ← allJS_rev (fun j s => iprop(∃ g, outPts (pr j s.rev c) (agSet j s c) g)), ← allJS_sep]
  refine allJS_mono fun j s => ?_
  unfold hand
  rw [Fin.rev_rev]

/-! ## The whole reduction -/

theorem rest_exit (c : Dev nD) : bigSep ((Rd (F := F) m).duties (cell c kExit) 0 \ ∅) (fun d => (Rd (F := F) m).payload (cell c kExit) 0 d)
    = bigSep Finset.univ fun a : Fin 5 => payK m c a kExit := by
  rw [Finset.sdiff_empty, duties_cell]
  exact bigSep_congr fun d _ => payload_cell m c kExit d

set_option maxHeartbeats 800000 in
theorem reduce_walk (c : Dev nD) (Q : PUnit → sProp 𝕄) :
    iprop(env m K ∗ linear c
        ∗ (workPts c (wst m 0 c) ∗ (allJS fun j s => sbufAny c j s) ∗ (allJS fun j s => rbufAny c j s) ∗ ∃ f, outPts c Finset.univ f)
        ∗ owesE c allDebts
        ∗ ((bufs c ∗ outPts c Finset.univ (fin m) ∗ zeros c ∗ owesE c []) -∗ Q ⟨⟩))
      ⊢ wpc c (reduceK c) Q := by
  unfold linear HsTok reduceK
  iintro ⟨#He, ⟨⟨HaB, HcB, HtB⟩, ⟨HaE, HcE, HtE⟩, HR, HA⟩, ⟨Hw, Hsb, Hrb, ⟨%f, Ho⟩⟩, HO, Hk⟩
  ihave Hsp := (out_split c f) $$ Ho
  icases Hsp with ⟨Ho, Hog⟩
  ihave Hg := (give c) $$ [Hrb Hog]
  · isplitl [Hrb] <;> iassumption
  iapply (bar_step m K c (rsLeft 0))
  isplitr; · iexact He
  isplitl [HO HtB Hg]
  · isplitl [HO]; · iexact HO
    isplitl [HtB] <;> iassumption
  iintro HO
  iapply (wait_cell m K c kBar (n := 5) (wpE_semWait_eq 𝒱₀ (c : Thread nD τ) none Set.univ) (by rw [expect_bar]) (rest_bar m c) (rsLeft 0) (by decide +kernel))
  isplitr; · iexact He
  isplitl [HcB HO HaB]
  · isplitl [HcB]; · iexact HcB
    isplitl [HO] <;> iassumption
  iintro ⟨HO, HzB, Hp⟩
  ihave Ht := (take c) $$ Hp
  icases Ht with ⟨Hrp, Hop⟩
  iapply (rs_all m K c)
  isplitr; · iexact He
  isplitl [Hw HO Hsb Hrp HR]
  · isplitl [Hw]; · iexact Hw
    isplitl [HO]; · iexact HO
    iapply (show iprop((allJS fun j s => sbufAny c j s) ∗ (allJS fun j s => rbufAny (pr j s c) j s) ∗ allJS fun j s => RsTok j s c) ⊢ (allJS fun j s => RsRes j s c : sProp 𝕄) from by
      rw [← allJS_sep, ← allJS_sep]; exact BI.Entails.refl _)
    isplitl [Hsb]; · iexact Hsb
    isplitl [Hrp] <;> iassumption
  iintro ⟨Hw, HO, HR⟩
  iapply (out_all m c f)
  isplitl [Hw Ho]
  · isplitl [Hw] <;> iassumption
  iintro ⟨Hw, Ho⟩
  iapply (ag_all m K c)
  isplitr; · iexact He
  isplitl [HO Ho Hop HA]
  · isplitl [Ho]; · iexact Ho
    isplitl [HO]; · iexact HO
    iapply (show iprop((allJS fun j s => iprop(∃ g, outPts (pr j s.rev c) (agSet j s c) g)) ∗ allJS fun j s => AgTok j s c) ⊢ (allJS fun j s => AgRes j s c : sProp 𝕄) from by
      rw [← allJS_sep]; exact BI.Entails.refl _)
    isplitl [Hop] <;> iassumption
  iintro ⟨Ho, HO, HA⟩
  iapply (exit_step m K c)
  isplitr; · iexact He
  isplitl [HO HtE]
  · isplitl [HO] <;> iassumption
  iintro HO
  iapply (wait_cell m K c kExit (n := 5) (wpE_semWait_eq 𝒱₀ (c : Thread nD τ) none Set.univ) (by rw [expect_exit]) (rest_exit m c) [] (by decide))
  isplitr; · iexact He
  isplitl [HcE HO HaE]
  · isplitl [HcE]; · iexact HcE
    isplitl [HO] <;> iassumption
  iintro ⟨HO, HzE, -⟩
  unfold wpc
  rw [wp_ret]
  imodintro
  iapply Hk
  ihave HR' := (show (allJS fun j s => RsDone j s c : sProp 𝕄) ⊢ iprop((allJS fun j s => sbufAny c j s) ∗ (allJS fun j s => rbufAny c j s)
      ∗ allJS fun j s => iprop(semVal (cell c (kRsS j s)) 0 ∗ semVal (cell c (kRsR j s)) 0)) from by
    rw [← allJS_sep, ← allJS_sep]; exact BI.Entails.refl _) $$ HR
  icases HR' with ⟨Hsb, Hrb, HzR⟩
  unfold bufs zeros
  isplitl [Hw Hsb Hrb]
  · isplitl [Hw]; · iexists _; iexact Hw
    isplitl [Hsb] <;> iassumption
  isplitl [Ho]
  · rw [out_lanes]
    iapply (show (bigSep Finset.univ fun j => outPts c (curSet j 5 c) (fin m)) ⊢ (bigSep Finset.univ fun j => outPts c (laneSet j) (fin m) : sProp 𝕄) from by
      simp only [curSet_five]; exact BI.Entails.refl _)
    iexact Ho
  isplitr [HO]
  · isplitl [HzB]; · iexact HzB
    isplitl [HzE]; · iexact HzE
    isplitl [HzR]; · iexact HzR
    iexact HA
  iexact HO

end Cert.KernelIdeal.Net

end
-- ==== Proof.Point.lean ====
/-
# The run

The kernel on all devices: the body of every device put together with the launch, so that every execution of the program
ends, with the arguments as they were, every semaphore at zero, and in each device's result the finished reduction.
-/
module

public import proofs.«01_k».proof.Proof.Walk
public import proofs.«01_k».proof.Proof.Gen.KernelIdeal.Launch

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the semaphores and over the buffers -/

theorem bigSep_opt {I : Type} [Fintype I] [DecidableEq I] (X : Option I → sProp 𝕄) :
    bigSep Finset.univ X = iprop(X none ∗ bigSep Finset.univ fun i => X (some i)) := by
  rw [show (Finset.univ : Finset (Option I)) = insert none (Finset.univ.map Function.Embedding.some) from by
    ext x; cases x <;> simp, bigSep_insert (by simp), bigSep_map]
  rfl

theorem bigSep_fam {n : ℕ} (X : Fin n × Fin 4 × Fin 5 → sProp 𝕄) :
    bigSep Finset.univ X = bigSep Finset.univ fun t : Fin n => allJS fun j s => X (t, j, s) := by
  rw [bigSep_univ_prod]
  refine bigSep_congr fun t _ => ?_
  rw [bigSep_univ_prod, allJS_lanes]

theorem bigSep_CK (X : CK → sProp 𝕄) : bigSep Finset.univ X
    = iprop(X kBar ∗ X kExit ∗ (allJS fun j s => X (kRsS j s)) ∗ (allJS fun j s => X (kRsR j s))
      ∗ (allJS fun j s => X (kAgS j s)) ∗ allJS fun j s => X (kAgR j s)) := by
  rw [bigSep_opt, bigSep_opt, bigSep_fam, bigSep_fin4]

/-- The buffers of the exchange: the working array, and by kind (send, landing), lane and stage the rest. -/
abbrev BK := Option (Fin 2 × Fin 4 × Fin 5)

def bufRef : BK → Ref sig .tc
  | none => cc0_scratch0
  | some (0, j, s) => (sbufM j s).view.ref
  | some (1, j, s) => (rbufM j s).view.ref

theorem bufRef_inj : Function.Injective bufRef := by decide +kernel

theorem bigSep_BK (X : BK → sProp 𝕄) : bigSep Finset.univ X
    = iprop(X none ∗ (allJS fun j s => X (some (0, j, s))) ∗ allJS fun j s => X (some (1, j, s))) := by
  rw [bigSep_opt, bigSep_fam]
  congr 1
  exact bigSep_univ_eq_bigSepL [0, 1] (by decide) (by decide) _

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held whole, its contents not said. -/
def held (c : Dev nD) (b : Ref sig .tc) : sProp 𝕄 :=
  iprop(∃ f : Buf (Elt F) ((c : Thread nD τ).loc b), ((c : Thread nD τ).loc b) ↦{fullShare} f)

theorem sbuf_held (c : Dev nD) (j : Fin 4) (s : Fin 5) : (sbufAny c j s : sProp 𝕄) = held c (bufRef (some (0, j, s))) :=
  Memref.IsWhole.exists_owns_eq (sbufM_whole j s) fullShare
theorem rbuf_held (c : Dev nD) (j : Fin 4) (s : Fin 5) : (rbufAny c j s : sProp 𝕄) = held c (bufRef (some (1, j, s))) :=
  Memref.IsWhole.exists_owns_eq (rbufM_whole j s) fullShare

theorem scoped_bufs : ((Finset.univ.filter fun b : Ref sig .tc => b.isScoped) \ Finset.univ.image (Pipeline.stageRef cfg0.spec)) = Finset.univ.map ⟨bufRef, bufRef_inj⟩ := by
  decide +kernel

theorem rest_bufs (c : Dev nD) : (Pipeline.scopedRest (Ix := Unit) (Name := ℕ) (U := UU) (Lvl := ℕ) (Val := Elt F) cfg0.spec c : sProp 𝕄) = bufs c := by
  unfold Pipeline.scopedRest bufs
  rw [scoped_bufs, bigSep_map, bigSep_BK]
  simp only [sbuf_held, rbuf_held]
  rfl

/-! ## The pipeline's point -/

/-- The state at launch: memory `m`, every counter zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, besides the buffers. -/
def start (c : Dev nD) : sProp 𝕄 := iprop((∃ K, records m K ∗ linear c) ∗ levAts L lv)

def Φ₀ (c : Dev nD) : sProp 𝕄 := iprop(start m c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opX m c
    | ⟨1, _⟩ => opWq m c
    | ⟨2, _⟩ => opWo m c
    | ⟨3, _⟩ => opWk m c
    | ⟨4, _⟩ => opWv m c
    | ⟨5, _⟩ => fin m
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (opX m c) ∗ stg c cc0_stg1_0 (opWq m c) ∗ stg c cc0_stg2_0 (opWo m c)
    ∗ stg c cc0_stg3_0 (opWk m c) ∗ stg c cc0_stg4_0 (opWv m c) ∗ stg c cc0_stg5_0 (fin m))

theorem before_0 (c : Dev nD) (d) : (dats m ρ 0 c).before (0 : Fin 6) t₀ d = opX m c := by
  unfold Dat.before; rw [if_pos (show (cfg0.win (0 : Fin 6)).fetch t₀ = true from rfl)]; rfl
theorem before_1 (c : Dev nD) (d) : (dats m ρ 0 c).before (1 : Fin 6) t₀ d = opWq m c := by
  unfold Dat.before; rw [if_pos (show (cfg0.win (1 : Fin 6)).fetch t₀ = true from rfl)]; rfl
theorem before_2 (c : Dev nD) (d) : (dats m ρ 0 c).before (2 : Fin 6) t₀ d = opWo m c := by
  unfold Dat.before; rw [if_pos (show (cfg0.win (2 : Fin 6)).fetch t₀ = true from rfl)]; rfl
theorem before_3 (c : Dev nD) (d) : (dats m ρ 0 c).before (3 : Fin 6) t₀ d = opWk m c := by
  unfold Dat.before; rw [if_pos (show (cfg0.win (3 : Fin 6)).fetch t₀ = true from rfl)]; rfl
theorem before_4 (c : Dev nD) (d) : (dats m ρ 0 c).before (4 : Fin 6) t₀ d = opWv m c := by
  unfold Dat.before; rw [if_pos (show (cfg0.win (4 : Fin 6)).fetch t₀ = true from rfl)]; rfl

theorem stg_intro (c : Dev nD) (b : Ref sig .tc) (X : b.ty.Contents (Elt F)) :
    ((((c : Thread nD τ).loc b) ↦{fullShare} X) : sProp 𝕄) ⊢ stg c b X := by
  iintro H
  iexists X
  isplitr
  · ipureintro; rfl
  iexact H

/-- The body, from the pipeline's precondition to its postcondition. -/
theorem body_walk (c : Dev nD) : bodyPre m ρ c ⊢ wpc c bodyK (fun _ => bodyPost m ρ c) := by
  unfold bodyPre Φ₀ start
  simp only [before_0, before_1, before_2, before_3, before_4]
  iintro ⟨⟨⟨⟨%K, #Hr, Hlin⟩, #Hl⟩, Hb⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  rw [show (dats m ρ 0 c).owed t₀.castSucc = owedBy c allDebts from rfl]
  unfold bodyK wpc
  simp only [wp_deviceId]
  unfold bufs
  icases Hb with ⟨⟨%f, Hw⟩, Hsb, Hrb⟩
  iapply (att_step m c f)
  isplitl [H0 H1 H2 H3 H4 Hw]
  · isplitr [Hw]
    · unfold opPts
      isplitl [H0]; · iexact H0
      isplitl [H1]; · iexact H1
      isplitl [H2]; · iexact H2
      isplitl [H3] <;> iassumption
    iexact Hw
  iintro ⟨Hop, Hw⟩
  iapply (reduce_walk m K c)
  isplitr
  · unfold env
    isplitr <;> iassumption
  isplitl [Hlin]; · iexact Hlin
  isplitl [Hw Hsb Hrb H5]
  · isplitl [Hw]; · iexact Hw
    isplitl [Hsb]; · iexact Hsb
    isplitl [Hrb]; · iexact Hrb
    iexists g5
    unfold outPts
    iexact H5
  isplitl [HO]
  · unfold owesE
    iexists W
    iexact HO
  iintro ⟨Hb, Hout, Hz, HO⟩
  unfold owesE
  icases HO with ⟨%W', HO⟩
  unfold bodyPost Φ₁
  isplitl [Hb Hz]
  · isplitl [Hb] <;> iassumption
  isplitl [HO]
  · unfold Dat.owesAt Pipeline.owesWithin
    iexists W'
    isplitr
    · ipureintro
      exact fun _ _ => Or.inl trivial
    rw [show (dats m ρ 0 c).owed t₀.succ = owedBy c [] from rfl]
    iexact HO
  unfold opPts
  icases Hop with ⟨H0, H1, H2, H3, H4⟩
  isplitl [H0]; · iapply (stg_intro c cc0_stg0_0 (opX m c)); iexact H0
  isplitl [H1]; · iapply (stg_intro c cc0_stg1_0 (opWq m c)); iexact H1
  isplitl [H2]; · iapply (stg_intro c cc0_stg2_0 (opWo m c)); iexact H2
  isplitl [H3]; · iapply (stg_intro c cc0_stg3_0 (opWk m c)); iexact H3
  isplitl [H4]; · iapply (stg_intro c cc0_stg4_0 (opWv m c)); iexact H4
  iapply (stg_intro c cc0_stg5_0 (fin m))
  unfold outPts
  iexact Hout

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have h := body_walk m ρ c
  rw [← body_eq] at h
  exact h

end Cert.KernelIdeal.Net

end
-- ==== Proof.Run.lean ====
/-
# The launch

The kernel on all devices: the ghost state of the schedule allocated and dealt out, and the program's run from it. Every
execution ends, with the arguments as they were, every semaphore at zero, and in each device's result the finished
reduction.
-/
module

public import proofs.«01_k».proof.Proof.Point
public import Idealize.ShloMosaic.Lib.Pipeline.CollectiveSegs

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The schedule's cells and its tokens -/

def kcell (ck : Dev nD × CK) : GSem nD τ sig := cell ck.1 ck.2

theorem kcell_inj : Function.Injective kcell := fun _ _ h => Prod.ext (cell_inj.mp h).1 (cell_inj.mp h).2

def netCells : Finset (GSem nD τ sig) := Finset.univ.map ⟨kcell, kcell_inj⟩

/-- A device's duties: by axis at the entry barrier and at the exit barrier, and one at each transfer's semaphore. -/
abbrev TK := Fin 5 ⊕ (Fin 5 ⊕ (Fin 4 × Fin 4 × Fin 5))

def tk : TK → CK × Fin 5
  | .inl a => (kBar, a)
  | .inr (.inl a) => (kExit, a)
  | .inr (.inr o) => (some (some o), 0)

theorem tk_inj : Function.Injective tk := by decide +kernel

def tokOf (ct : Dev nD × TK) : GSem nD τ sig × ℕ × Fin 5 := (cell ct.1 (tk ct.2).1, 0, (tk ct.2).2)

theorem tokOf_inj : Function.Injective tokOf := by
  rintro ⟨c, t⟩ ⟨c', t'⟩ h
  have h1 : cell c (tk t).1 = cell c' (tk t').1 := congrArg (fun x => x.1) h
  have h2 : (tk t).2 = (tk t').2 := congrArg (fun x => x.2.2) h
  obtain ⟨rfl, h3⟩ := cell_inj.mp h1
  rw [tk_inj (Prod.ext h3 h2)]

def netToks : Finset (GSem nD τ sig × ℕ × Fin 5) := Finset.univ.map ⟨tokOf, tokOf_inj⟩

def u₀ : UU :=
  (initOf (Pipeline.cells cfgs cellOf_inj) (Pipeline.launchToks cfgs cellOf_inj), initOf netCells netToks)

/-- The duty tokens of device `c`'s own semaphores. -/
def toks (c : Dev nD) : sProp 𝕄 := bigSep Finset.univ fun t : TK => dutyTok ER (cell c (tk t).1) 0 (tk t).2

/-- The tokens of the duties device `c` fulfils. -/
def payToks (c : Dev nD) : sProp 𝕄 :=
  iprop((bigSep Finset.univ fun a : Fin 5 => dutyTok ER (cell (nb a c) kBar) 0 a) ∗ (bigSep Finset.univ fun a : Fin 5 => dutyTok ER (cell (nb a c) kExit) 0 a)
    ∗ (allJS fun j s => dutyTok ER (cell c (kRsS j s)) 0 0) ∗ (allJS fun j s => dutyTok ER (cell (pr j s c) (kRsR j s)) 0 0)
    ∗ (allJS fun j s => dutyTok ER (cell c (kAgS j s)) 0 0) ∗ allJS fun j s => dutyTok ER (cell (pr j s.rev c) (kAgR j s)) 0 0)

theorem toks_eq (c : Dev nD) : (toks c : sProp 𝕄)
    = iprop((bigSep Finset.univ fun a : Fin 5 => dutyTok ER (cell c kBar) 0 a) ∗ (bigSep Finset.univ fun a : Fin 5 => dutyTok ER (cell c kExit) 0 a)
      ∗ (allJS fun j s => dutyTok ER (cell c (kRsS j s)) 0 0) ∗ (allJS fun j s => dutyTok ER (cell c (kRsR j s)) 0 0)
      ∗ (allJS fun j s => dutyTok ER (cell c (kAgS j s)) 0 0) ∗ allJS fun j s => dutyTok ER (cell c (kAgR j s)) 0 0) := by
  unfold toks
  rw [bigSep_univ_sum, bigSep_univ_sum, bigSep_fam, bigSep_fin4]
  rfl

/-! ## Tokens dealt to those who pay -/

def nbEquiv (a : Fin 5) : Dev nD ≃ Dev nD := ⟨nb a, nb a, nb_nb a, nb_nb a⟩

theorem around (X : Fin 5 → Dev nD → sProp 𝕄) :
    (bigSep Finset.univ fun c : Dev nD => bigSep Finset.univ fun a : Fin 5 => X a c) = bigSep Finset.univ fun c : Dev nD => bigSep Finset.univ fun a : Fin 5 => X a (nb a c) := by
  rw [bigSep_univ_comm, bigSep_univ_comm (fun (c : Dev nD) (a : Fin 5) => X a (nb a c))]
  exact bigSep_congr fun a _ => bigSep_univ_equiv (nbEquiv a) (X a)

theorem aroundJS (g : Fin 4 → Fin 5 → Fin 5) (X : Fin 4 → Fin 5 → Dev nD → sProp 𝕄) :
    (bigSep Finset.univ fun c : Dev nD => allJS fun j s => X j s c) = bigSep Finset.univ fun c : Dev nD => allJS fun j s => X j s (nb (g j s) c) := by
  have h (Y : Fin 4 → Fin 5 → Dev nD → sProp 𝕄) : (bigSep Finset.univ fun c : Dev nD => allJS fun j s => Y j s c) = allJS fun j s => bigSep Finset.univ fun c : Dev nD => Y j s c := by
    unfold allJS
    rw [bigSep_univ_comm]
    exact bigSep_congr fun s _ => bigSep_univ_comm _
  rw [h, h (fun j s c => X j s (nb (g j s) c))]
  congr 1
  funext j s
  exact bigSep_univ_equiv (nbEquiv (g j s)) (X j s)

theorem toks_around : (bigSep Finset.univ fun c : Dev nD => (toks c : sProp 𝕄)) = bigSep Finset.univ fun c : Dev nD => payToks c := by
  rw [bigSep_congr (s := Finset.univ) fun (c : Dev nD) _ => toks_eq (F := F) c]
  unfold payToks
  simp only [bigSep_sep']
  rw [around (fun a c => (dutyTok ER (cell c kBar) 0 a : sProp 𝕄)), around (fun a c => (dutyTok ER (cell c kExit) 0 a : sProp 𝕄)),
    aroundJS ord (fun j s c => (dutyTok ER (cell c (kRsR j s)) 0 0 : sProp 𝕄)),
    aroundJS (fun j s => ord j s.rev) (fun j s c => (dutyTok ER (cell c (kAgR j s)) 0 0 : sProp 𝕄))]

/-! ## The allocation -/

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- Device `c`'s positions and the tokens it pays with. -/
def dealt (c : Dev nD) : sProp 𝕄 := iprop((bigSep Finset.univ fun k : CK => atPos ER (cell c k) 0 ∅ 0) ∗ payToks c)

/-- What the allocation makes of it. -/
def G' (c : Dev nD) : sProp 𝕄 := iprop(∃ K, records m K ∗ dealt c)

theorem fund_net : BI.own (ER (initOf netCells netToks)) ⊢ (|==> bigSep Finset.univ (G m) : sProp 𝕄) := by
  have hX (Φ : GSem nD τ sig → sProp 𝕄) : bigSep netCells Φ = bigSep Finset.univ fun c : Dev nD => bigSep Finset.univ fun k : CK => Φ (kcell (c, k)) := by
    unfold netCells; rw [bigSep_map, bigSep_univ_prod]; rfl
  have hT : bigSep netToks (fun x => (dutyTok ER x.1 x.2.1 x.2.2 : sProp 𝕄)) = bigSep Finset.univ fun c : Dev nD => toks c := by
    unfold netToks toks; rw [bigSep_map, bigSep_univ_prod]; rfl
  iintro HX
  imod (Rounds.fund ER (Rd m) netCells netToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl

/-- The runtime's semaphore and the kernel's own are all the semaphores of the schedule. -/
theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_opt, unscopedSems0_eq]
  rfl

theorem sep_flat (P Q R : sProp 𝕄) : iprop((P ∗ Q) ∗ R) = iprop(P ∗ Q ∗ R) := equiv_iff.mp ⟨BI.sep_assoc, BI.sep_assoc'⟩

theorem zeros_eq (c : Dev nD) : (zeros c : sProp 𝕄) = bigSep Finset.univ fun k : CK => semVal (kcell (c, k)) 0 := by
  rw [bigSep_CK]
  unfold zeros
  rw [allJS_sep, allJS_sep, sep_flat]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × CK → ℕ) (c : Dev nD) : iprop(records m K ∗ dealt c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with_persistent (R := records m K) fun c _ => dealt_intro m K c)
  isplitr
  · unfold records; isplitl; · iexact HI
    iexact HR
  · iapply (Entails.of_eq (bigSep_sep' Finset.univ (fun c : Dev nD => bigSep Finset.univ fun k : CK => (atPos ER (cell c k) 0 ∅ 0 : sProp 𝕄)) payToks).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

def csemEmb : CK ↪ SemLoc sig := ⟨csem, csem_inj⟩

theorem creds (c : Dev nD) :
    (Pipeline.launchCred O₀ c : sProp 𝕄) ⊢ bigSep Finset.univ fun k : CK => cred (tallyAt (cell c k) () (countK k * amtK k)) := by
  unfold Pipeline.launchCred
  refine (bigSep_subset (Finset.subset_univ (Finset.univ.map csemEmb))).trans ?_
  rw [bigSep_map]
  refine bigSep_mono fun k _ => ?_
  rw [← launch_cell]
  exact BI.Entails.refl _

/-- Positions, tokens and credit make what the body starts from. -/
theorem linear_intro (c : Dev nD) :
    iprop(dealt c ∗ bigSep Finset.univ fun k : CK => cred (tallyAt (cell c k) () (countK k * amtK k))) ⊢ (linear c : sProp 𝕄) := by
  have hR : (allJS fun j s => RsTok j s c : sProp 𝕄) = iprop((allJS fun j s => atPos ER (cell c (kRsS j s)) 0 ∅ 0) ∗ (allJS fun j s => atPos ER (cell c (kRsR j s)) 0 ∅ 0)
      ∗ (allJS fun j s => dutyTok ER (cell c (kRsS j s)) 0 0) ∗ (allJS fun j s => dutyTok ER (cell (pr j s c) (kRsR j s)) 0 0)
      ∗ allJS fun j s => cred (tallyAt (cell c (kRsR j s)) () (amtR j s))) := by
    unfold RsTok
    rw [allJS_sep, allJS_sep, allJS_sep, allJS_sep]
  have hA : (allJS fun j s => AgTok j s c : sProp 𝕄) = iprop((allJS fun j s => atPos ER (cell c (kAgS j s)) 0 ∅ 0) ∗ (allJS fun j s => atPos ER (cell c (kAgR j s)) 0 ∅ 0)
      ∗ (allJS fun j s => dutyTok ER (cell c (kAgS j s)) 0 0) ∗ (allJS fun j s => dutyTok ER (cell (pr j s.rev c) (kAgR j s)) 0 0)
      ∗ allJS fun j s => cred (tallyAt (cell c (kAgR j s)) () (amtA s))) := by
    unfold AgTok
    rw [allJS_sep, allJS_sep, allJS_sep, allJS_sep]
  have h5 : ∀ k : CK, countK k * amtK k = match k with
      | none => 5 | some none => 5 | some (some (0, j, s)) => 0 | some (some (1, j, s)) => amtR j s | some (some (2, j, s)) => 0 | some (some (3, j, s)) => amtA s := by
    rintro (_ | _ | ⟨t, j, s⟩)
    · rfl
    · rfl
    · fin_cases t
      · exact Nat.zero_mul _
      · exact Nat.one_mul _
      · exact Nat.zero_mul _
      · exact Nat.one_mul _
  unfold linear HsTok dealt payToks
  rw [hR, hA, bigSep_CK, bigSep_CK]
  simp only [h5]
  iintro ⟨⟨⟨P0, P1, P2, P3, P4, P5⟩, T0, T1, T2, T3, T4, T5⟩, C0, C1, -, C3, -, C5⟩
  isplitl [P0 C0 T0]
  · isplitl [P0]; · iexact P0
    isplitl [C0] <;> iassumption
  isplitl [P1 C1 T1]
  · isplitl [P1]; · iexact P1
    isplitl [C1] <;> iassumption
  isplitl [P2 P3 T2 T3 C3]
  · isplitl [P2]; · iexact P2
    isplitl [P3]; · iexact P3
    isplitl [T2]; · iexact T2
    isplitl [T3] <;> iassumption
  isplitl [P4]; · iexact P4
  isplitl [P5]; · iexact P5
  isplitl [T4]; · iexact T4
  isplitl [T5] <;> iassumption

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, Hrec, Hd⟩⟩
  ihave Hc := (creds (F := F) c) $$ Hcr
  ihave Hl := (linear_intro (F := F) c) $$ [Hd Hc]
  · isplitl [Hd] <;> iassumption
  imodintro
  unfold start
  isplitl
  · isplitl [Hrec Hl]
    · iexists K
      isplitl [Hrec] <;> iassumption
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_bufs]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_bufs]
  unfold Φ₁
  rw [zeros_eq, sems0_eq]
  iintro ⟨Hr, Hu, Ho⟩
  isplitl [Hu]; · iexact Hu
  isplitl [Ho] <;> iassumption

theorem stage_other : ∀ (w : Fin cfg0.W) (s : Fin (cfg0.spec w).nbuf) (k : CK), csem k ≠ SemLoc.dma ((cfg0.spec w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_other c _ (stage_other w s)
    · rw [show (dats m ρ 0 c).owed ⟨_ + 1, ht⟩ = 0 from rfl, MayWait_zero]
      iintro -
      iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On 32 devices, for any float values, from any memory with zero counters: every weakly fair execution of the program
    ends, each device's arrays then hold the computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_net m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_in (c : Dev nD) : ∀ w : Fin 6, w ≠ 5 → finalA m ρ c w = (s₀ m ρ).mem ((cfg0.win w).arr.view.loc (c : Thread nD τ))
  | 0, _ => (dats (F := F) m ρ 0 c).arrAt_in (0 : Fin 6) rfl _
  | 1, _ => (dats (F := F) m ρ 0 c).arrAt_in (1 : Fin 6) rfl _
  | 2, _ => (dats (F := F) m ρ 0 c).arrAt_in (2 : Fin 6) rfl _
  | 3, _ => (dats (F := F) m ρ 0 c).arrAt_in (3 : Fin 6) rfl _
  | 4, _ => (dats (F := F) m ρ 0 c).arrAt_in (4 : Fin 6) rfl _
  | 5, h => absurd rfl h

end Cert.KernelIdeal.Net

end
-- ==== Proof.Butterfly.lean ====
/-
# The reduction as a sum

Over the extended reals a stage adds the neighbour's block into the block a device keeps. After five stages the block a
device finishes is the sum of all the devices' partials.
-/
module

public import proofs.«01_k».proof.Proof.Contents
public import Idealize.ShloMosaic.Lib.Pipeline.Value
public import Idealize.ShloMosaic.Lib.ValueIdx
public import Idealize.ShloMosaic.PureOps.Ideal.Laws

@[expose] public section

noncomputable section

open scoped BigOperators

namespace Cert.KernelIdeal.Net

open Cert.KernelIdeal Cert.KernelIdeal.Gen
open Idealize.ShloMosaic
open Idealize.ShloMosaic.TcCoe
open Idealize.ShloMosaic.ValueIdx

theorem hs_pos : ∀ s : Fin 5, 0 < hs s := by decide

/-- The element lies in the block device `c` keeps at stage `s` of its lane. -/
def Keep (s : Fin 5) (c : Dev nD) (i : S1024x1024.Idx) : Prop := (i 0).val / hs s = 32 * cl (lane i) c / hs s

/-- One received block added in, at an element the device keeps in its lane. -/
theorem addL_apply (j : Fin 4) (s : Fin 5) (c : Dev nD) (g f : Vec Ideal S1024x1024 .f32) (i : S1024x1024.Idx) (hk : Keep s c i) :
    addL j s c (sendV j s (pr j s c) g) f i = if lane i = j then f i + g i else f i := by
  have h0 : (i 0).val < 1024 := (i 0).isLt
  have h1 : (i 1).val < 1024 := (i 1).isLt
  have k0 : kOff j s c 0 = hs s * (32 * cl j c / hs s) := kOff_eq j s c 0
  have k1 : kOff j s c 1 = 256 * j.val := kOff_eq j s c 1
  have hl : lane i = j ↔ (i 1).val / 256 = j.val := ⟨fun h => congrArg Fin.val h, fun h => Fin.ext h⟩
  unfold addL
  refine (work_write (F := Ideal) (kOff j s c) (SH s).size _ _ _ _).trans ?_
  by_cases h : lane i = j
  · have hin : ∀ a, kOff j s c a ≤ (i a).val ∧ (i a).val < kOff j s c a + (SH s).size a := by
      intro a
      match a with
      | ⟨0, _⟩ =>
        show kOff j s c 0 ≤ (i 0).val ∧ (i 0).val < kOff j s c 0 + hs s
        rw [k0]
        have hk' : (i 0).val / hs s = 32 * cl j c / hs s := by rw [← h]; exact hk
        rw [← hk']
        exact ⟨Nat.mul_div_le _ _, by have := Nat.div_add_mod (i 0).val (hs s); have := Nat.mod_lt (i 0).val (hs_pos s); omega⟩
      | ⟨1, _⟩ =>
        show kOff j s c 1 ≤ (i 1).val ∧ (i 1).val < kOff j s c 1 + 256
        rw [k1]
        have := hl.mp h
        omega
    rw [dif_pos hin, if_pos h]
    unfold addIn sendV pack
    rw [shapeCast_self, shapeCast_self, addf_apply, extf_apply, truncf_apply]
    have e1 : (rKeep j s c).emb (inRect (kOff j s c) (SH s).size i hin) = i := funext fun a => Fin.ext (by
      show kOff j s c a + 1 * ((i a).val - kOff j s c a) = (i a).val
      have := (hin a).1
      omega)
    have e2 : (rSend j s (pr j s c)).emb (inRect (kOff j s c) (SH s).size i hin) = i := funext fun a => Fin.ext (by
      show sOff j s (pr j s c) a + 1 * ((i a).val - kOff j s c a) = (i a).val
      have e : sOff j s (pr j s c) a = kOff j s c a := by
        rw [sOff_eq, kOff_eq, show pr j s (pr j s c) = c from nb_nb _ _]
      have := (hin a).1
      omega)
    show f ((rKeep j s c).emb _) + g ((rSend j s (pr j s c)).emb _) = _
    rw [e1, e2]
  · rw [if_neg h, dif_neg]
    intro hin
    have := hin 1
    rw [k1] at this
    have h' : 256 * j.val ≤ (i 1).val ∧ (i 1).val < 256 * j.val + 256 := this
    exact h (hl.mpr (by omega))

variable (m : (ℓ : Loc nD τ sig) → Buf (Elt Ideal) ℓ)

/-- A stage adds the neighbour's element to the device's own. -/
theorem wst_step (s : Fin 5) (c : Dev nD) (i : S1024x1024.Idx) (hk : Keep s c i) :
    wst m (s.val + 1) c i = wst m s.val c i + wst m s.val (pr (lane i) s c) i := by
  rw [wst_succ]
  unfold stepS
  rw [addL_apply _ _ _ _ _ _ hk, addL_apply _ _ _ _ _ _ hk, addL_apply _ _ _ _ _ _ hk, addL_apply _ _ _ _ _ _ hk]
  generalize lane i = l
  match l with
  | 0 => rfl
  | 1 => rfl
  | 2 => rfl
  | 3 => rfl

/-- The devices whose partials are in the block after `n` stages. -/
def devs (j : Fin 4) : Nat → Dev nD → List (Dev nD)
  | 0, c => [c]
  | n + 1, c => devs j n c ++ devs j n (pr j ⟨n % 5, Nat.mod_lt _ (by decide)⟩ c)

theorem keep_pr : ∀ (j : Fin 4) (s t : Fin 5) (c : Dev nD), t < s → 32 * cl j (pr j s c) / hs t = 32 * cl j c / hs t := by
  decide +kernel

theorem devs_all : ∀ (j : Fin 4) (c : Dev nD), (devs j 5 c).Perm (List.finRange 32) := by decide +kernel

theorem wst_sum (i : S1024x1024.Idx) (n : Nat) : n ≤ 5 → ∀ c : Dev nD, (∀ s : Fin 5, s.val < n → Keep s c i) →
    wst m n c i = ((devs (lane i) n c).map fun d => watt m d i).sum := by
  induction n with
  | zero =>
    intro _ c _
    simp [devs, wst]
  | succ n ih =>
    intro hn c hk
    have hm : (⟨n % 5, Nat.mod_lt _ (by decide)⟩ : Fin 5) = ⟨n, by omega⟩ := Fin.ext (Nat.mod_eq_of_lt (by omega))
    rw [show wst m (n + 1) c i = wst m n c i + wst m n (pr (lane i) ⟨n, by omega⟩ c) i from
        wst_step m ⟨n, by omega⟩ c i (hk ⟨n, by omega⟩ (Nat.lt_succ_self n)),
      ih (by omega) c (fun s hs => hk s (by omega)), ih (by omega) _ (fun s hs => ?_), devs, hm, List.map_append, List.sum_append]
    unfold Keep
    rw [keep_pr _ _ _ _ hs]
    exact hk s (by omega)

/-- A finished element is the sum of all the devices' partials. -/
theorem fin_apply (i : S1024x1024.Idx) : fin m i = ∑ d : Dev nD, watt m d i := by
  unfold fin
  show wst m 5 (own i) i = _
  rw [wst_sum m i 5 (le_refl 5) (own i) (fun s _ => ?_), ((devs_all (lane i) (own i)).map _).sum_eq]
  · exact (Fin.sum_univ_def _).symm
  · unfold Keep
    rw [cl_own]
    have h0 : (i 0).val < 1024 := (i 0).isLt
    fin_cases s
    · show (i 0).val / 512 = 32 * ((i 0).val / 32) / 512; omega
    · show (i 0).val / 256 = 32 * ((i 0).val / 32) / 256; omega
    · show (i 0).val / 128 = 32 * ((i 0).val / 32) / 128; omega
    · show (i 0).val / 64 = 32 * ((i 0).val / 32) / 64; omega
    · show (i 0).val / 32 = 32 * ((i 0).val / 32) / 32; omega

end Cert.KernelIdeal.Net

end
-- ==== Proof.Heads.lean ====
/-
# The attention partial, head by head

The kernel's attention for one batch element is eight heads of one shape, added up: each takes its rows and columns of
the projected queries, keys and values and its rows of the output projection. Stated for any float instance.
-/
module

public import proofs.«01_k».proof.Proof.Contents

@[expose] public section

noncomputable section

namespace Cert.KernelIdeal.Net

open Cert.KernelIdeal Cert.KernelIdeal.Gen
open Idealize.ShloMosaic
open Idealize.ShloMosaic.TcCoe
open Idealize.SL.Sem

variable {F : FTy → Type} [FloatOps F]

/-- One head's scaled scores. -/
def scoreP (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32 : F .f32))

/-- A score less its row's maximum, exponentiated. -/
def expP (v : FVec F S256x256 .f32) : FVec F S256x256 .f32 :=
  exp (subf v (broadcastTo S256x256 (shapeCast S256x1
    (multiReduction .maximumf [1] S256 v 0xFF800000#32 reduces_S256x256_S256 (.inl rfl) rfl) shapeCasts_S256_S256x1)
    broadcasts_S256x1_S256x256))

/-- Each row divided by its sum. -/
def normP (p : FVec F S256x256 .f32) : FVec F S256x256 .f32 :=
  divf p (broadcastTo S256x256 (shapeCast S256x1
    (multiReduction .add [1] S256 p 0x00000000#32 reduces_S256x256_S256 (.inl rfl) rfl) shapeCasts_S256_S256x1)
    broadcasts_S256x1_S256x256)

/-- One head's attention. -/
def ctxP (q k v : FVec F S256x128 .bf16) : FVec F S256x128 .f32 :=
  matmul dot_S256x256_S256x128_S256x128_1_0_0_1_n_n none (truncf .bf16 (normP (expP (scoreP q k))) bitsLt_bf16_f32) v
    (constant S256x128 .f32 0x00000000#32)

/-- One head's share of the result. -/
def headP (q k v : FVec F S256x128 .bf16) (w : Vec F S128x1024 .bf16) : FVec F S256x1024 .f32 :=
  matmul dot_S256x128_S128x1024_S256x1024_1_0_0_1_n_n none (truncf .bf16 (ctxP q k v) bitsLt_bf16_f32)
    (shapeCast S128x1024 w shapeCasts_S128x1024_S128x1024 : FVec F S128x1024 .bf16) (constant S256x1024 .f32 0x00000000#32)

theorem sl_off (b : Fin 4) (h : Fin 8) : S1024x1024.Slices ![256 * b.val, 128 * h.val] S256x128 := by
  revert b h; decide

/-- Batch element `b`'s rows and head `h`'s columns. -/
def sl (b : Fin 4) (h : Fin 8) (v : FVec F S1024x1024 .bf16) : FVec F S256x128 .bf16 :=
  extractStridedSlice S256x128 ![256 * b.val, 128 * h.val] v (sl_off b h)

/-- A projection of the staged rows. -/
def projP (x w : Vec F S1024x1024 .bf16) : FVec F S1024x1024 .bf16 := k0_pay3 (k0_pay1 x) w

/-- Head `h` of batch element `b`. -/
def hd (b : Fin 4) (x wq wk wv : Vec F S1024x1024 .bf16) (w : Fin 8 → Vec F S128x1024 .bf16) (h : Fin 8) : FVec F S256x1024 .f32 :=
  headP (sl b h (projP x wq)) (sl b h (projP x wk)) (sl b h (projP x wv)) (w h)

/-- The eight heads added up in order. -/
def hdSum (f : Fin 8 → FVec F S256x1024 .f32) : FVec F S256x1024 .f32 :=
  addf (addf (addf (addf (addf (addf (addf (addf (broadcast S256x1024 (Scalar.ofBits .f32 0x00000000#32 : F .f32))
    (f 0)) (f 1)) (f 2)) (f 3)) (f 4)) (f 5)) (f 6)) (f 7)

theorem attB_eq (b : Fin 4) (x wq wk wv : Vec F S1024x1024 .bf16) (w : Fin 8 → Vec F S128x1024 .bf16) :
    attB b x wq wk wv w = shapeCast S256x1024 (hdSum (hd b x wq wk wv w)) shapeCasts_S256x1024_S256x1024 := by
  match b with
  | 0 => rfl
  | 1 => rfl
  | 2 => rfl
  | 3 => rfl

end Cert.KernelIdeal.Net

end
-- ==== Proof.HeadVal.lean ====
/-
# The attention partial over the extended reals

Each operation of a head read at an index: the products are sums, the casts change nothing, a row of scores becomes
its softmax.
-/
module

public import proofs.«01_k».proof.Proof.Heads
public import Idealize.ShloMosaic.Lib.Pipeline.Value
public import Idealize.ShloMosaic.Lib.ValueIdx
public import Idealize.ShloMosaic.PureOps.Ideal.Laws

@[expose] public section

noncomputable section

open scoped BigOperators

namespace Cert.KernelIdeal.Net

open Cert.KernelIdeal Cert.KernelIdeal.Gen
open Idealize.ShloMosaic
open Idealize.ShloMosaic.TcCoe
open Idealize.ShloMosaic.ValueIdx

/-- The scale of the scores, the value −∞ a maximum starts from. -/
def scl : EReal := Ideal.ofBits .f32 0x3DB504F3#32
def nInf : EReal := Ideal.ofBits .f32 0xFF800000#32

/-- The greatest of a row. -/
def top (s : Fin 256 → EReal) : EReal := (Finset.univ : Finset (Fin 256)).fold max nInf s

/-- A row exponentiated, less its greatest. -/
def ex (s : Fin 256 → EReal) (j : Fin 256) : EReal := Ideal.exp (s j - top s)

/-- A row's softmax. -/
def smx (s : Fin 256 → EReal) (j : Fin 256) : EReal := Ideal.div (ex s j) (∑ k, ex s k)

/-- A projection at an index. -/
theorem proj_apply (x w : Vec Ideal S1024x1024 .bf16) (r o : Fin 1024) :
    projP x w (ix2 r o) = ∑ k : Fin 1024, x (ix2 r k) * w (ix2 k o) := by
  unfold projP k0_pay3 k0_pay1
  rw [shapeCast_self, shapeCast_self]
  simp only [matmul, truncf_apply]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r o) ((contrEquiv1 dot_S1024x1024_S1024x1024_S1024x1024_1_0_0_1_n_n 1024 rfl rfl).symm k) = ix2 r k := funext fun d => Fin.ext (by
    match d with
    | ⟨0, _⟩ => rfl
    | ⟨1, _⟩ => exact hk)
  have er : dot_S1024x1024_S1024x1024_S1024x1024_1_0_0_1_n_n.rhsIdx (ix2 r o) ((contrEquiv1 dot_S1024x1024_S1024x1024_S1024x1024_1_0_0_1_n_n 1024 rfl rfl).symm k) = ix2 k o := funext fun d => Fin.ext (by
    match d with
    | ⟨0, _⟩ => exact hk
    | ⟨1, _⟩ => rfl)
  rw [el, er]

/-- A score at an index. -/
theorem scoreP_apply (q k : FVec Ideal S256x128 .bf16) (r j : Fin 256) :
    scoreP q k (ix2 r j) = (∑ d : Fin 128, q (ix2 r d) * k (ix2 j d)) * scl := by
  unfold scoreP
  rw [mulf_apply]
  refine congrArg (· * scl) ?_
  simp only [matmul]
  rw [Ideal.matmul_constant_zero_apply, ← Equiv.sum_comp (contrEquiv1 dot_S256x128_S256x128_S256x256_1_1_0_0_n_n 128 rfl rfl).symm]
  refine Finset.sum_congr rfl fun e _ => ?_
  have hk := contrEquiv1_symm_val dot_S256x128_S256x128_S256x256_1_1_0_0_n_n 128 rfl rfl e
  have el : dot_S256x128_S256x128_S256x256_1_1_0_0_n_n.lhsIdx (ix2 r j) ((contrEquiv1 dot_S256x128_S256x128_S256x256_1_1_0_0_n_n 128 rfl rfl).symm e) = ix2 r e := funext fun d => Fin.ext (by
    match d with
    | ⟨0, _⟩ => rfl
    | ⟨1, _⟩ => exact hk)
  have er : dot_S256x128_S256x128_S256x256_1_1_0_0_n_n.rhsIdx (ix2 r j) ((contrEquiv1 dot_S256x128_S256x128_S256x256_1_1_0_0_n_n 128 rfl rfl).symm e) = ix2 j e := funext fun d => Fin.ext (by
    match d with
    | ⟨0, _⟩ => rfl
    | ⟨1, _⟩ => exact hk)
  rw [el, er]

/-- A row's one value, spread over the row. -/
theorem row_apply (v : FVec Ideal S256 .f32) (r j : Fin 256) :
    broadcastTo S256x256 (shapeCast S256x1 v shapeCasts_S256_S256x1) broadcasts_S256x1_S256x256 (ix2 r j) = v (ix1 r) := by
  rw [broadcastTo_apply _ _ _ (ix2 r 0) (by intro a; match a with | ⟨0, _⟩ => rfl | ⟨1, _⟩ => rfl)]
  exact shapeCast_apply _ _ _ _ (by rw [Shape.rowMajor_val_one, Shape.rowMajor_val_two]; show r.val = r.val * 1 + 0; omega)

/-- An exponentiated score at an index. -/
theorem expP_apply (v : FVec Ideal S256x256 .f32) (r j : Fin 256) : expP v (ix2 r j) = ex (fun k => v (ix2 r k)) j := by
  refine congrArg (fun t => Ideal.exp (v (ix2 r j) - t)) ((row_apply _ r j).trans
    ((Ideal.multiReduction_maximumf_single v _ _ _ _ _).trans ?_))
  refine congrArg (Finset.fold max _ · _) (funext fun k => congrArg v (funext fun a => Fin.ext ?_))
  match a with
  | ⟨0, _⟩ => rfl
  | ⟨1, _⟩ => rfl

/-- A normalised row at an index. -/
theorem normP_apply (p : FVec Ideal S256x256 .f32) (r j : Fin 256) :
    normP p (ix2 r j) = Ideal.div (p (ix2 r j)) (∑ k : Fin 256, p (ix2 r k)) := by
  refine congrArg (Ideal.div (p (ix2 r j))) ((row_apply _ r j).trans ((Ideal.multiReduction_add_single p _ _ _ _ _).trans ?_))
  refine Finset.sum_congr rfl fun k _ => congrArg p (funext fun a => Fin.ext ?_)
  match a with
  | ⟨0, _⟩ => rfl
  | ⟨1, _⟩ => rfl

/-- A head's attention at an index. -/
theorem ctxP_apply (q k v : FVec Ideal S256x128 .bf16) (r : Fin 256) (o : Fin 128) :
    ctxP q k v (ix2 r o) = ∑ j : Fin 256, smx (fun i => scoreP q k (ix2 r i)) j * v (ix2 j o) := by
  unfold ctxP
  simp only [matmul]
  rw [Ideal.matmul_constant_zero_apply, ← Equiv.sum_comp (contrEquiv1 dot_S256x256_S256x128_S256x128_1_0_0_1_n_n 256 rfl rfl).symm]
  refine Finset.sum_congr rfl fun e _ => ?_
  have hk := contrEquiv1_symm_val dot_S256x256_S256x128_S256x128_1_0_0_1_n_n 256 rfl rfl e
  have el : dot_S256x256_S256x128_S256x128_1_0_0_1_n_n.lhsIdx (ix2 r o) ((contrEquiv1 dot_S256x256_S256x128_S256x128_1_0_0_1_n_n 256 rfl rfl).symm e) = ix2 r e := funext fun d => Fin.ext (by
    match d with
    | ⟨0, _⟩ => rfl
    | ⟨1, _⟩ => exact hk)
  have er : dot_S256x256_S256x128_S256x128_1_0_0_1_n_n.rhsIdx (ix2 r o) ((contrEquiv1 dot_S256x256_S256x128_S256x128_1_0_0_1_n_n 256 rfl rfl).symm e) = ix2 e o := funext fun d => Fin.ext (by
    match d with
    | ⟨0, _⟩ => exact hk
    | ⟨1, _⟩ => rfl)
  rw [el, er]
  rw [truncf_apply, normP_apply]
  simp only [expP_apply]
  rfl

/-- A head's share at an index. -/
theorem headP_apply (q k v : FVec Ideal S256x128 .bf16) (w : Vec Ideal S128x1024 .bf16) (r : Fin 256) (o : Fin 1024) :
    headP q k v w (ix2 r o) = ∑ d : Fin 128, ctxP q k v (ix2 r d) * w (ix2 d o) := by
  unfold headP
  rw [shapeCast_self]
  simp only [matmul]
  rw [Ideal.matmul_constant_zero_apply, ← Equiv.sum_comp (contrEquiv1 dot_S256x128_S128x1024_S256x1024_1_0_0_1_n_n 128 rfl rfl).symm]
  refine Finset.sum_congr rfl fun e _ => ?_
  have hk := contrEquiv1_symm_val dot_S256x128_S128x1024_S256x1024_1_0_0_1_n_n 128 rfl rfl e
  have el : dot_S256x128_S128x1024_S256x1024_1_0_0_1_n_n.lhsIdx (ix2 r o) ((contrEquiv1 dot_S256x128_S128x1024_S256x1024_1_0_0_1_n_n 128 rfl rfl).symm e) = ix2 r e := funext fun d => Fin.ext (by
    match d with
    | ⟨0, _⟩ => rfl
    | ⟨1, _⟩ => exact hk)
  have er : dot_S256x128_S128x1024_S256x1024_1_0_0_1_n_n.rhsIdx (ix2 r o) ((contrEquiv1 dot_S256x128_S128x1024_S256x1024_1_0_0_1_n_n 128 rfl rfl).symm e) = ix2 e o := funext fun d => Fin.ext (by
    match d with
    | ⟨0, _⟩ => exact hk
    | ⟨1, _⟩ => rfl)
  rw [el, er]
  rw [truncf_apply]

/-- Row `r` of batch element `b`, column `d` of head `h`. -/
def bRow (b : Fin 4) (r : Fin 256) : Fin 1024 := ⟨256 * b.val + r.val, by omega⟩
def hCol (h : Fin 8) (d : Fin 128) : Fin 1024 := ⟨128 * h.val + d.val, by omega⟩

theorem sl_apply (b : Fin 4) (h : Fin 8) (v : FVec Ideal S1024x1024 .bf16) (r : Fin 256) (d : Fin 128) :
    sl b h v (ix2 r d) = v (ix2 (bRow b r) (hCol h d)) :=
  extractStridedSlice_apply _ _ _ _ _ (fun a => by match a with | ⟨0, _⟩ => rfl | ⟨1, _⟩ => rfl)

/-- The scores of row `r`, for one device's weights. -/
def scr (x wq wk : Vec Ideal S1024x1024 .bf16) (b : Fin 4) (h : Fin 8) (r j : Fin 256) : EReal :=
  (∑ d : Fin 128, projP x wq (ix2 (bRow b r) (hCol h d)) * projP x wk (ix2 (bRow b j) (hCol h d))) * scl

theorem hd_apply (b : Fin 4) (x wq wk wv : Vec Ideal S1024x1024 .bf16) (w : Fin 8 → Vec Ideal S128x1024 .bf16) (h : Fin 8)
    (r : Fin 256) (o : Fin 1024) : hd b x wq wk wv w h (ix2 r o)
      = ∑ d : Fin 128, (∑ j : Fin 256, smx (scr x wq wk b h r) j * projP x wv (ix2 (bRow b j) (hCol h d))) * w h (ix2 d o) := by
  unfold hd
  rw [headP_apply]
  refine Finset.sum_congr rfl fun d _ => ?_
  rw [ctxP_apply]
  simp only [scoreP_apply, sl_apply]
  rfl

theorem attB_apply (b : Fin 4) (x wq wk wv : Vec Ideal S1024x1024 .bf16) (w : Fin 8 → Vec Ideal S128x1024 .bf16) (r : Fin 256)
    (o : Fin 1024) : attB b x wq wk wv w (ix2 r o) = ∑ h : Fin 8, hd b x wq wk wv w h (ix2 r o) := by
  rw [attB_eq, shapeCast_self, Fin.sum_univ_eight]
  simp only [hdSum, addf_apply, broadcast_apply]
  rw [show (Scalar.ofBits .f32 0x00000000#32 : Ideal .f32) = 0 from Ideal.ofBits_zero_f32, zero_add]

end Cert.KernelIdeal.Net

end
-- ==== Proof.Softmax.lean ====
/-
# A row divided before or after the product

The kernel divides a row of exponentials by its sum and then weighs the values with it; the reference weighs the values and divides
the result. The two agree when the scores are finite: the sum is then a positive real number.
-/
module

public import proofs.«01_k».proof.Proof.HeadVal

@[expose] public section

noncomputable section

open scoped BigOperators

namespace Cert.KernelIdeal.Net

open Cert.KernelIdeal Cert.KernelIdeal.Gen
open Idealize.ShloMosaic

/-- A finite value. -/
def IsR (x : EReal) : Prop := ∃ r : ℝ, x = r

theorem IsR.mul {x y : EReal} : IsR x → IsR y → IsR (x * y) := by
  rintro ⟨a, rfl⟩ ⟨b, rfl⟩
  exact ⟨a * b, (EReal.coe_mul a b).symm⟩

theorem IsR.add {x y : EReal} : IsR x → IsR y → IsR (x + y) := by
  rintro ⟨a, rfl⟩ ⟨b, rfl⟩
  exact ⟨a + b, (EReal.coe_add a b).symm⟩

theorem IsR.sub {x y : EReal} : IsR x → IsR y → IsR (x - y) := by
  rintro ⟨a, rfl⟩ ⟨b, rfl⟩
  exact ⟨a - b, (EReal.coe_sub a b).symm⟩

theorem IsR.sum {ι : Type} (t : Finset ι) (f : ι → EReal) (h : ∀ i, IsR (f i)) : IsR (∑ i ∈ t, f i) := by
  classical
  induction t using Finset.induction_on with
  | empty => exact ⟨0, by simp⟩
  | insert a t ha ih => rw [Finset.sum_insert ha]; exact (h a).add ih

theorem IsR.of_ne {x : EReal} (h1 : x ≠ ⊤) (h2 : x ≠ ⊥) : IsR x := ⟨x.toReal, (EReal.coe_toReal h1 h2).symm⟩

theorem IsR.ne_top {x : EReal} : IsR x → x ≠ ⊤ := by rintro ⟨a, rfl⟩; exact EReal.coe_ne_top a
theorem IsR.ne_bot {x : EReal} : IsR x → x ≠ ⊥ := by rintro ⟨a, rfl⟩; exact EReal.coe_ne_bot a

/-- The scale is finite. -/
theorem scl_real : IsR scl := by
  unfold scl
  simp [Ideal.ofBits, Ideal.ieee]
  exact ⟨_, rfl⟩

theorem nInf_eq : nInf = ⊥ := by
  unfold nInf
  simp [Ideal.ofBits, Ideal.ieee]

theorem top_real (s : Fin 256 → EReal) (hs : ∀ j, IsR (s j)) : IsR (top s) := by
  unfold top
  rw [nInf_eq]
  refine IsR.of_ne (ne_of_lt ?_) (ne_of_gt ?_)
  · exact (Finset.fold_max_lt _).mpr ⟨bot_lt_top, fun j _ => lt_top_iff_ne_top.mpr (hs j).ne_top⟩
  · exact (Finset.lt_fold_max _).mpr (.inr ⟨0, Finset.mem_univ _, bot_lt_iff_ne_bot.mpr (hs 0).ne_bot⟩)

/-- An exponential of a finite row is a positive real. -/
theorem ex_pos (s : Fin 256 → EReal) (hs : ∀ j, IsR (s j)) (j : Fin 256) : ∃ r : ℝ, 0 < r ∧ ex s j = r := by
  obtain ⟨a, ha⟩ := (hs j).sub (top_real s hs)
  refine ⟨Real.exp a, Real.exp_pos a, ?_⟩
  unfold ex
  rw [ha]
  rfl

theorem sum_mul_of {ι : Type} (t : Finset ι) (f : ι → EReal) {x : EReal} (h0 : 0 ≤ x) (h1 : x ≠ ⊤) :
    ∑ i ∈ t, f i * x = (∑ i ∈ t, f i) * x := by
  classical
  induction t using Finset.induction_on with
  | empty => simp
  | insert a t ha ih => rw [Finset.sum_insert ha, Finset.sum_insert ha, ih, EReal.right_distrib_of_nonneg_of_ne_top h0 h1]

/-- Dividing first and dividing last agree on a finite row. -/
theorem smx_sum (s v : Fin 256 → EReal) (hs : ∀ j, IsR (s j)) :
    ∑ j : Fin 256, smx s j * v j = Ideal.div (∑ j : Fin 256, v j * ex s j) (∑ k : Fin 256, ex s k) := by
  choose p hp he using ex_pos s hs
  have hL : ∑ k : Fin 256, ex s k = ((∑ k : Fin 256, p k : ℝ) : EReal) := by
    rw [Finset.sum_congr rfl fun k _ => he k]
    exact (map_sum (⟨⟨Real.toEReal, EReal.coe_zero⟩, EReal.coe_add⟩ : ℝ →+ EReal) p Finset.univ).symm
  have h0 : 0 < ∑ k : Fin 256, p k := Finset.sum_pos (fun k _ => hp k) ⟨0, Finset.mem_univ _⟩
  have hn : ((∑ k : Fin 256, p k : ℝ) : EReal) ≠ 0 := by
    intro h
    exact absurd (EReal.coe_eq_zero.mp h) (ne_of_gt h0)
  have hi : (((∑ k : Fin 256, p k : ℝ) : EReal))⁻¹ = (((∑ k : Fin 256, p k)⁻¹ : ℝ) : EReal) := (EReal.coe_inv _).symm
  have hd : ∀ x, Ideal.div x (∑ k : Fin 256, ex s k) = x * (((∑ k : Fin 256, p k)⁻¹ : ℝ) : EReal) := fun x => by
    rw [hL, Ideal.div, if_neg hn, hi]
  unfold smx
  rw [hd, ← sum_mul_of _ _ (EReal.coe_nonneg.mpr (le_of_lt (inv_pos.mpr h0))) (EReal.coe_ne_top _)]
  refine Finset.sum_congr rfl fun j _ => ?_
  rw [hd, mul_comm, mul_assoc]

end Cert.KernelIdeal.Net

end
-- ==== Proof.RefVal.lean ====
/-
# The reference over the extended reals

The reference's result at an index: for every head a softmax over the rows, the values weighed and divided, and the
product with the output projection summed over all heads at once.
-/
module

public import proofs.«01_k».proof.Proof.Softmax
public import proofs.«01_k».proof.Proof.Gen.ReferenceIdeal.Read
public import Idealize.ShloMosaic.Lib.KernelVsHost

@[expose] public section

noncomputable section

open scoped BigOperators

namespace Cert.ReferenceIdeal.Whole

open Cert.ReferenceIdeal Cert.ReferenceIdeal.Gen Cert.ReferenceIdeal.Read
open Cert.KernelIdeal.Net (top ex smx scl nInf bRow IsR smx_sum nInf_eq scl_real)
open Idealize.ShloMosaic
open Idealize.ShloMosaic.TcCoe
open Idealize.ShloMosaic.ValueIdx

/-- Column `d` of head `H` among all the heads. -/
def gc (H : Fin 256) (d : Fin 128) : Fin 32768 := ⟨128 * H.val + d.val, by omega⟩

/-- A projection by the whole weights. -/
def rp (x : (⟨S1024x1024, .bf16⟩ : BufTy).Contents (Elt Ideal)) (w : (⟨S1024x32768, .bf16⟩ : BufTy).Contents (Elt Ideal))
    (r : Fin 1024) (k : Fin 32768) : EReal := ∑ e : Fin 1024, (x (ix2 r e) : EReal) * (w (ix2 e k) : EReal)

variable (x : (⟨S1024x1024, .bf16⟩ : BufTy).Contents (Elt Ideal)) (wq wk wv : (⟨S1024x32768, .bf16⟩ : BufTy).Contents (Elt Ideal))
  (wo : (⟨S32768x1024, .bf16⟩ : BufTy).Contents (Elt Ideal))

/-- The scores of a row. -/
def rscr (b : Fin 4) (H r j : Fin 256) : EReal :=
  (∑ d : Fin 128, rp x wq (bRow b r) (gc H d) * rp x wk (bRow b j) (gc H d)) * scl

theorem v1_at (b : Fin 4) (r : Fin 256) (e : Fin 1024) : val_main_v1 (F := Ideal) x (ix3 b r e) = x (ix2 (bRow b r) e) := by
  rw [val_main_v1_apply, val_main_v0_apply]
  refine congrArg x (funext fun a => Fin.ext ?_)
  match a with
  | ⟨0, _⟩ => show ((b.val * 256 + r.val) * 1024 + e.val) / 1024 = 256 * b.val + r.val; omega
  | ⟨1, _⟩ => show ((b.val * 256 + r.val) * 1024 + e.val) % 1024 = e.val; omega

theorem v6_at (b : Fin 4) (r : Fin 256) (k : Fin 32768) : val_main_v6 (F := Ideal) x wq (ix3 b r k) = rp x wq (bRow b r) k := by
  rw [val_main_v6_apply]
  refine Finset.sum_congr rfl fun e _ => ?_
  rw [show lidx_main_v6 (ix3 b r k) e = ix3 b r e from funext fun a => by match a with | ⟨0, _⟩ => rfl | ⟨1, _⟩ => rfl | ⟨2, _⟩ => rfl,
    show ridx_main_v6 (ix3 b r k) e = ix2 e k from funext fun a => by match a with | ⟨0, _⟩ => rfl | ⟨1, _⟩ => rfl, v1_at]
  rfl

/-- The heads' columns, split off a row. -/
theorem split_at (b : Fin 4) (r H : Fin 256) (d : Fin 128) : idx_main_v7 (ix4 b r H d) = ix3 b r (gc H d) := funext fun a => Fin.ext (by
  match a with
  | ⟨0, _⟩ => show (((b.val * 256 + r.val) * 256 + H.val) * 128 + d.val) / 8388608 = b.val; omega
  | ⟨1, _⟩ => show (((b.val * 256 + r.val) * 256 + H.val) * 128 + d.val) / 32768 % 256 = r.val; omega
  | ⟨2, _⟩ => show (((b.val * 256 + r.val) * 256 + H.val) * 128 + d.val) % 32768 = 128 * H.val + d.val; omega)

theorem v7_at (b : Fin 4) (r H : Fin 256) (d : Fin 128) : val_main_v7 (F := Ideal) x wq (ix4 b r H d) = rp x wq (bRow b r) (gc H d) := by
  rw [val_main_v7_apply, split_at, v6_at]

theorem v9_at (b : Fin 4) (r H : Fin 256) (d : Fin 128) : val_main_v9 (F := Ideal) x wk (ix4 b r H d) = rp x wk (bRow b r) (gc H d) :=
  v7_at x wk b r H d

theorem v11_at (b : Fin 4) (r H : Fin 256) (d : Fin 128) : val_main_v11 (F := Ideal) x wv (ix4 b r H d) = rp x wv (bRow b r) (gc H d) :=
  v7_at x wv b r H d

theorem v17_at (b : Fin 4) (H r j : Fin 256) : val_main_v17 (F := Ideal) x wq wk (ix4 b H r j) = rscr x wq wk b H r j := by
  rw [val_main_v17_apply, val_main_v15_apply, val_main_v16_apply]
  refine congrArg (· * scl) (Finset.sum_congr rfl fun d _ => ?_)
  rw [show lidx_main_v15 (ix4 b H r j) d = ix4 b r H d from funext fun a => by match a with | ⟨0, _⟩ => rfl | ⟨1, _⟩ => rfl | ⟨2, _⟩ => rfl | ⟨3, _⟩ => rfl,
    show ridx_main_v15 (ix4 b H r j) d = ix4 b j H d from funext fun a => by match a with | ⟨0, _⟩ => rfl | ⟨1, _⟩ => rfl | ⟨2, _⟩ => rfl | ⟨3, _⟩ => rfl,
    v7_at, v9_at]

theorem red3 : S4x256x256x256.Reduces [3] S4x256x256 := by decide

theorem max_at (y : FVec Ideal S4x256x256x256 .f32) (b : Fin 4) (H r : Fin 256) :
    Host.reduce FloatOps.maximumf y (constant S_ .f32 0xFF800000#32) reducesTo_S4x256x256x256_S4x256x256_d3 h_S_ (ix3 b H r)
      = top fun k => y (ix4 b H r k) := by
  have h := hostReduce_maximumf_eq_multiReduction (F := Ideal) (φ := .f32) (u := S_) y 0xFF800000#32
    reducesTo_S4x256x256x256_S4x256x256_d3 h_S_ red3 (.inl rfl) rfl
  rw [h]
  refine (Ideal.multiReduction_maximumf_single _ _ _ _ _ _).trans ?_
  refine congrArg (Finset.fold max _ · _) (funext fun k => congrArg y (funext fun a => Fin.ext ?_))
  match a with
  | ⟨0, _⟩ => rfl
  | ⟨1, _⟩ => rfl
  | ⟨2, _⟩ => rfl
  | ⟨3, _⟩ => rfl

theorem v18_at (b : Fin 4) (H r : Fin 256) : val_main_v18 (F := Ideal) x wq wk (ix3 b H r) = top (rscr x wq wk b H r) := by
  unfold val_main_v18
  refine (max_at _ b H r).trans (congrArg top (funext fun k => v17_at x wq wk b H r k))

theorem v20_at (b : Fin 4) (H r : Fin 256) : val_main_v20 (F := Ideal) x wq wk (ix4 b H r 0) = top (rscr x wq wk b H r) := by
  rw [val_main_v20_apply, val_main_v13_apply, val_main_v19_apply,
    show idx_main_v19 (ix4 b H r 0) = ix3 b H r from funext fun a => by match a with | ⟨0, _⟩ => rfl | ⟨1, _⟩ => rfl | ⟨2, _⟩ => rfl, v18_at]
  show max nInf _ = _
  rw [nInf_eq]
  exact max_bot_left _

theorem v25_at (b : Fin 4) (H r j : Fin 256) : val_main_v25 (F := Ideal) x wq wk (ix4 b H r j) = ex (rscr x wq wk b H r) j := by
  rw [val_main_v25_apply, val_main_v24_apply, v17_at, val_main_v23_apply,
    show idx_main_v23 (ix4 b H r j) = ix4 b H r 0 from funext fun a => by match a with | ⟨0, _⟩ => rfl | ⟨1, _⟩ => rfl | ⟨2, _⟩ => rfl | ⟨3, _⟩ => rfl,
    v20_at]
  rfl

theorem v29_at (b : Fin 4) (H r : Fin 256) : val_main_v29 (F := Ideal) x wq wk (ix4 b H r 0) = ∑ k : Fin 256, ex (rscr x wq wk b H r) k := by
  rw [val_main_v29_apply, val_main_v26_apply, val_main_v14_apply, val_main_cst_1_apply, val_main_v28_apply, val_main_v27_apply, val_main_cst_4_apply]
  show Ideal.ofBits .f32 0x00000000#32 * _ + (Ideal.ofBits .f32 0x00000000#32 + _) = _
  rw [Ideal.ofBits_zero_f32, zero_mul, zero_add, zero_add]
  refine Finset.sum_congr rfl fun k _ => ?_
  refine Eq.trans (congrArg (val_main_v25 (F := Ideal) x wq wk) (funext fun a => ?_)) (v25_at x wq wk b H r k)
  match a with | ⟨0, _⟩ => rfl | ⟨1, _⟩ => rfl | ⟨2, _⟩ => rfl | ⟨3, _⟩ => rfl

theorem v35_at (b : Fin 4) (r H : Fin 256) (d : Fin 128) : val_main_v35 (F := Ideal) x wq wk wv (ix4 b r H d)
    = ∑ j : Fin 256, rp x wv (bRow b j) (gc H d) * ex (rscr x wq wk b H r) j := by
  rw [val_main_v35_apply, val_main_v32_apply, val_main_v12_apply, val_main_cst_apply, val_main_v34_apply, val_main_v33_apply]
  show Ideal.ofBits .f32 0x00000000#32 * _ + _ = _
  rw [Ideal.ofBits_zero_f32, zero_mul, zero_add]
  refine Finset.sum_congr rfl fun j _ => ?_
  rw [show lidx_main_v33 (idx_main_v34 (ix4 b r H d)) j = ix4 b j H d from funext fun a => by match a with | ⟨0, _⟩ => rfl | ⟨1, _⟩ => rfl | ⟨2, _⟩ => rfl | ⟨3, _⟩ => rfl,
    show ridx_main_v33 (idx_main_v34 (ix4 b r H d)) j = ix4 b H r j from funext fun a => by match a with | ⟨0, _⟩ => rfl | ⟨1, _⟩ => rfl | ⟨2, _⟩ => rfl | ⟨3, _⟩ => rfl,
    v11_at, v25_at]

theorem v38_at (b : Fin 4) (r H : Fin 256) (d : Fin 128) : val_main_v38 (F := Ideal) x wq wk wv (ix4 b r H d)
    = Ideal.div (∑ j : Fin 256, rp x wv (bRow b j) (gc H d) * ex (rscr x wq wk b H r) j) (∑ k : Fin 256, ex (rscr x wq wk b H r) k) := by
  rw [val_main_v38_apply, v35_at, val_main_v37_apply, val_main_v36_apply,
    show idx_main_v36 (idx_main_v37 (ix4 b r H d)) = ix4 b H r 0 from funext fun a => by match a with | ⟨0, _⟩ => rfl | ⟨1, _⟩ => rfl | ⟨2, _⟩ => rfl | ⟨3, _⟩ => rfl,
    v29_at]
  rfl

/-- One head's attention in the whole. -/
def ratt (b : Fin 4) (r H : Fin 256) (d : Fin 128) : EReal :=
  ∑ j : Fin 256, smx (rscr x wq wk b H r) j * rp x wv (bRow b j) (gc H d)

/-- The projection of finite operands is finite. -/
theorem rp_real (hx : ∀ i, IsR (x i)) (hw : ∀ i, IsR (wq i)) (r : Fin 1024) (k : Fin 32768) : IsR (rp x wq r k) :=
  IsR.sum _ _ fun e => (hx _).mul (hw _)

theorem rscr_real (hx : ∀ i, IsR (x i)) (hq : ∀ i, IsR (wq i)) (hk : ∀ i, IsR (wk i)) (b : Fin 4) (H r j : Fin 256) :
    IsR (rscr x wq wk b H r j) :=
  (IsR.sum _ _ fun d => (rp_real x wq hx hq _ _).mul (rp_real x wk hx hk _ _)).mul scl_real

theorem v39_at (hx : ∀ i, IsR (x i)) (hq : ∀ i, IsR (wq i)) (hk : ∀ i, IsR (wk i)) (b : Fin 4) (r H : Fin 256) (d : Fin 128) :
    val_main_v39 (F := Ideal) x wq wk wv (ix3 b r (gc H d)) = ratt x wq wk wv b r H d := by
  rw [val_main_v39_apply, show idx_main_v39 (ix3 b r (gc H d)) = ix4 b r H d from funext fun a => Fin.ext (by
    match a with
    | ⟨0, _⟩ => show ((b.val * 256 + r.val) * 32768 + (128 * H.val + d.val)) / 8388608 = b.val; omega
    | ⟨1, _⟩ => show ((b.val * 256 + r.val) * 32768 + (128 * H.val + d.val)) / 32768 % 256 = r.val; omega
    | ⟨2, _⟩ => show ((b.val * 256 + r.val) * 32768 + (128 * H.val + d.val)) / 128 % 256 = H.val; omega
    | ⟨3, _⟩ => show ((b.val * 256 + r.val) * 32768 + (128 * H.val + d.val)) % 128 = d.val; omega), v38_at]
  exact (smx_sum _ _ (rscr_real x wq wk hx hq hk b H r)).symm

/-- The columns of all the heads, one head after another. -/
def gcEquiv : Fin 256 × Fin 128 ≃ Fin 32768 where
  toFun p := gc p.1 p.2
  invFun k := (⟨k.val / 128, by omega⟩, ⟨k.val % 128, by omega⟩)
  left_inv p := Prod.ext (Fin.ext (by show (128 * p.1.val + p.2.val) / 128 = p.1.val; omega))
    (Fin.ext (by show (128 * p.1.val + p.2.val) % 128 = p.2.val; omega))
  right_inv k := Fin.ext (by show 128 * (k.val / 128) + k.val % 128 = k.val; omega)

/-- The reference's result at an index. -/
theorem ref_at (hx : ∀ i, IsR (x i)) (hq : ∀ i, IsR (wq i)) (hk : ∀ i, IsR (wk i)) (b : Fin 4) (r : Fin 256) (o : Fin 1024) :
    val_main_v42 (F := Ideal) x wq wo wk wv (ix2 (bRow b r) o)
      = ∑ H : Fin 256, ∑ d : Fin 128, ratt x wq wk wv b r H d * (wo (ix2 (gc H d) o) : EReal) := by
  rw [val_main_v42_apply, val_main_v41_apply, show idx_main_v41 (ix2 (bRow b r) o) = ix3 b r o from funext fun a => Fin.ext (by
    match a with
    | ⟨0, _⟩ => show ((256 * b.val + r.val) * 1024 + o.val) / 262144 = b.val; omega
    | ⟨1, _⟩ => show ((256 * b.val + r.val) * 1024 + o.val) / 1024 % 256 = r.val; omega
    | ⟨2, _⟩ => show ((256 * b.val + r.val) * 1024 + o.val) % 1024 = o.val; omega)]
  show val_main_v40 (F := Ideal) x wq wo wk wv (ix3 b r o) = _
  rw [val_main_v40_apply, ← Equiv.sum_comp gcEquiv, Fintype.sum_prod_type]
  refine Finset.sum_congr rfl fun H _ => Finset.sum_congr rfl fun d _ => ?_
  rw [show lidx_main_v40 (ix3 b r o) (gcEquiv (H, d)) = ix3 b r (gc H d) from funext fun a => by match a with | ⟨0, _⟩ => rfl | ⟨1, _⟩ => rfl | ⟨2, _⟩ => rfl,
    show ridx_main_v40 (ix3 b r o) (gcEquiv (H, d)) = ix2 (gc H d) o from funext fun a => by match a with | ⟨0, _⟩ => rfl | ⟨1, _⟩ => rfl,
    v39_at x wq wk wv hx hq hk]
  rfl

end Cert.ReferenceIdeal.Whole

end
-- ==== Proof.Value.lean ====
/-
# The kernel's result is the reference's

The finished result, read at an index: the sum over the devices, and over each device's heads, of a head's share. With each
device holding its block of the whole weights, that is the reference's sum over all the heads.
-/
module

public import proofs.«01_k».proof.Proof.Butterfly
public import proofs.«01_k».proof.Proof.RefVal
public import proofs.«01_k».proof.Proof.Run
public import proofs.«01_k».proof.Defs
public import Idealize.ShloMosaic.Lib.Layout

@[expose] public section

noncomputable section

open scoped BigOperators

namespace Cert.KernelIdeal.Net

open Cert.KernelIdeal Cert.KernelIdeal.Gen
open Idealize.ShloMosaic
open Idealize.ShloMosaic.TcCoe
open Idealize.ShloMosaic.ValueIdx
open Idealize.SL.Sem

variable (m : (ℓ : Loc nD τ sig) → Buf (Elt Ideal) ℓ)

/-! ## The operands and the result are whole arrays -/

theorem opX_eq (c : Dev nD) : opX m c = m ((c : Thread nD τ).loc main_arg0) := by
  have hz : (fun a => win0_0.index (0 : Fin 1) a * main_arg0.ty.shape.size a) = fun _ => 0 := funext fun a => by fin_cases a <;> rfl
  exact Memref.read_access_unit_zero (Elt Ideal) main_arg0 hz (fun a => by rw [congrFun hz a]; simp) _
theorem opWq_eq (c : Dev nD) : opWq m c = m ((c : Thread nD τ).loc main_arg1) := by
  have hz : (fun a => win0_1.index (0 : Fin 1) a * main_arg1.ty.shape.size a) = fun _ => 0 := funext fun a => by fin_cases a <;> rfl
  exact Memref.read_access_unit_zero (Elt Ideal) main_arg1 hz (fun a => by rw [congrFun hz a]; simp) _
theorem opWo_eq (c : Dev nD) : opWo m c = m ((c : Thread nD τ).loc main_arg2) := by
  have hz : (fun a => win0_2.index (0 : Fin 1) a * main_arg2.ty.shape.size a) = fun _ => 0 := funext fun a => by fin_cases a <;> rfl
  exact Memref.read_access_unit_zero (Elt Ideal) main_arg2 hz (fun a => by rw [congrFun hz a]; simp) _
theorem opWk_eq (c : Dev nD) : opWk m c = m ((c : Thread nD τ).loc main_arg3) := by
  have hz : (fun a => win0_3.index (0 : Fin 1) a * main_arg3.ty.shape.size a) = fun _ => 0 := funext fun a => by fin_cases a <;> rfl
  exact Memref.read_access_unit_zero (Elt Ideal) main_arg3 hz (fun a => by rw [congrFun hz a]; simp) _
theorem opWv_eq (c : Dev nD) : opWv m c = m ((c : Thread nD τ).loc main_arg4) := by
  have hz : (fun a => win0_4.index (0 : Fin 1) a * main_arg4.ty.shape.size a) = fun _ => 0 := funext fun a => by fin_cases a <;> rfl
  exact Memref.read_access_unit_zero (Elt Ideal) main_arg4 hz (fun a => by rw [congrFun hz a]; simp) _

theorem woRow_apply (c : Dev nD) (h : Fin 8) (d : Fin 128) (o : Fin 1024) :
    woRow m c h (ix2 d o) = m ((c : Thread nD τ).loc main_arg2) (ix2 (hCol h d) o) := by
  unfold woRow
  rw [opWo_eq]
  show m ((c : Thread nD τ).loc main_arg2) ((rWo h).emb (ix2 d o)) = _
  refine congrArg (m ((c : Thread nD τ).loc main_arg2)) (funext fun a => Fin.ext ?_)
  match a with
  | ⟨0, _⟩ => show 128 * h.val + 1 * d.val = 128 * h.val + d.val; omega
  | ⟨1, _⟩ => show 0 + 1 * o.val = o.val; omega

theorem flushed_eq (ρ : Dev nD → PrngReg) (c : Dev nD) (t : Fin cfg0.N) :
    (dats m ρ 0 c).flushed (5 : Fin 6) t = (win0_5.blk t).view.read (Elt Ideal) (fin m) := by
  obtain rfl := fin_N t
  have hz : (fun a => win0_5.index (0 : Fin 1) a * main_v1.ty.shape.size a) = fun _ => 0 := funext fun a => by fin_cases a <;> rfl
  exact (Memref.read_access_unit_zero (Elt Ideal) main_v1 hz (fun a => by rw [congrFun hz a]; simp) (fin m)).symm

theorem cover (i : S1024x1024.Idx) : ∃ t : Fin cfg0.N, (cfg0.win (5 : Fin 6)).flush t = true ∧ i ∈ ((cfg0.win (5 : Fin 6)).blk t).view.set := by
  refine ⟨t₀, flush0_5 _, ?_⟩
  show i ∈ ((View.whole main_v1).slice (win0_5.rect (0 : Fin 1))).set
  rw [View.set_slice_whole, Rect.mem_set_unit]
  have e : ∀ a, win0_5.index (0 : Fin 1) a * win0_5.size a = 0 ∧ win0_5.xsize (grid0.coords (0 : Fin 1)) a = S1024x1024.size a := by
    decide +kernel
  intro a
  show win0_5.index (0 : Fin 1) a * win0_5.size a ≤ (i a : Nat) ∧ (i a : Nat) < win0_5.index (0 : Fin 1) a * win0_5.size a + win0_5.xsize (grid0.coords (0 : Fin 1)) a
  rw [(e a).1, (e a).2, Nat.zero_add]
  exact ⟨Nat.zero_le _, (i a).isLt⟩

/-- The result array ends holding the finished result. -/
theorem final_out (ρ : Dev nD → PrngReg) (c : Dev nD) : finalA m ρ c (5 : Fin 6) = fin m :=
  (dats m ρ 0 c).arrAt_eq_of_cover (5 : Fin 6) (fin m) (fun t _ => flushed_eq m ρ c t) cover

/-! ## The result at an index -/

theorem watt_apply (c : Dev nD) (b : Fin 4) (r : Fin 256) (o : Fin 1024) : watt m c (ix2 (bRow b r) o)
    = ∑ h : Fin 8, hd b (opX m c) (opWq m c) (opWk m c) (opWv m c) (woRow m c) h (ix2 r o) := by
  rw [← attB_apply]
  have hb : (⟨(bRow b r).val / 256, by have := (bRow b r).isLt; omega⟩ : Fin 4) = b := Fin.ext (by show (256 * b.val + r.val) / 256 = b.val; omega)
  have key : ∀ (b' : Fin 4) (j : S256x1024.Idx), b' = b → j = ix2 r o → part m c b' j = part m c b (ix2 r o) := by
    rintro _ _ rfl rfl; rfl
  refine key _ _ hb (funext fun a => Fin.ext ?_)
  match a with
  | ⟨0, _⟩ => show (256 * b.val + r.val) - 256 * ((256 * b.val + r.val) / 256) = r.val; omega
  | ⟨1, _⟩ => show o.val - 0 = o.val; omega

/-! ## The devices' blocks of the whole operands -/

open Cert.ReferenceIdeal.Whole (gc rp ratt rscr ref_at)

/-- Head `h` of device `c` among all the heads. -/
def headOf : Dev nD × Fin 8 ≃ Fin 256 where
  toFun p := ⟨8 * p.1.val + p.2.val, by have : p.1.val < 32 := p.1.isLt; omega⟩
  invFun k := (⟨k.val / 8, by show k.val / 8 < 32; omega⟩, ⟨k.val % 8, by omega⟩)
  left_inv p := Prod.ext (Fin.ext (by show (8 * p.1.val + p.2.val) / 8 = p.1.val; omega))
    (Fin.ext (by show (8 * p.1.val + p.2.val) % 8 = p.2.val; omega))
  right_inv k := Fin.ext (by show 8 * (k.val / 8) + k.val % 8 = k.val; omega)

/-- The columns of the weights, device by device. -/
abbrev colBlock (c : Dev nD) (w : (⟨2, ![1024, 32768]⟩ : Shape).Idx → EReal) : S1024x1024.Idx → EReal :=
  Layout.block ⟨2, ![1024, 1024]⟩ ⟨2, ![1024, 32768]⟩ 1 32 c w
/-- The rows of the output projection, device by device. -/
abbrev rowBlock (c : Dev nD) (w : (⟨2, ![32768, 1024]⟩ : Shape).Idx → EReal) : S1024x1024.Idx → EReal :=
  Layout.block ⟨2, ![1024, 1024]⟩ ⟨2, ![32768, 1024]⟩ 0 32 c w

theorem colBlock_apply (c : Dev nD) (w : (⟨2, ![1024, 32768]⟩ : Shape).Idx → EReal) (e : Fin 1024) (h : Fin 8) (d : Fin 128) :
    colBlock c w (ix2 e (hCol h d)) = w (ix2 e (gc (headOf (c, h)) d)) := by
  refine congrArg w (funext fun a => Fin.ext ?_)
  match a with
  | ⟨0, _⟩ => rfl
  | ⟨1, _⟩ => show c.val * 1024 + (128 * h.val + d.val) = 128 * (8 * c.val + h.val) + d.val; omega

theorem rowBlock_apply (c : Dev nD) (w : (⟨2, ![32768, 1024]⟩ : Shape).Idx → EReal) (h : Fin 8) (d : Fin 128) (o : Fin 1024) :
    rowBlock c w (ix2 (hCol h d) o) = w (ix2 (gc (headOf (c, h)) d) o) := by
  refine congrArg w (funext fun a => Fin.ext ?_)
  match a with
  | ⟨0, _⟩ => show c.val * 1024 + (128 * h.val + d.val) = 128 * (8 * c.val + h.val) + d.val; omega
  | ⟨1, _⟩ => rfl

/-- A projection by a device's block is the whole projection at the device's columns. -/
theorem proj_block (c : Dev nD) (x : S1024x1024.Idx → EReal) (w : (⟨2, ![1024, 32768]⟩ : Shape).Idx → EReal) (r : Fin 1024) (h : Fin 8)
    (d : Fin 128) : projP (F := Ideal) x (colBlock c w) (ix2 r (hCol h d)) = rp x w r (gc (headOf (c, h)) d) := by
  rw [proj_apply]
  exact Finset.sum_congr rfl fun e _ => congrArg (x (ix2 r e) * ·) (colBlock_apply c w e h d)

theorem scr_block (c : Dev nD) (x : S1024x1024.Idx → EReal) (q k : (⟨2, ![1024, 32768]⟩ : Shape).Idx → EReal) (b : Fin 4) (h : Fin 8)
    (r : Fin 256) : scr x (colBlock c q) (colBlock c k) b h r = rscr x q k b (headOf (c, h)) r := by
  funext j
  exact congrArg (· * scl) (Finset.sum_congr rfl fun d _ => congrArg₂ (· * ·) (proj_block c x q _ h d) (proj_block c x k _ h d))

/-- The finished result is the reference's. -/
theorem fin_eq (x : S1024x1024.Idx → EReal) (q k v : (⟨2, ![1024, 32768]⟩ : Shape).Idx → EReal)
    (o : (⟨2, ![32768, 1024]⟩ : Shape).Idx → EReal)
    (h0 : ∀ c : Dev nD, m ((c : Thread nD τ).loc main_arg0) = x) (h1 : ∀ c : Dev nD, m ((c : Thread nD τ).loc main_arg1) = colBlock c q)
    (h2 : ∀ c : Dev nD, m ((c : Thread nD τ).loc main_arg2) = rowBlock c o) (h3 : ∀ c : Dev nD, m ((c : Thread nD τ).loc main_arg3) = colBlock c k)
    (h4 : ∀ c : Dev nD, m ((c : Thread nD τ).loc main_arg4) = colBlock c v)
    (hx : ∀ i, IsR (x i)) (hq : ∀ i, IsR (q i)) (hk : ∀ i, IsR (k i)) :
    fin m = Cert.ReferenceIdeal.Read.val_main_v42 (F := Ideal) x q o k v := by
  funext i
  have i0 : (i 0).val < 1024 := (i 0).isLt
  have i1 : (i 1).val < 1024 := (i 1).isLt
  obtain ⟨b, r, l, rfl⟩ : ∃ (b : Fin 4) (r : Fin 256) (l : Fin 1024), i = ix2 (bRow b r) l :=
    ⟨⟨(i 0).val / 256, by omega⟩, ⟨(i 0).val % 256, by omega⟩, ⟨(i 1).val, i1⟩, funext fun a => Fin.ext (by
      match a with
      | ⟨0, _⟩ => show (i 0).val = 256 * ((i 0).val / 256) + (i 0).val % 256; omega
      | ⟨1, _⟩ => rfl)⟩
  refine Eq.trans ?_ (ref_at x q k v o hx hq hk b r l).symm
  rw [fin_apply, ← Equiv.sum_comp headOf, Fintype.sum_prod_type]
  refine Finset.sum_congr rfl fun c _ => (watt_apply m c b r l).trans (Finset.sum_congr rfl fun h _ => ?_)
  rw [hd_apply, opX_eq, opWq_eq, opWk_eq, opWv_eq, h0, h1, h3, h4]
  refine Finset.sum_congr rfl fun d _ => ?_
  refine congrArg₂ (· * ·) (Finset.sum_congr rfl fun j _ => ?_) ?_
  · rw [scr_block]
    exact congrArg (smx _ j * ·) (proj_block c x v _ h d)
  · rw [woRow_apply, h2]
    exact rowBlock_apply c o h d l

/-! ## Finite operands -/

theorem real_of_lt (a : EReal) (h : Ideal.cmp .olt (max a (-a)) (Ideal.ofBits .f32 0x7F800000#32) = 1#1) : IsR a := by
  have ht : Ideal.ofBits .f32 0x7F800000#32 = ⊤ := by simp [Ideal.ofBits, Ideal.ieee]
  rw [ht] at h
  have hl : max a (-a) < ⊤ := by
    by_contra hn
    simp [Ideal.cmp, hn] at h
  refine IsR.of_ne (fun e => ?_) (fun e => ?_)
  · subst e; simp at hl
  · subst e; simp at hl

/-- What a whole operand's blocks are, the operand is: every index lies in some device's block. -/
theorem real_of_cols (w : (⟨2, ![1024, 32768]⟩ : Shape).Idx → EReal) (h : ∀ (c : Dev nD) i, IsR (colBlock c w i)) : ∀ i, IsR (w i) := by
  intro i
  have i0 : (i 0).val < 1024 := (i 0).isLt
  have i1 : (i 1).val < 32768 := (i 1).isLt
  have := h ⟨(i 1).val / 1024, by show _ < 32; omega⟩ (ix2 ⟨(i 0).val, i0⟩ ⟨(i 1).val % 1024, by omega⟩)
  refine Eq.mp (congrArg (fun j => IsR (w j)) (funext fun a => Fin.ext ?_)) this
  match a with
  | ⟨0, _⟩ => rfl
  | ⟨1, _⟩ => show (i 1).val / 1024 * 1024 + (i 1).val % 1024 = (i 1).val; omega

end Cert.KernelIdeal.Net

namespace Cert

open Idealize.ShloMosaic

variable [Cert.Pre_finite_KernelIdeal.Facts]

/-- The precondition says that the rows and the weights of the scores are finite. -/
theorem pre_real (m : (ℓ : Loc KernelIdeal.nD KernelIdeal.τ KernelIdeal.sig) → Buf (Elt Ideal) ℓ) (h : Pre_KernelIdeal_finite_KernelIdeal m)
    (c : Dev KernelIdeal.nD) :
    (∀ i, KernelIdeal.Net.IsR (m ((c.tc : Thread KernelIdeal.nD KernelIdeal.τ).loc KernelIdeal.main_arg0) i))
    ∧ (∀ i, KernelIdeal.Net.IsR (m ((c.tc : Thread KernelIdeal.nD KernelIdeal.τ).loc KernelIdeal.main_arg1) i))
    ∧ (∀ i, KernelIdeal.Net.IsR (m ((c.tc : Thread KernelIdeal.nD KernelIdeal.τ).loc KernelIdeal.main_arg3) i)) :=
  ⟨fun i => KernelIdeal.Net.real_of_lt _ (congrFun (h c).1 i), fun i => KernelIdeal.Net.real_of_lt _ (congrFun (h c).2.1 i),
    fun i => KernelIdeal.Net.real_of_lt _ (congrFun (h c).2.2 i)⟩

end Cert

end
-- ==== Proof.lean ====
/- The certificate's claim: the printed kernel and its ideal twin run without fault, leave their arguments and end with
   every semaphore at zero, as does the reference; and on every device the ideal kernel's result is the reference's. The
   modules under Proof/ hold the exchange's schedule and its run (Net to Run), what one head gives (Heads, HeadVal,
   Softmax), the sum over the devices (Butterfly), the reference at an index (RefVal) and the equation (Value). -/
module

public import proofs.«01_k».proof.Defs
public import proofs.«01_k».proof.Proof.KRun
public import proofs.«01_k».proof.Proof.Run
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The printed kernel runs, its arguments stay, every semaphore ends at zero. -/
theorem quiescent_kernel : quiescent_Kernel := fun m g _ =>
  (θ_run _ _ _).mono (fun _ h => ⟨fun c =>
    ⟨(h.1 c 0).trans (Kernel.Net.finalA_in m g c 0 (by decide)), (h.1 c 1).trans (Kernel.Net.finalA_in m g c 1 (by decide)),
      (h.1 c 2).trans (Kernel.Net.finalA_in m g c 2 (by decide)), (h.1 c 3).trans (Kernel.Net.finalA_in m g c 3 (by decide)),
      (h.1 c 4).trans (Kernel.Net.finalA_in m g c 4 (by decide))⟩, h.2⟩) (Kernel.Net.run_main m g)

/-- So does its idealization. -/
theorem quiescent_ideal : quiescent_KernelIdeal := fun m g _ =>
  (θ_run _ _ _).mono (fun _ h => ⟨fun c =>
    ⟨(h.1 c 0).trans (KernelIdeal.Net.finalA_in m g c 0 (by decide)), (h.1 c 1).trans (KernelIdeal.Net.finalA_in m g c 1 (by decide)),
      (h.1 c 2).trans (KernelIdeal.Net.finalA_in m g c 2 (by decide)), (h.1 c 3).trans (KernelIdeal.Net.finalA_in m g c 3 (by decide)),
      (h.1 c 4).trans (KernelIdeal.Net.finalA_in m g c 4 (by decide))⟩, h.2⟩) (KernelIdeal.Net.run_main m g)

/-- The reference runs; it has no semaphore. -/
theorem quiescent_ref : quiescent_ReferenceIdeal := fun m g _ =>
  (θ_run _ _ _).mono (fun r h => ⟨fun c => (h c).2, funext fun s => by
    rcases s with ⟨_, s | s⟩
    · exact absurd s.isLt (Nat.not_lt_zero _)
    · exact absurd s.isLt (Nat.not_lt_zero _)⟩) (ReferenceIdeal.Value.run m g)

theorem pre_facts : Cert.Pre_finite_KernelIdeal.Facts := ⟨by decide, by decide⟩

/-- The kernel's result is the reference's, on every device. -/
theorem algebraic [hPre : Cert.Pre_finite_KernelIdeal.Facts] : algebraic_KernelIdeal_ReferenceIdeal_pre_finite_KernelIdeal := by
  intro m g m' g' hpre hblk
  have hr := Cert.pre_real m hpre
  have hx := (hr 0).1
  rw [(hblk 0).1] at hx
  have hq := KernelIdeal.Net.real_of_cols (m' (((0 : Dev Cert.ReferenceIdeal.nD).tc : Thread Cert.ReferenceIdeal.nD Cert.ReferenceIdeal.τ).loc Cert.ReferenceIdeal.main_arg1))
    fun c i => by have := (hr c).2.1 i; rw [(hblk c).2.1] at this; exact this
  have hk := KernelIdeal.Net.real_of_cols (m' (((0 : Dev Cert.ReferenceIdeal.nD).tc : Thread Cert.ReferenceIdeal.nD Cert.ReferenceIdeal.τ).loc Cert.ReferenceIdeal.main_arg3))
    fun c i => by have := (hr c).2.2 i; rw [(hblk c).2.2.2.1] at this; exact this
  have hf := KernelIdeal.Net.fin_eq m _ _ _ _ _ (fun c => (hblk c).1) (fun c => (hblk c).2.1) (fun c => (hblk c).2.2.1)
    (fun c => (hblk c).2.2.2.1) (fun c => (hblk c).2.2.2.2) hx hq hk
  refine ⟨KernelIdeal.Net.fin m, ?_, ?_⟩
  · exact (θ_run _ _ _).mono (fun _ h c =>
      ⟨(h.1 c 5).trans (KernelIdeal.Net.final_out m g c),
        (h.1 c 0).trans (KernelIdeal.Net.finalA_in m g c 0 (by decide)), (h.1 c 1).trans (KernelIdeal.Net.finalA_in m g c 1 (by decide)),
        (h.1 c 2).trans (KernelIdeal.Net.finalA_in m g c 2 (by decide)), (h.1 c 3).trans (KernelIdeal.Net.finalA_in m g c 3 (by decide)),
        (h.1 c 4).trans (KernelIdeal.Net.finalA_in m g c 4 (by decide))⟩) (KernelIdeal.Net.run_main m g)
  · exact (θ_run _ _ _).mono (fun _ h => ⟨(h 0).1.trans ((ReferenceIdeal.Read.val_main_v42_eq m' 0).trans hf.symm), (h 0).2⟩)
      (ReferenceIdeal.Value.run m' g')

theorem claim : Cert.Claim :=
  ⟨Kernel.Gen.facts, KernelIdeal.Gen.facts, ReferenceIdeal.Gen.facts, ⟨by decide, by decide⟩, ⟨by decide, by decide, by decide⟩,
    quiescent_kernel, quiescent_ideal, fun m g _ => quiescent_ideal m g trivial, quiescent_ref, fun m g _ => quiescent_ref m g trivial,
    trivial, algebraic (hPre := pre_facts)⟩

end Cert.Proof

end
